-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x128x128 : Shape := ⟨4, ![4, 1, 128, 128]⟩
abbrev S4x1x16x128 : Shape := ⟨4, ![4, 1, 16, 128]⟩
abbrev S4x8192x16x64 : Shape := ⟨4, ![4, 8192, 16, 64]⟩
abbrev S4x8192x16x8 : Shape := ⟨4, ![4, 8192, 16, 8]⟩
abbrev S_ : Shape := ⟨0, ![]⟩
abbrev S4 : Shape := ⟨1, ![4]⟩
abbrev S1 : Shape := ⟨1, ![1]⟩
abbrev S4x128x128 : Shape := ⟨3, ![4, 128, 128]⟩
abbrev S4x16x128 : Shape := ⟨3, ![4, 16, 128]⟩
abbrev S4x16x64x8192 : Shape := ⟨4, ![4, 16, 64, 8192]⟩
abbrev S4x16x8x8192 : Shape := ⟨4, ![4, 16, 8, 8192]⟩
abbrev S4x16384 : Shape := ⟨2, ![4, 16384]⟩
abbrev S16x4x64x1152 : Shape := ⟨4, ![16, 4, 64, 1152]⟩
abbrev S16x4x8x1152 : Shape := ⟨4, ![16, 4, 8, 1152]⟩
abbrev S4x8x1024 : Shape := ⟨3, ![4, 8, 1024]⟩
abbrev S128x4x128 : Shape := ⟨3, ![128, 4, 128]⟩
abbrev S16x4 : Shape := ⟨2, ![16, 4]⟩
abbrev S3 : Shape := ⟨1, ![3]⟩
abbrev S1x1 : Shape := ⟨2, ![1, 1]⟩
abbrev S1x4x64x1152 : Shape := ⟨4, ![1, 4, 64, 1152]⟩
abbrev S4x64x1152 : Shape := ⟨3, ![4, 64, 1152]⟩
abbrev S1x4x8x1152 : Shape := ⟨4, ![1, 4, 8, 1152]⟩
abbrev S4x8x1152 : Shape := ⟨3, ![4, 8, 1152]⟩
abbrev S8x1024 : Shape := ⟨2, ![8, 1024]⟩
abbrev S1x8x128 : Shape := ⟨3, ![1, 8, 128]⟩
abbrev S8x128 : Shape := ⟨2, ![8, 128]⟩
abbrev S1x1x128 : Shape := ⟨3, ![1, 1, 128]⟩
abbrev S1x128 : Shape := ⟨2, ![1, 128]⟩
abbrev S1x1x64x128 : Shape := ⟨4, ![1, 1, 64, 128]⟩
abbrev S64x128 : Shape := ⟨2, ![64, 128]⟩
abbrev S16x128 : Shape := ⟨2, ![16, 128]⟩
abbrev S1x1x64x896 : Shape := ⟨4, ![1, 1, 64, 896]⟩
abbrev S64x896 : Shape := ⟨2, ![64, 896]⟩
abbrev S16x896 : Shape := ⟨2, ![16, 896]⟩
abbrev S16x1024 : Shape := ⟨2, ![16, 1024]⟩
abbrev S16x1x1024 : Shape := ⟨3, ![16, 1, 1024]⟩
abbrev S16x8x1024 : Shape := ⟨3, ![16, 8, 1024]⟩
abbrev S128x1024 : Shape := ⟨2, ![128, 1024]⟩
abbrev S1x1x8x128 : Shape := ⟨4, ![1, 1, 8, 128]⟩
abbrev S1x1x8x896 : Shape := ⟨4, ![1, 1, 8, 896]⟩
abbrev S8x896 : Shape := ⟨2, ![8, 896]⟩
abbrev S1x8x1024 : Shape := ⟨3, ![1, 8, 1024]⟩
abbrev S1x1x1024 : Shape := ⟨3, ![1, 1, 1024]⟩
abbrev S1x1024 : Shape := ⟨2, ![1, 1024]⟩
abbrev S8 : Shape := ⟨1, ![8]⟩
abbrev S8x1 : Shape := ⟨2, ![8, 1]⟩
abbrev S8x1x128 : Shape := ⟨3, ![8, 1, 128]⟩
abbrev S1x4x128 : Shape := ⟨3, ![1, 4, 128]⟩
abbrev S4x128 : Shape := ⟨2, ![4, 128]⟩

abbrev nBuf : Space → Nat
  | .hbm => 20
  | .vmem => 13
  | .smem => 3
  | _ => 0

abbrev bufTy : (tb : Table) → Fin (tcTables nBuf tb) → BufTy
  | .hbm, ⟨0, _⟩ => ⟨S4x1x128x128, .bf16⟩
  | .hbm, ⟨1, _⟩ => ⟨S4x1x16x128, .bf16⟩
  | .hbm, ⟨2, _⟩ => ⟨S4x1x16x128, .bf16⟩
  | .hbm, ⟨3, _⟩ => ⟨S4x8192x16x64, .i8⟩
  | .hbm, ⟨4, _⟩ => ⟨S4x8192x16x64, .i8⟩
  | .hbm, ⟨5, _⟩ => ⟨S4x8192x16x8, .fp8e4m3⟩
  | .hbm, ⟨6, _⟩ => ⟨S4x8192x16x8, .fp8e4m3⟩
  | .hbm, ⟨7, _⟩ => ⟨S_, .f32⟩
  | .hbm, ⟨8, _⟩ => ⟨S_, .f32⟩
  | .hbm, ⟨9, _⟩ => ⟨S4, .i32⟩
  | .hbm, ⟨10, _⟩ => ⟨S1, .f32⟩
  | .hbm, ⟨11, _⟩ => ⟨S1, .f32⟩
  | .hbm, ⟨12, _⟩ => ⟨S4x128x128, .bf16⟩
  | .hbm, ⟨13, _⟩ => ⟨S4x16x128, .bf16⟩
  | .hbm, ⟨14, _⟩ => ⟨S4x16x128, .bf16⟩
  | .hbm, ⟨15, _⟩ => ⟨S4x16x64x8192, .i8⟩
  | .hbm, ⟨16, _⟩ => ⟨S4x16x64x8192, .i8⟩
  | .hbm, ⟨17, _⟩ => ⟨S4x16x8x8192, .fp8e4m3⟩
  | .hbm, ⟨18, _⟩ => ⟨S4x16x8x8192, .fp8e4m3⟩
  | .hbm, ⟨19, _⟩ => ⟨S4x16384, .bf16⟩
  | .local _ .vmem, ⟨0, _⟩ => ⟨S4x16384, .bf16⟩
  | .local _ .vmem, ⟨1, _⟩ => ⟨S4x128x128, .bf16⟩
  | .local _ .vmem, ⟨2, _⟩ => ⟨S4x16x128, .bf16⟩
  | .local _ .vmem, ⟨3, _⟩ => ⟨S4x16x128, .bf16⟩
  | .local _ .vmem, ⟨4, _⟩ => ⟨S4x16x128, .f32⟩
  | .local _ .vmem, ⟨5, _⟩ => ⟨S4x16x128, .f32⟩
  | .local _ .vmem, ⟨6, _⟩ => ⟨S16x4x64x1152, .i8⟩
  | .local _ .vmem, ⟨7, _⟩ => ⟨S16x4x64x1152, .i8⟩
  | .local _ .vmem, ⟨8, _⟩ => ⟨S16x4x8x1152, .fp8e4m3⟩
  | .local _ .vmem, ⟨9, _⟩ => ⟨S16x4x8x1152, .fp8e4m3⟩
  | .local _ .vmem, ⟨10, _⟩ => ⟨S4x8x1024, .f32⟩
  | .local _ .vmem, ⟨11, _⟩ => ⟨S4x8x1024, .f32⟩
  | .local _ .vmem, ⟨12, _⟩ => ⟨S128x4x128, .f32⟩
  | .local _ .smem, ⟨0, _⟩ => ⟨S4, .i32⟩
  | .local _ .smem, ⟨1, _⟩ => ⟨S1, .f32⟩
  | .local _ .smem, ⟨2, _⟩ => ⟨S1, .f32⟩
  | _, _ => ⟨S4x1x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg3_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_mult1 (v0 : BitVec 32) : BitVec 32 :=
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c7040_i32 : BitVec 32 := 7040#32
  let v22 : BitVec 32 := Scalar.minsi v21 c7040_i32
  v22

def k0_off1 (v0 : BitVec 32) : Fin 4 → Nat :=
  let c0_i32_6 : BitVec 32 := 0#32
  let c0_i32_13 : BitVec 32 := 0#32
  let c0_i32_14 : BitVec 32 := 0#32
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c7040_i32 : BitVec 32 := 7040#32
  let v22 : BitVec 32 := Scalar.minsi v21 c7040_i32
  let v23 : BitVec 32 := v22
  ![0, 0, 0, v23.toNat]
def k0_off2 (v0 : BitVec 32) : Fin 4 → Nat :=
  let c0_i32_15 : BitVec 32 := 0#32
  let c0_i32_22 : BitVec 32 := 0#32
  let c0_i32_23 : BitVec 32 := 0#32
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c7040_i32 : BitVec 32 := 7040#32
  let v22 : BitVec 32 := Scalar.minsi v21 c7040_i32
  let v23 : BitVec 32 := v22
  ![0, 0, 0, v23.toNat]

def k0_chk1 (v0 : BitVec 32) : Prop :=
  (128 ∣ (k0_mult1 v0).toNat) ∧
  (∀ a, (k0_off1 v0) a + S1x4x64x1152.size a ≤ S4x16x64x8192.size a) ∧
  (∀ (hinb : ∀ a, (k0_off1 v0) a + S1x4x64x1152.size a ≤ S4x16x64x8192.size a), (Rect.unit (s := S4x16x64x8192) (k0_off1 v0) S1x4x64x1152.size hinb).WholeWords (EltTy.packing .i8)) ∧
  (∀ a, (k0_off2 v0) a + S1x4x8x1152.size a ≤ S4x16x8x8192.size a) ∧
  (∀ (hinb : ∀ a, (k0_off2 v0) a + S1x4x8x1152.size a ≤ S4x16x8x8192.size a), (Rect.unit (s := S4x16x8x8192) (k0_off2 v0) S1x4x8x1152.size hinb).WholeWords (EltTy.packing .fp8e4m3))
theorem k0_mult1_dvd : ∀ (v0 : BitVec 32) (k0_hw1 : k0_chk1 v0), 128 ∣ (k0_mult1 v0).toNat := fun v0 k0_hw1 => k0_hw1.1
theorem k0_off1_inb : ∀ (v0 : BitVec 32) (k0_hw1 : k0_chk1 v0), ∀ a, (k0_off1 v0) a + S1x4x64x1152.size a ≤ S4x16x64x8192.size a := fun v0 k0_hw1 => k0_hw1.2.1
theorem k0_off1_wordsi8 : ∀ (v0 : BitVec 32) (k0_hw1 : k0_chk1 v0), (Rect.unit (s := S4x16x64x8192) (k0_off1 v0) S1x4x64x1152.size (k0_off1_inb v0 k0_hw1)).WholeWords (EltTy.packing .i8) := fun v0 k0_hw1 => k0_hw1.2.2.1 (k0_off1_inb v0 k0_hw1)
theorem k0_off2_inb : ∀ (v0 : BitVec 32) (k0_hw1 : k0_chk1 v0), ∀ a, (k0_off2 v0) a + S1x4x8x1152.size a ≤ S4x16x8x8192.size a := fun v0 k0_hw1 => k0_hw1.2.2.2.1
theorem k0_off2_wordsfp8e4m3 : ∀ (v0 : BitVec 32) (k0_hw1 : k0_chk1 v0), (Rect.unit (s := S4x16x8x8192) (k0_off2 v0) S1x4x8x1152.size (k0_off2_inb v0 k0_hw1)).WholeWords (EltTy.packing .fp8e4m3) := fun v0 k0_hw1 => k0_hw1.2.2.2.2 (k0_off2_inb v0 k0_hw1)

@[reducible] def k0_t1_loop : Scf.Loop 32 :=
  let c1_i32_43 : BitVec 32 := 1#32
  let c15_i32 : BitVec 32 := 15#32
  let v54 : BitVec 32 := Scalar.addi c1_i32_43 c15_i32
  let c1_i32_44 : BitVec 32 := 1#32
  ⟨c1_i32_43, v54, c1_i32_44⟩
def k0_off3 (k0_t1 : Fin k0_t1_loop.trips) : Fin 1 → Nat :=
  let c1_i32_43 : BitVec 32 := 1#32
  let c1_i32_44 : BitVec 32 := 1#32
  let arg25 : BitVec 32 := Scf.iv c1_i32_43 c1_i32_44 k0_t1
  let c0_i32_450 : BitVec 32 := 0#32
  let v585 : BitVec 1 := Scalar.cmpi .sgt arg25 c0_i32_450
  let v586 : BitVec 32 := Scalar.extui v585
  let c0_i32_451 : BitVec 32 := 0#32
  let v587 : BitVec 1 := Scalar.cmpi .slt arg25 c0_i32_451
  let v588 : BitVec 32 := Scalar.extui v587
  let v589 : BitVec 32 := Scalar.subi v586 v588
  let c4_i32 : BitVec 32 := 4#32
  let c0_i32_452 : BitVec 32 := 0#32
  let v590 : BitVec 1 := Scalar.cmpi .sgt c4_i32 c0_i32_452
  let v591 : BitVec 32 := Scalar.extui v590
  let c0_i32_453 : BitVec 32 := 0#32
  let v592 : BitVec 1 := Scalar.cmpi .slt c4_i32 c0_i32_453
  let v593 : BitVec 32 := Scalar.extui v592
  let v594 : BitVec 32 := Scalar.subi v591 v593
  let v595 : BitVec 1 := Scalar.cmpi .ne v589 v594
  let v596 : BitVec 32 := Scalar.remsi arg25 c4_i32
  let c0_i32_454 : BitVec 32 := 0#32
  let v597 : BitVec 1 := Scalar.cmpi .ne v596 c0_i32_454
  let v598 : BitVec 1 := Scalar.andi v595 v597
  let v584 : BitVec 32 := Scalar.divsi arg25 c4_i32
  let c1_i32_455 : BitVec 32 := 1#32
  let v599 : BitVec 32 := Scalar.subi v584 c1_i32_455
  let v600 : BitVec 32 := Scalar.select v598 v599 v584
  let v612 : Index := Scalar.indexCast v600
  ![v612.toNat]
def k0_mult2 (v613 : BitVec 32) : BitVec 32 :=
  let c7168_i32_465 : BitVec 32 := 7168#32
  let c0_i32_464 : BitVec 32 := 0#32
  let c1024_i32_463 : BitVec 32 := 1024#32
  let v614 : BitVec 32 := Scalar.subi v613 c1024_i32_463
  let v615 : BitVec 32 := Scalar.maxsi c0_i32_464 v614
  let v616 : BitVec 32 := Scalar.minsi c7168_i32_465 v615
  let c0_i32_467 : BitVec 32 := 0#32
  let v618 : BitVec 1 := Scalar.cmpi .sgt v616 c0_i32_467
  let v619 : BitVec 32 := Scalar.extui v618
  let c0_i32_468 : BitVec 32 := 0#32
  let v620 : BitVec 1 := Scalar.cmpi .slt v616 c0_i32_468
  let v621 : BitVec 32 := Scalar.extui v620
  let v622 : BitVec 32 := Scalar.subi v619 v621
  let c128_i32_466 : BitVec 32 := 128#32
  let c0_i32_469 : BitVec 32 := 0#32
  let v623 : BitVec 1 := Scalar.cmpi .sgt c128_i32_466 c0_i32_469
  let v624 : BitVec 32 := Scalar.extui v623
  let c0_i32_470 : BitVec 32 := 0#32
  let v625 : BitVec 1 := Scalar.cmpi .slt c128_i32_466 c0_i32_470
  let v626 : BitVec 32 := Scalar.extui v625
  let v627 : BitVec 32 := Scalar.subi v624 v626
  let v628 : BitVec 1 := Scalar.cmpi .ne v622 v627
  let v629 : BitVec 32 := Scalar.remsi v616 c128_i32_466
  let c0_i32_471 : BitVec 32 := 0#32
  let v630 : BitVec 1 := Scalar.cmpi .ne v629 c0_i32_471
  let v631 : BitVec 1 := Scalar.andi v628 v630
  let v617 : BitVec 32 := Scalar.divsi v616 c128_i32_466
  let c1_i32_472 : BitVec 32 := 1#32
  let v632 : BitVec 32 := Scalar.subi v617 c1_i32_472
  let v633 : BitVec 32 := Scalar.select v631 v632 v617
  let c128_i32_473 : BitVec 32 := 128#32
  let v634 : BitVec 32 := Scalar.muli v633 c128_i32_473
  let c7040_i32_474 : BitVec 32 := 7040#32
  let v635 : BitVec 32 := Scalar.minsi v634 c7040_i32_474
  v635

def k0_off4 (k0_t1 : Fin k0_t1_loop.trips) : Fin 2 → Nat :=
  let c1_i32_43 : BitVec 32 := 1#32
  let c1_i32_44 : BitVec 32 := 1#32
  let arg25 : BitVec 32 := Scf.iv c1_i32_43 c1_i32_44 k0_t1
  let c0_i32_475 : BitVec 32 := 0#32
  ![arg25.toNat, 0]
def k0_off5 (k0_t1 : Fin k0_t1_loop.trips) : Fin 4 → Nat :=
  let c1_i32_43 : BitVec 32 := 1#32
  let c1_i32_44 : BitVec 32 := 1#32
  let arg25 : BitVec 32 := Scf.iv c1_i32_43 c1_i32_44 k0_t1
  let c0_i32_476 : BitVec 32 := 0#32
  let c0_i32_477 : BitVec 32 := 0#32
  let c0_i32_478 : BitVec 32 := 0#32
  ![arg25.toNat, 0, 0, 0]
def k0_off6 (k0_t1 : Fin k0_t1_loop.trips) (v613 : BitVec 32) : Fin 4 → Nat :=
  let c1_i32_43 : BitVec 32 := 1#32
  let c1_i32_44 : BitVec 32 := 1#32
  let arg25 : BitVec 32 := Scf.iv c1_i32_43 c1_i32_44 k0_t1
  let c0_i32_450 : BitVec 32 := 0#32
  let v585 : BitVec 1 := Scalar.cmpi .sgt arg25 c0_i32_450
  let v586 : BitVec 32 := Scalar.extui v585
  let c0_i32_451 : BitVec 32 := 0#32
  let v587 : BitVec 1 := Scalar.cmpi .slt arg25 c0_i32_451
  let v588 : BitVec 32 := Scalar.extui v587
  let v589 : BitVec 32 := Scalar.subi v586 v588
  let c4_i32 : BitVec 32 := 4#32
  let c0_i32_452 : BitVec 32 := 0#32
  let v590 : BitVec 1 := Scalar.cmpi .sgt c4_i32 c0_i32_452
  let v591 : BitVec 32 := Scalar.extui v590
  let c0_i32_453 : BitVec 32 := 0#32
  let v592 : BitVec 1 := Scalar.cmpi .slt c4_i32 c0_i32_453
  let v593 : BitVec 32 := Scalar.extui v592
  let v594 : BitVec 32 := Scalar.subi v591 v593
  let v595 : BitVec 1 := Scalar.cmpi .ne v589 v594
  let v596 : BitVec 32 := Scalar.remsi arg25 c4_i32
  let c0_i32_454 : BitVec 32 := 0#32
  let v597 : BitVec 1 := Scalar.cmpi .ne v596 c0_i32_454
  let v598 : BitVec 1 := Scalar.andi v595 v597
  let v584 : BitVec 32 := Scalar.divsi arg25 c4_i32
  let c1_i32_455 : BitVec 32 := 1#32
  let v599 : BitVec 32 := Scalar.subi v584 c1_i32_455
  let v600 : BitVec 32 := Scalar.select v598 v599 v584
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let c0_i32_479 : BitVec 32 := 0#32
  let c7168_i32_465 : BitVec 32 := 7168#32
  let c0_i32_464 : BitVec 32 := 0#32
  let c1024_i32_463 : BitVec 32 := 1024#32
  let v614 : BitVec 32 := Scalar.subi v613 c1024_i32_463
  let v615 : BitVec 32 := Scalar.maxsi c0_i32_464 v614
  let v616 : BitVec 32 := Scalar.minsi c7168_i32_465 v615
  let c0_i32_467 : BitVec 32 := 0#32
  let v618 : BitVec 1 := Scalar.cmpi .sgt v616 c0_i32_467
  let v619 : BitVec 32 := Scalar.extui v618
  let c0_i32_468 : BitVec 32 := 0#32
  let v620 : BitVec 1 := Scalar.cmpi .slt v616 c0_i32_468
  let v621 : BitVec 32 := Scalar.extui v620
  let v622 : BitVec 32 := Scalar.subi v619 v621
  let c128_i32_466 : BitVec 32 := 128#32
  let c0_i32_469 : BitVec 32 := 0#32
  let v623 : BitVec 1 := Scalar.cmpi .sgt c128_i32_466 c0_i32_469
  let v624 : BitVec 32 := Scalar.extui v623
  let c0_i32_470 : BitVec 32 := 0#32
  let v625 : BitVec 1 := Scalar.cmpi .slt c128_i32_466 c0_i32_470
  let v626 : BitVec 32 := Scalar.extui v625
  let v627 : BitVec 32 := Scalar.subi v624 v626
  let v628 : BitVec 1 := Scalar.cmpi .ne v622 v627
  let v629 : BitVec 32 := Scalar.remsi v616 c128_i32_466
  let c0_i32_471 : BitVec 32 := 0#32
  let v630 : BitVec 1 := Scalar.cmpi .ne v629 c0_i32_471
  let v631 : BitVec 1 := Scalar.andi v628 v630
  let v617 : BitVec 32 := Scalar.divsi v616 c128_i32_466
  let c1_i32_472 : BitVec 32 := 1#32
  let v632 : BitVec 32 := Scalar.subi v617 c1_i32_472
  let v633 : BitVec 32 := Scalar.select v631 v632 v617
  let c128_i32_473 : BitVec 32 := 128#32
  let v634 : BitVec 32 := Scalar.muli v633 c128_i32_473
  let c7040_i32_474 : BitVec 32 := 7040#32
  let v635 : BitVec 32 := Scalar.minsi v634 c7040_i32_474
  let v636 : BitVec 32 := v635
  ![v600.toNat, v611.toNat, 0, v636.toNat]
def k0_off7 (k0_t1 : Fin k0_t1_loop.trips) : Fin 2 → Nat :=
  let c1_i32_43 : BitVec 32 := 1#32
  let c1_i32_44 : BitVec 32 := 1#32
  let arg25 : BitVec 32 := Scf.iv c1_i32_43 c1_i32_44 k0_t1
  let c1_i32_480 : BitVec 32 := 1#32
  ![arg25.toNat, 1]
def k0_off8 (k0_t1 : Fin k0_t1_loop.trips) : Fin 4 → Nat :=
  let c1_i32_43 : BitVec 32 := 1#32
  let c1_i32_44 : BitVec 32 := 1#32
  let arg25 : BitVec 32 := Scf.iv c1_i32_43 c1_i32_44 k0_t1
  let c0_i32_481 : BitVec 32 := 0#32
  let c0_i32_482 : BitVec 32 := 0#32
  let c0_i32_483 : BitVec 32 := 0#32
  ![arg25.toNat, 0, 0, 0]
def k0_off9 (k0_t1 : Fin k0_t1_loop.trips) (v613 : BitVec 32) : Fin 4 → Nat :=
  let c1_i32_43 : BitVec 32 := 1#32
  let c1_i32_44 : BitVec 32 := 1#32
  let arg25 : BitVec 32 := Scf.iv c1_i32_43 c1_i32_44 k0_t1
  let c0_i32_450 : BitVec 32 := 0#32
  let v585 : BitVec 1 := Scalar.cmpi .sgt arg25 c0_i32_450
  let v586 : BitVec 32 := Scalar.extui v585
  let c0_i32_451 : BitVec 32 := 0#32
  let v587 : BitVec 1 := Scalar.cmpi .slt arg25 c0_i32_451
  let v588 : BitVec 32 := Scalar.extui v587
  let v589 : BitVec 32 := Scalar.subi v586 v588
  let c4_i32 : BitVec 32 := 4#32
  let c0_i32_452 : BitVec 32 := 0#32
  let v590 : BitVec 1 := Scalar.cmpi .sgt c4_i32 c0_i32_452
  let v591 : BitVec 32 := Scalar.extui v590
  let c0_i32_453 : BitVec 32 := 0#32
  let v592 : BitVec 1 := Scalar.cmpi .slt c4_i32 c0_i32_453
  let v593 : BitVec 32 := Scalar.extui v592
  let v594 : BitVec 32 := Scalar.subi v591 v593
  let v595 : BitVec 1 := Scalar.cmpi .ne v589 v594
  let v596 : BitVec 32 := Scalar.remsi arg25 c4_i32
  let c0_i32_454 : BitVec 32 := 0#32
  let v597 : BitVec 1 := Scalar.cmpi .ne v596 c0_i32_454
  let v598 : BitVec 1 := Scalar.andi v595 v597
  let v584 : BitVec 32 := Scalar.divsi arg25 c4_i32
  let c1_i32_455 : BitVec 32 := 1#32
  let v599 : BitVec 32 := Scalar.subi v584 c1_i32_455
  let v600 : BitVec 32 := Scalar.select v598 v599 v584
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let c0_i32_484 : BitVec 32 := 0#32
  let c7168_i32_465 : BitVec 32 := 7168#32
  let c0_i32_464 : BitVec 32 := 0#32
  let c1024_i32_463 : BitVec 32 := 1024#32
  let v614 : BitVec 32 := Scalar.subi v613 c1024_i32_463
  let v615 : BitVec 32 := Scalar.maxsi c0_i32_464 v614
  let v616 : BitVec 32 := Scalar.minsi c7168_i32_465 v615
  let c0_i32_467 : BitVec 32 := 0#32
  let v618 : BitVec 1 := Scalar.cmpi .sgt v616 c0_i32_467
  let v619 : BitVec 32 := Scalar.extui v618
  let c0_i32_468 : BitVec 32 := 0#32
  let v620 : BitVec 1 := Scalar.cmpi .slt v616 c0_i32_468
  let v621 : BitVec 32 := Scalar.extui v620
  let v622 : BitVec 32 := Scalar.subi v619 v621
  let c128_i32_466 : BitVec 32 := 128#32
  let c0_i32_469 : BitVec 32 := 0#32
  let v623 : BitVec 1 := Scalar.cmpi .sgt c128_i32_466 c0_i32_469
  let v624 : BitVec 32 := Scalar.extui v623
  let c0_i32_470 : BitVec 32 := 0#32
  let v625 : BitVec 1 := Scalar.cmpi .slt c128_i32_466 c0_i32_470
  let v626 : BitVec 32 := Scalar.extui v625
  let v627 : BitVec 32 := Scalar.subi v624 v626
  let v628 : BitVec 1 := Scalar.cmpi .ne v622 v627
  let v629 : BitVec 32 := Scalar.remsi v616 c128_i32_466
  let c0_i32_471 : BitVec 32 := 0#32
  let v630 : BitVec 1 := Scalar.cmpi .ne v629 c0_i32_471
  let v631 : BitVec 1 := Scalar.andi v628 v630
  let v617 : BitVec 32 := Scalar.divsi v616 c128_i32_466
  let c1_i32_472 : BitVec 32 := 1#32
  let v632 : BitVec 32 := Scalar.subi v617 c1_i32_472
  let v633 : BitVec 32 := Scalar.select v631 v632 v617
  let c128_i32_473 : BitVec 32 := 128#32
  let v634 : BitVec 32 := Scalar.muli v633 c128_i32_473
  let c7040_i32_474 : BitVec 32 := 7040#32
  let v635 : BitVec 32 := Scalar.minsi v634 c7040_i32_474
  let v636 : BitVec 32 := v635
  ![v600.toNat, v611.toNat, 0, v636.toNat]

def k0_chk2 (k0_t1 : Fin k0_t1_loop.trips) (v613 : BitVec 32) : Prop :=
  (128 ∣ (k0_mult2 v613).toNat) ∧
  (∀ a, (k0_off6 k0_t1 v613) a + S1x4x64x1152.size a ≤ S4x16x64x8192.size a) ∧
  (∀ (hinb : ∀ a, (k0_off6 k0_t1 v613) a + S1x4x64x1152.size a ≤ S4x16x64x8192.size a), (Rect.unit (s := S4x16x64x8192) (k0_off6 k0_t1 v613) S1x4x64x1152.size hinb).WholeWords (EltTy.packing .i8)) ∧
  (∀ a, (k0_off9 k0_t1 v613) a + S1x4x8x1152.size a ≤ S4x16x8x8192.size a) ∧
  (∀ (hinb : ∀ a, (k0_off9 k0_t1 v613) a + S1x4x8x1152.size a ≤ S4x16x8x8192.size a), (Rect.unit (s := S4x16x8x8192) (k0_off9 k0_t1 v613) S1x4x8x1152.size hinb).WholeWords (EltTy.packing .fp8e4m3))
theorem k0_mult2_dvd : ∀ (k0_t1 : Fin k0_t1_loop.trips) (v613 : BitVec 32) (k0_hw2 : k0_chk2 k0_t1 v613), 128 ∣ (k0_mult2 v613).toNat := fun k0_t1 v613 k0_hw2 => k0_hw2.1
theorem k0_off6_inb : ∀ (k0_t1 : Fin k0_t1_loop.trips) (v613 : BitVec 32) (k0_hw2 : k0_chk2 k0_t1 v613), ∀ a, (k0_off6 k0_t1 v613) a + S1x4x64x1152.size a ≤ S4x16x64x8192.size a := fun k0_t1 v613 k0_hw2 => k0_hw2.2.1
theorem k0_off6_wordsi8 : ∀ (k0_t1 : Fin k0_t1_loop.trips) (v613 : BitVec 32) (k0_hw2 : k0_chk2 k0_t1 v613), (Rect.unit (s := S4x16x64x8192) (k0_off6 k0_t1 v613) S1x4x64x1152.size (k0_off6_inb k0_t1 v613 k0_hw2)).WholeWords (EltTy.packing .i8) := fun k0_t1 v613 k0_hw2 => k0_hw2.2.2.1 (k0_off6_inb k0_t1 v613 k0_hw2)
theorem k0_off9_inb : ∀ (k0_t1 : Fin k0_t1_loop.trips) (v613 : BitVec 32) (k0_hw2 : k0_chk2 k0_t1 v613), ∀ a, (k0_off9 k0_t1 v613) a + S1x4x8x1152.size a ≤ S4x16x8x8192.size a := fun k0_t1 v613 k0_hw2 => k0_hw2.2.2.2.1
theorem k0_off9_wordsfp8e4m3 : ∀ (k0_t1 : Fin k0_t1_loop.trips) (v613 : BitVec 32) (k0_hw2 : k0_chk2 k0_t1 v613), (Rect.unit (s := S4x16x8x8192) (k0_off9 k0_t1 v613) S1x4x8x1152.size (k0_off9_inb k0_t1 v613 k0_hw2)).WholeWords (EltTy.packing .fp8e4m3) := fun k0_t1 v613 k0_hw2 => k0_hw2.2.2.2.2 (k0_off9_inb k0_t1 v613 k0_hw2)

def k0_off10 (k0_t1 : Fin k0_t1_loop.trips) : Fin 2 → Nat :=
  let c1_i32_43 : BitVec 32 := 1#32
  let c1_i32_44 : BitVec 32 := 1#32
  let arg25 : BitVec 32 := Scf.iv c1_i32_43 c1_i32_44 k0_t1
  let c2_i32_485 : BitVec 32 := 2#32
  ![arg25.toNat, 2]
def k0_off11 (k0_t1 : Fin k0_t1_loop.trips) : Fin 2 → Nat :=
  let c1_i32_43 : BitVec 32 := 1#32
  let c1_i32_44 : BitVec 32 := 1#32
  let arg25 : BitVec 32 := Scf.iv c1_i32_43 c1_i32_44 k0_t1
  let c3_i32_490 : BitVec 32 := 3#32
  ![arg25.toNat, 3]
@[reducible] def k0_t2_loop : Scf.Loop 32 :=
  let c0_i32_61 : BitVec 32 := 0#32
  let c16_i32 : BitVec 32 := 16#32
  let v71 : BitVec 32 := Scalar.addi c0_i32_61 c16_i32
  let c1_i32_62 : BitVec 32 := 1#32
  ⟨c0_i32_61, v71, c1_i32_62⟩
def k0_off12 (k0_t2 : Fin k0_t2_loop.trips) : Fin 1 → Nat :=
  let c0_i32_61 : BitVec 32 := 0#32
  let c1_i32_62 : BitVec 32 := 1#32
  let arg25 : BitVec 32 := Scf.iv c0_i32_61 c1_i32_62 k0_t2
  let c0_i32_450 : BitVec 32 := 0#32
  let v585 : BitVec 1 := Scalar.cmpi .sgt arg25 c0_i32_450
  let v586 : BitVec 32 := Scalar.extui v585
  let c0_i32_451 : BitVec 32 := 0#32
  let v587 : BitVec 1 := Scalar.cmpi .slt arg25 c0_i32_451
  let v588 : BitVec 32 := Scalar.extui v587
  let v589 : BitVec 32 := Scalar.subi v586 v588
  let c4_i32 : BitVec 32 := 4#32
  let c0_i32_452 : BitVec 32 := 0#32
  let v590 : BitVec 1 := Scalar.cmpi .sgt c4_i32 c0_i32_452
  let v591 : BitVec 32 := Scalar.extui v590
  let c0_i32_453 : BitVec 32 := 0#32
  let v592 : BitVec 1 := Scalar.cmpi .slt c4_i32 c0_i32_453
  let v593 : BitVec 32 := Scalar.extui v592
  let v594 : BitVec 32 := Scalar.subi v591 v593
  let v595 : BitVec 1 := Scalar.cmpi .ne v589 v594
  let v596 : BitVec 32 := Scalar.remsi arg25 c4_i32
  let c0_i32_454 : BitVec 32 := 0#32
  let v597 : BitVec 1 := Scalar.cmpi .ne v596 c0_i32_454
  let v598 : BitVec 1 := Scalar.andi v595 v597
  let v584 : BitVec 32 := Scalar.divsi arg25 c4_i32
  let c1_i32_455 : BitVec 32 := 1#32
  let v599 : BitVec 32 := Scalar.subi v584 c1_i32_455
  let v600 : BitVec 32 := Scalar.select v598 v599 v584
  let v612 : Index := Scalar.indexCast v600
  ![v612.toNat]
def k0_mult3 (v613 : BitVec 32) : BitVec 32 :=
  let c7168_i32_465 : BitVec 32 := 7168#32
  let c0_i32_464 : BitVec 32 := 0#32
  let c1024_i32_463 : BitVec 32 := 1024#32
  let v614 : BitVec 32 := Scalar.subi v613 c1024_i32_463
  let v615 : BitVec 32 := Scalar.maxsi c0_i32_464 v614
  let v616 : BitVec 32 := Scalar.minsi c7168_i32_465 v615
  let c0_i32_467 : BitVec 32 := 0#32
  let v618 : BitVec 1 := Scalar.cmpi .sgt v616 c0_i32_467
  let v619 : BitVec 32 := Scalar.extui v618
  let c0_i32_468 : BitVec 32 := 0#32
  let v620 : BitVec 1 := Scalar.cmpi .slt v616 c0_i32_468
  let v621 : BitVec 32 := Scalar.extui v620
  let v622 : BitVec 32 := Scalar.subi v619 v621
  let c128_i32_466 : BitVec 32 := 128#32
  let c0_i32_469 : BitVec 32 := 0#32
  let v623 : BitVec 1 := Scalar.cmpi .sgt c128_i32_466 c0_i32_469
  let v624 : BitVec 32 := Scalar.extui v623
  let c0_i32_470 : BitVec 32 := 0#32
  let v625 : BitVec 1 := Scalar.cmpi .slt c128_i32_466 c0_i32_470
  let v626 : BitVec 32 := Scalar.extui v625
  let v627 : BitVec 32 := Scalar.subi v624 v626
  let v628 : BitVec 1 := Scalar.cmpi .ne v622 v627
  let v629 : BitVec 32 := Scalar.remsi v616 c128_i32_466
  let c0_i32_471 : BitVec 32 := 0#32
  let v630 : BitVec 1 := Scalar.cmpi .ne v629 c0_i32_471
  let v631 : BitVec 1 := Scalar.andi v628 v630
  let v617 : BitVec 32 := Scalar.divsi v616 c128_i32_466
  let c1_i32_472 : BitVec 32 := 1#32
  let v632 : BitVec 32 := Scalar.subi v617 c1_i32_472
  let v633 : BitVec 32 := Scalar.select v631 v632 v617
  let c128_i32_473 : BitVec 32 := 128#32
  let v634 : BitVec 32 := Scalar.muli v633 c128_i32_473
  let c7040_i32_474 : BitVec 32 := 7040#32
  let v635 : BitVec 32 := Scalar.minsi v634 c7040_i32_474
  v635

def k0_chk3 (v613 : BitVec 32) : Prop :=
  (128 ∣ (k0_mult3 v613).toNat)
theorem k0_mult3_dvd : ∀ (v613 : BitVec 32) (k0_hw3 : k0_chk3 v613), 128 ∣ (k0_mult3 v613).toNat := fun v613 k0_hw3 => k0_hw3

def k0_off13 (k0_t2 : Fin k0_t2_loop.trips) : Fin 1 → Nat :=
  let c0_i32_61 : BitVec 32 := 0#32
  let c1_i32_62 : BitVec 32 := 1#32
  let arg25 : BitVec 32 := Scf.iv c0_i32_61 c1_i32_62 k0_t2
  let c0_i32_450 : BitVec 32 := 0#32
  let v585 : BitVec 1 := Scalar.cmpi .sgt arg25 c0_i32_450
  let v586 : BitVec 32 := Scalar.extui v585
  let c0_i32_451 : BitVec 32 := 0#32
  let v587 : BitVec 1 := Scalar.cmpi .slt arg25 c0_i32_451
  let v588 : BitVec 32 := Scalar.extui v587
  let v589 : BitVec 32 := Scalar.subi v586 v588
  let c4_i32 : BitVec 32 := 4#32
  let c0_i32_452 : BitVec 32 := 0#32
  let v590 : BitVec 1 := Scalar.cmpi .sgt c4_i32 c0_i32_452
  let v591 : BitVec 32 := Scalar.extui v590
  let c0_i32_453 : BitVec 32 := 0#32
  let v592 : BitVec 1 := Scalar.cmpi .slt c4_i32 c0_i32_453
  let v593 : BitVec 32 := Scalar.extui v592
  let v594 : BitVec 32 := Scalar.subi v591 v593
  let v595 : BitVec 1 := Scalar.cmpi .ne v589 v594
  let v596 : BitVec 32 := Scalar.remsi arg25 c4_i32
  let c0_i32_454 : BitVec 32 := 0#32
  let v597 : BitVec 1 := Scalar.cmpi .ne v596 c0_i32_454
  let v598 : BitVec 1 := Scalar.andi v595 v597
  let v584 : BitVec 32 := Scalar.divsi arg25 c4_i32
  let c1_i32_455 : BitVec 32 := 1#32
  let v599 : BitVec 32 := Scalar.subi v584 c1_i32_455
  let v600 : BitVec 32 := Scalar.select v598 v599 v584
  let v647 : Index := Scalar.indexCast v600
  ![v647.toNat]
def k0_mult4 (v692 : BitVec 32) : BitVec 32 :=
  let c7168_i32_498 : BitVec 32 := 7168#32
  let c0_i32_497 : BitVec 32 := 0#32
  let c1024_i32_496 : BitVec 32 := 1024#32
  let v693 : BitVec 32 := Scalar.subi v692 c1024_i32_496
  let v694 : BitVec 32 := Scalar.maxsi c0_i32_497 v693
  let v695 : BitVec 32 := Scalar.minsi c7168_i32_498 v694
  let c0_i32_500 : BitVec 32 := 0#32
  let v697 : BitVec 1 := Scalar.cmpi .sgt v695 c0_i32_500
  let v698 : BitVec 32 := Scalar.extui v697
  let c0_i32_501 : BitVec 32 := 0#32
  let v699 : BitVec 1 := Scalar.cmpi .slt v695 c0_i32_501
  let v700 : BitVec 32 := Scalar.extui v699
  let v701 : BitVec 32 := Scalar.subi v698 v700
  let c128_i32_499 : BitVec 32 := 128#32
  let c0_i32_502 : BitVec 32 := 0#32
  let v702 : BitVec 1 := Scalar.cmpi .sgt c128_i32_499 c0_i32_502
  let v703 : BitVec 32 := Scalar.extui v702
  let c0_i32_503 : BitVec 32 := 0#32
  let v704 : BitVec 1 := Scalar.cmpi .slt c128_i32_499 c0_i32_503
  let v705 : BitVec 32 := Scalar.extui v704
  let v706 : BitVec 32 := Scalar.subi v703 v705
  let v707 : BitVec 1 := Scalar.cmpi .ne v701 v706
  let v708 : BitVec 32 := Scalar.remsi v695 c128_i32_499
  let c0_i32_504 : BitVec 32 := 0#32
  let v709 : BitVec 1 := Scalar.cmpi .ne v708 c0_i32_504
  let v710 : BitVec 1 := Scalar.andi v707 v709
  let v696 : BitVec 32 := Scalar.divsi v695 c128_i32_499
  let c1_i32_505 : BitVec 32 := 1#32
  let v711 : BitVec 32 := Scalar.subi v696 c1_i32_505
  let v712 : BitVec 32 := Scalar.select v710 v711 v696
  let c128_i32_506 : BitVec 32 := 128#32
  let v713 : BitVec 32 := Scalar.muli v712 c128_i32_506
  let c7040_i32_507 : BitVec 32 := 7040#32
  let v714 : BitVec 32 := Scalar.minsi v713 c7040_i32_507
  v714

def k0_off14 (k0_t2 : Fin k0_t2_loop.trips) : Fin 2 → Nat :=
  let c0_i32_61 : BitVec 32 := 0#32
  let c1_i32_62 : BitVec 32 := 1#32
  let arg25 : BitVec 32 := Scf.iv c0_i32_61 c1_i32_62 k0_t2
  let c0_i32_508 : BitVec 32 := 0#32
  ![arg25.toNat, 0]
def k0_off15 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let c0_i32_509 : BitVec 32 := 0#32
  let c0_i32_510 : BitVec 32 := 0#32
  let c0_i32_511 : BitVec 32 := 0#32
  ![arg25.toNat, 0, 0, 0]
def k0_off16 (k0_t2 : Fin k0_t2_loop.trips) (v692 : BitVec 32) : Fin 4 → Nat :=
  let c0_i32_61 : BitVec 32 := 0#32
  let c1_i32_62 : BitVec 32 := 1#32
  let arg25 : BitVec 32 := Scf.iv c0_i32_61 c1_i32_62 k0_t2
  let c0_i32_483 : BitVec 32 := 0#32
  let v664 : BitVec 1 := Scalar.cmpi .sgt arg25 c0_i32_483
  let v665 : BitVec 32 := Scalar.extui v664
  let c0_i32_484 : BitVec 32 := 0#32
  let v666 : BitVec 1 := Scalar.cmpi .slt arg25 c0_i32_484
  let v667 : BitVec 32 := Scalar.extui v666
  let v668 : BitVec 32 := Scalar.subi v665 v667
  let c4_i32_482 : BitVec 32 := 4#32
  let c0_i32_485 : BitVec 32 := 0#32
  let v669 : BitVec 1 := Scalar.cmpi .sgt c4_i32_482 c0_i32_485
  let v670 : BitVec 32 := Scalar.extui v669
  let c0_i32_486 : BitVec 32 := 0#32
  let v671 : BitVec 1 := Scalar.cmpi .slt c4_i32_482 c0_i32_486
  let v672 : BitVec 32 := Scalar.extui v671
  let v673 : BitVec 32 := Scalar.subi v670 v672
  let v674 : BitVec 1 := Scalar.cmpi .ne v668 v673
  let v675 : BitVec 32 := Scalar.remsi arg25 c4_i32_482
  let c0_i32_487 : BitVec 32 := 0#32
  let v676 : BitVec 1 := Scalar.cmpi .ne v675 c0_i32_487
  let v677 : BitVec 1 := Scalar.andi v674 v676
  let v663 : BitVec 32 := Scalar.divsi arg25 c4_i32_482
  let c1_i32_488 : BitVec 32 := 1#32
  let v678 : BitVec 32 := Scalar.subi v663 c1_i32_488
  let v679 : BitVec 32 := Scalar.select v677 v678 v663
  let c4_i32_489 : BitVec 32 := 4#32
  let c0_i32_490 : BitVec 32 := 0#32
  let v680 : BitVec 1 := Scalar.cmpi .eq c4_i32_489 c0_i32_490
  let c1_i32_491 : BitVec 32 := 1#32
  let v681 : BitVec 32 := Scalar.select v680 c1_i32_491 c4_i32_489
  let v682 : BitVec 32 := Scalar.remsi arg25 v681
  let c0_i32_493 : BitVec 32 := 0#32
  let v684 : BitVec 1 := Scalar.cmpi .slt v682 c0_i32_493
  let c0_i32_494 : BitVec 32 := 0#32
  let v685 : BitVec 1 := Scalar.cmpi .slt v681 c0_i32_494
  let v686 : BitVec 1 := Scalar.xori v684 v685
  let c0_i32_492 : BitVec 32 := 0#32
  let v683 : BitVec 1 := Scalar.cmpi .ne v682 c0_i32_492
  let v687 : BitVec 1 := Scalar.andi v686 v683
  let v688 : BitVec 32 := Scalar.addi v682 v681
  let v689 : BitVec 32 := Scalar.select v687 v688 v682
  let c4_i32_495 : BitVec 32 := 4#32
  let v690 : BitVec 32 := Scalar.muli v689 c4_i32_495
  let c0_i32_512 : BitVec 32 := 0#32
  let c7168_i32_498 : BitVec 32 := 7168#32
  let c0_i32_497 : BitVec 32 := 0#32
  let c1024_i32_496 : BitVec 32 := 1024#32
  let v693 : BitVec 32 := Scalar.subi v692 c1024_i32_496
  let v694 : BitVec 32 := Scalar.maxsi c0_i32_497 v693
  let v695 : BitVec 32 := Scalar.minsi c7168_i32_498 v694
  let c0_i32_500 : BitVec 32 := 0#32
  let v697 : BitVec 1 := Scalar.cmpi .sgt v695 c0_i32_500
  let v698 : BitVec 32 := Scalar.extui v697
  let c0_i32_501 : BitVec 32 := 0#32
  let v699 : BitVec 1 := Scalar.cmpi .slt v695 c0_i32_501
  let v700 : BitVec 32 := Scalar.extui v699
  let v701 : BitVec 32 := Scalar.subi v698 v700
  let c128_i32_499 : BitVec 32 := 128#32
  let c0_i32_502 : BitVec 32 := 0#32
  let v702 : BitVec 1 := Scalar.cmpi .sgt c128_i32_499 c0_i32_502
  let v703 : BitVec 32 := Scalar.extui v702
  let c0_i32_503 : BitVec 32 := 0#32
  let v704 : BitVec 1 := Scalar.cmpi .slt c128_i32_499 c0_i32_503
  let v705 : BitVec 32 := Scalar.extui v704
  let v706 : BitVec 32 := Scalar.subi v703 v705
  let v707 : BitVec 1 := Scalar.cmpi .ne v701 v706
  let v708 : BitVec 32 := Scalar.remsi v695 c128_i32_499
  let c0_i32_504 : BitVec 32 := 0#32
  let v709 : BitVec 1 := Scalar.cmpi .ne v708 c0_i32_504
  let v710 : BitVec 1 := Scalar.andi v707 v709
  let v696 : BitVec 32 := Scalar.divsi v695 c128_i32_499
  let c1_i32_505 : BitVec 32 := 1#32
  let v711 : BitVec 32 := Scalar.subi v696 c1_i32_505
  let v712 : BitVec 32 := Scalar.select v710 v711 v696
  let c128_i32_506 : BitVec 32 := 128#32
  let v713 : BitVec 32 := Scalar.muli v712 c128_i32_506
  let c7040_i32_507 : BitVec 32 := 7040#32
  let v714 : BitVec 32 := Scalar.minsi v713 c7040_i32_507
  let v715 : BitVec 32 := v714
  ![v679.toNat, v690.toNat, 0, v715.toNat]
def k0_off17 (k0_t2 : Fin k0_t2_loop.trips) : Fin 2 → Nat :=
  let c0_i32_61 : BitVec 32 := 0#32
  let c1_i32_62 : BitVec 32 := 1#32
  let arg25 : BitVec 32 := Scf.iv c0_i32_61 c1_i32_62 k0_t2
  let c1_i32_513 : BitVec 32 := 1#32
  ![arg25.toNat, 1]
def k0_off18 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let c0_i32_514 : BitVec 32 := 0#32
  let c0_i32_515 : BitVec 32 := 0#32
  let c0_i32_516 : BitVec 32 := 0#32
  ![arg25.toNat, 0, 0, 0]
def k0_off19 (k0_t2 : Fin k0_t2_loop.trips) (v692 : BitVec 32) : Fin 4 → Nat :=
  let c0_i32_61 : BitVec 32 := 0#32
  let c1_i32_62 : BitVec 32 := 1#32
  let arg25 : BitVec 32 := Scf.iv c0_i32_61 c1_i32_62 k0_t2
  let c0_i32_483 : BitVec 32 := 0#32
  let v664 : BitVec 1 := Scalar.cmpi .sgt arg25 c0_i32_483
  let v665 : BitVec 32 := Scalar.extui v664
  let c0_i32_484 : BitVec 32 := 0#32
  let v666 : BitVec 1 := Scalar.cmpi .slt arg25 c0_i32_484
  let v667 : BitVec 32 := Scalar.extui v666
  let v668 : BitVec 32 := Scalar.subi v665 v667
  let c4_i32_482 : BitVec 32 := 4#32
  let c0_i32_485 : BitVec 32 := 0#32
  let v669 : BitVec 1 := Scalar.cmpi .sgt c4_i32_482 c0_i32_485
  let v670 : BitVec 32 := Scalar.extui v669
  let c0_i32_486 : BitVec 32 := 0#32
  let v671 : BitVec 1 := Scalar.cmpi .slt c4_i32_482 c0_i32_486
  let v672 : BitVec 32 := Scalar.extui v671
  let v673 : BitVec 32 := Scalar.subi v670 v672
  let v674 : BitVec 1 := Scalar.cmpi .ne v668 v673
  let v675 : BitVec 32 := Scalar.remsi arg25 c4_i32_482
  let c0_i32_487 : BitVec 32 := 0#32
  let v676 : BitVec 1 := Scalar.cmpi .ne v675 c0_i32_487
  let v677 : BitVec 1 := Scalar.andi v674 v676
  let v663 : BitVec 32 := Scalar.divsi arg25 c4_i32_482
  let c1_i32_488 : BitVec 32 := 1#32
  let v678 : BitVec 32 := Scalar.subi v663 c1_i32_488
  let v679 : BitVec 32 := Scalar.select v677 v678 v663
  let c4_i32_489 : BitVec 32 := 4#32
  let c0_i32_490 : BitVec 32 := 0#32
  let v680 : BitVec 1 := Scalar.cmpi .eq c4_i32_489 c0_i32_490
  let c1_i32_491 : BitVec 32 := 1#32
  let v681 : BitVec 32 := Scalar.select v680 c1_i32_491 c4_i32_489
  let v682 : BitVec 32 := Scalar.remsi arg25 v681
  let c0_i32_493 : BitVec 32 := 0#32
  let v684 : BitVec 1 := Scalar.cmpi .slt v682 c0_i32_493
  let c0_i32_494 : BitVec 32 := 0#32
  let v685 : BitVec 1 := Scalar.cmpi .slt v681 c0_i32_494
  let v686 : BitVec 1 := Scalar.xori v684 v685
  let c0_i32_492 : BitVec 32 := 0#32
  let v683 : BitVec 1 := Scalar.cmpi .ne v682 c0_i32_492
  let v687 : BitVec 1 := Scalar.andi v686 v683
  let v688 : BitVec 32 := Scalar.addi v682 v681
  let v689 : BitVec 32 := Scalar.select v687 v688 v682
  let c4_i32_495 : BitVec 32 := 4#32
  let v690 : BitVec 32 := Scalar.muli v689 c4_i32_495
  let c0_i32_517 : BitVec 32 := 0#32
  let c7168_i32_498 : BitVec 32 := 7168#32
  let c0_i32_497 : BitVec 32 := 0#32
  let c1024_i32_496 : BitVec 32 := 1024#32
  let v693 : BitVec 32 := Scalar.subi v692 c1024_i32_496
  let v694 : BitVec 32 := Scalar.maxsi c0_i32_497 v693
  let v695 : BitVec 32 := Scalar.minsi c7168_i32_498 v694
  let c0_i32_500 : BitVec 32 := 0#32
  let v697 : BitVec 1 := Scalar.cmpi .sgt v695 c0_i32_500
  let v698 : BitVec 32 := Scalar.extui v697
  let c0_i32_501 : BitVec 32 := 0#32
  let v699 : BitVec 1 := Scalar.cmpi .slt v695 c0_i32_501
  let v700 : BitVec 32 := Scalar.extui v699
  let v701 : BitVec 32 := Scalar.subi v698 v700
  let c128_i32_499 : BitVec 32 := 128#32
  let c0_i32_502 : BitVec 32 := 0#32
  let v702 : BitVec 1 := Scalar.cmpi .sgt c128_i32_499 c0_i32_502
  let v703 : BitVec 32 := Scalar.extui v702
  let c0_i32_503 : BitVec 32 := 0#32
  let v704 : BitVec 1 := Scalar.cmpi .slt c128_i32_499 c0_i32_503
  let v705 : BitVec 32 := Scalar.extui v704
  let v706 : BitVec 32 := Scalar.subi v703 v705
  let v707 : BitVec 1 := Scalar.cmpi .ne v701 v706
  let v708 : BitVec 32 := Scalar.remsi v695 c128_i32_499
  let c0_i32_504 : BitVec 32 := 0#32
  let v709 : BitVec 1 := Scalar.cmpi .ne v708 c0_i32_504
  let v710 : BitVec 1 := Scalar.andi v707 v709
  let v696 : BitVec 32 := Scalar.divsi v695 c128_i32_499
  let c1_i32_505 : BitVec 32 := 1#32
  let v711 : BitVec 32 := Scalar.subi v696 c1_i32_505
  let v712 : BitVec 32 := Scalar.select v710 v711 v696
  let c128_i32_506 : BitVec 32 := 128#32
  let v713 : BitVec 32 := Scalar.muli v712 c128_i32_506
  let c7040_i32_507 : BitVec 32 := 7040#32
  let v714 : BitVec 32 := Scalar.minsi v713 c7040_i32_507
  let v715 : BitVec 32 := v714
  ![v679.toNat, v690.toNat, 0, v715.toNat]

def k0_chk4 (k0_t2 : Fin k0_t2_loop.trips) (v692 : BitVec 32) : Prop :=
  (128 ∣ (k0_mult4 v692).toNat) ∧
  (∀ a, (k0_off16 k0_t2 v692) a + S1x4x64x1152.size a ≤ S4x16x64x8192.size a) ∧
  (∀ (hinb : ∀ a, (k0_off16 k0_t2 v692) a + S1x4x64x1152.size a ≤ S4x16x64x8192.size a), (Rect.unit (s := S4x16x64x8192) (k0_off16 k0_t2 v692) S1x4x64x1152.size hinb).WholeWords (EltTy.packing .i8)) ∧
  (∀ a, (k0_off19 k0_t2 v692) a + S1x4x8x1152.size a ≤ S4x16x8x8192.size a) ∧
  (∀ (hinb : ∀ a, (k0_off19 k0_t2 v692) a + S1x4x8x1152.size a ≤ S4x16x8x8192.size a), (Rect.unit (s := S4x16x8x8192) (k0_off19 k0_t2 v692) S1x4x8x1152.size hinb).WholeWords (EltTy.packing .fp8e4m3))
theorem k0_mult4_dvd : ∀ (k0_t2 : Fin k0_t2_loop.trips) (v692 : BitVec 32) (k0_hw4 : k0_chk4 k0_t2 v692), 128 ∣ (k0_mult4 v692).toNat := fun k0_t2 v692 k0_hw4 => k0_hw4.1
theorem k0_off16_inb : ∀ (k0_t2 : Fin k0_t2_loop.trips) (v692 : BitVec 32) (k0_hw4 : k0_chk4 k0_t2 v692), ∀ a, (k0_off16 k0_t2 v692) a + S1x4x64x1152.size a ≤ S4x16x64x8192.size a := fun k0_t2 v692 k0_hw4 => k0_hw4.2.1
theorem k0_off16_wordsi8 : ∀ (k0_t2 : Fin k0_t2_loop.trips) (v692 : BitVec 32) (k0_hw4 : k0_chk4 k0_t2 v692), (Rect.unit (s := S4x16x64x8192) (k0_off16 k0_t2 v692) S1x4x64x1152.size (k0_off16_inb k0_t2 v692 k0_hw4)).WholeWords (EltTy.packing .i8) := fun k0_t2 v692 k0_hw4 => k0_hw4.2.2.1 (k0_off16_inb k0_t2 v692 k0_hw4)
theorem k0_off19_inb : ∀ (k0_t2 : Fin k0_t2_loop.trips) (v692 : BitVec 32) (k0_hw4 : k0_chk4 k0_t2 v692), ∀ a, (k0_off19 k0_t2 v692) a + S1x4x8x1152.size a ≤ S4x16x8x8192.size a := fun k0_t2 v692 k0_hw4 => k0_hw4.2.2.2.1
theorem k0_off19_wordsfp8e4m3 : ∀ (k0_t2 : Fin k0_t2_loop.trips) (v692 : BitVec 32) (k0_hw4 : k0_chk4 k0_t2 v692), (Rect.unit (s := S4x16x8x8192) (k0_off19 k0_t2 v692) S1x4x8x1152.size (k0_off19_inb k0_t2 v692 k0_hw4)).WholeWords (EltTy.packing .fp8e4m3) := fun k0_t2 v692 k0_hw4 => k0_hw4.2.2.2.2 (k0_off19_inb k0_t2 v692 k0_hw4)

def k0_off20 (k0_t2 : Fin k0_t2_loop.trips) : Fin 2 → Nat :=
  let c0_i32_61 : BitVec 32 := 0#32
  let c1_i32_62 : BitVec 32 := 1#32
  let arg25 : BitVec 32 := Scf.iv c0_i32_61 c1_i32_62 k0_t2
  let c2_i32_518 : BitVec 32 := 2#32
  ![arg25.toNat, 2]
def k0_off21 (k0_t2 : Fin k0_t2_loop.trips) : Fin 2 → Nat :=
  let c0_i32_61 : BitVec 32 := 0#32
  let c1_i32_62 : BitVec 32 := 1#32
  let arg25 : BitVec 32 := Scf.iv c0_i32_61 c1_i32_62 k0_t2
  let c3_i32_523 : BitVec 32 := 3#32
  ![arg25.toNat, 3]
def k0_mult5 (k0_t2 : Fin k0_t2_loop.trips) : BitVec 32 :=
  let c0_i32_61 : BitVec 32 := 0#32
  let c1_i32_62 : BitVec 32 := 1#32
  let arg25 : BitVec 32 := Scf.iv c0_i32_61 c1_i32_62 k0_t2
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let c0_i32_528 : BitVec 32 := 0#32
  let v740 : BitVec 32 := Scalar.addi v611 c0_i32_528
  let c8_i32 : BitVec 32 := 8#32
  let v741 : BitVec 32 := Scalar.muli v740 c8_i32
  v741
def k0_off22 (k0_t2 : Fin k0_t2_loop.trips) (c0_i32_528 : BitVec 32) : Fin 3 → Nat :=
  let c0_i32_61 : BitVec 32 := 0#32
  let c1_i32_62 : BitVec 32 := 1#32
  let arg25 : BitVec 32 := Scf.iv c0_i32_61 c1_i32_62 k0_t2
  let c0_i32_450 : BitVec 32 := 0#32
  let v585 : BitVec 1 := Scalar.cmpi .sgt arg25 c0_i32_450
  let v586 : BitVec 32 := Scalar.extui v585
  let c0_i32_451 : BitVec 32 := 0#32
  let v587 : BitVec 1 := Scalar.cmpi .slt arg25 c0_i32_451
  let v588 : BitVec 32 := Scalar.extui v587
  let v589 : BitVec 32 := Scalar.subi v586 v588
  let c4_i32 : BitVec 32 := 4#32
  let c0_i32_452 : BitVec 32 := 0#32
  let v590 : BitVec 1 := Scalar.cmpi .sgt c4_i32 c0_i32_452
  let v591 : BitVec 32 := Scalar.extui v590
  let c0_i32_453 : BitVec 32 := 0#32
  let v592 : BitVec 1 := Scalar.cmpi .slt c4_i32 c0_i32_453
  let v593 : BitVec 32 := Scalar.extui v592
  let v594 : BitVec 32 := Scalar.subi v591 v593
  let v595 : BitVec 1 := Scalar.cmpi .ne v589 v594
  let v596 : BitVec 32 := Scalar.remsi arg25 c4_i32
  let c0_i32_454 : BitVec 32 := 0#32
  let v597 : BitVec 1 := Scalar.cmpi .ne v596 c0_i32_454
  let v598 : BitVec 1 := Scalar.andi v595 v597
  let v584 : BitVec 32 := Scalar.divsi arg25 c4_i32
  let c1_i32_455 : BitVec 32 := 1#32
  let v599 : BitVec 32 := Scalar.subi v584 c1_i32_455
  let v600 : BitVec 32 := Scalar.select v598 v599 v584
  let v743 : Index := Scalar.indexCast v600
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let v740 : BitVec 32 := Scalar.addi v611 c0_i32_528
  let c8_i32 : BitVec 32 := 8#32
  let v741 : BitVec 32 := Scalar.muli v740 c8_i32
  let v742 : BitVec 32 := v741
  let v744 : Index := Scalar.indexCast v742
  let c0_529 : Index := 0#32
  ![v743.toNat, v744.toNat, 0]
def k0_off23 (k0_t2 : Fin k0_t2_loop.trips) (c0_i32_530 : BitVec 32) : Fin 3 → Nat :=
  let c0_i32_61 : BitVec 32 := 0#32
  let c1_i32_62 : BitVec 32 := 1#32
  let arg25 : BitVec 32 := Scf.iv c0_i32_61 c1_i32_62 k0_t2
  let c0_i32_450 : BitVec 32 := 0#32
  let v585 : BitVec 1 := Scalar.cmpi .sgt arg25 c0_i32_450
  let v586 : BitVec 32 := Scalar.extui v585
  let c0_i32_451 : BitVec 32 := 0#32
  let v587 : BitVec 1 := Scalar.cmpi .slt arg25 c0_i32_451
  let v588 : BitVec 32 := Scalar.extui v587
  let v589 : BitVec 32 := Scalar.subi v586 v588
  let c4_i32 : BitVec 32 := 4#32
  let c0_i32_452 : BitVec 32 := 0#32
  let v590 : BitVec 1 := Scalar.cmpi .sgt c4_i32 c0_i32_452
  let v591 : BitVec 32 := Scalar.extui v590
  let c0_i32_453 : BitVec 32 := 0#32
  let v592 : BitVec 1 := Scalar.cmpi .slt c4_i32 c0_i32_453
  let v593 : BitVec 32 := Scalar.extui v592
  let v594 : BitVec 32 := Scalar.subi v591 v593
  let v595 : BitVec 1 := Scalar.cmpi .ne v589 v594
  let v596 : BitVec 32 := Scalar.remsi arg25 c4_i32
  let c0_i32_454 : BitVec 32 := 0#32
  let v597 : BitVec 1 := Scalar.cmpi .ne v596 c0_i32_454
  let v598 : BitVec 1 := Scalar.andi v595 v597
  let v584 : BitVec 32 := Scalar.divsi arg25 c4_i32
  let c1_i32_455 : BitVec 32 := 1#32
  let v599 : BitVec 32 := Scalar.subi v584 c1_i32_455
  let v600 : BitVec 32 := Scalar.select v598 v599 v584
  let v748 : Index := Scalar.indexCast v600
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let v747 : BitVec 32 := Scalar.addi v611 c0_i32_530
  let v749 : Index := Scalar.indexCast v747
  let c0_531 : Index := 0#32
  ![v748.toNat, v749.toNat, 0]
def k0_off24 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v757 : Index := Scalar.indexCast arg25
  let c0_534 : Index := 0#32
  let c0_535 : Index := 0#32
  let c0_536 : Index := 0#32
  ![v757.toNat, 0, 0, 0]
def k0_off25 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v761 : Index := Scalar.indexCast arg25
  let c0_537 : Index := 0#32
  let c0_538 : Index := 0#32
  let c1024_539 : Index := 1024#32
  ![v761.toNat, 0, 0, 1024]
def k0_off26 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v769 : Index := Scalar.indexCast arg25
  let c0_540 : Index := 0#32
  let c0_541 : Index := 0#32
  let c128_542 : Index := 128#32
  ![v769.toNat, 0, 0, 128]
def k0_off27 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v811 : Index := Scalar.indexCast arg25
  let c0_553 : Index := 0#32
  let c0_554 : Index := 0#32
  let c0_555 : Index := 0#32
  ![v811.toNat, 0, 0, 0]
def k0_off28 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v815 : Index := Scalar.indexCast arg25
  let c0_556 : Index := 0#32
  let c0_557 : Index := 0#32
  let c1024_558 : Index := 1024#32
  ![v815.toNat, 0, 0, 1024]
def k0_off29 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v822 : Index := Scalar.indexCast arg25
  let c0_559 : Index := 0#32
  let c0_560 : Index := 0#32
  let c128_561 : Index := 128#32
  ![v822.toNat, 0, 0, 128]
def k0_off30 (k0_t2 : Fin k0_t2_loop.trips) (c0_i32_652 : BitVec 32) : Fin 3 → Nat :=
  let c0_i32_61 : BitVec 32 := 0#32
  let c1_i32_62 : BitVec 32 := 1#32
  let arg25 : BitVec 32 := Scf.iv c0_i32_61 c1_i32_62 k0_t2
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let v1054 : BitVec 32 := Scalar.addi v611 c0_i32_652
  let c8_i32_653 : BitVec 32 := 8#32
  let v1055 : BitVec 32 := Scalar.muli v1054 c8_i32_653
  let v1056 : Index := Scalar.indexCast v1055
  let c0_i32_450 : BitVec 32 := 0#32
  let v585 : BitVec 1 := Scalar.cmpi .sgt arg25 c0_i32_450
  let v586 : BitVec 32 := Scalar.extui v585
  let c0_i32_451 : BitVec 32 := 0#32
  let v587 : BitVec 1 := Scalar.cmpi .slt arg25 c0_i32_451
  let v588 : BitVec 32 := Scalar.extui v587
  let v589 : BitVec 32 := Scalar.subi v586 v588
  let c4_i32 : BitVec 32 := 4#32
  let c0_i32_452 : BitVec 32 := 0#32
  let v590 : BitVec 1 := Scalar.cmpi .sgt c4_i32 c0_i32_452
  let v591 : BitVec 32 := Scalar.extui v590
  let c0_i32_453 : BitVec 32 := 0#32
  let v592 : BitVec 1 := Scalar.cmpi .slt c4_i32 c0_i32_453
  let v593 : BitVec 32 := Scalar.extui v592
  let v594 : BitVec 32 := Scalar.subi v591 v593
  let v595 : BitVec 1 := Scalar.cmpi .ne v589 v594
  let v596 : BitVec 32 := Scalar.remsi arg25 c4_i32
  let c0_i32_454 : BitVec 32 := 0#32
  let v597 : BitVec 1 := Scalar.cmpi .ne v596 c0_i32_454
  let v598 : BitVec 1 := Scalar.andi v595 v597
  let v584 : BitVec 32 := Scalar.divsi arg25 c4_i32
  let c1_i32_455 : BitVec 32 := 1#32
  let v599 : BitVec 32 := Scalar.subi v584 c1_i32_455
  let v600 : BitVec 32 := Scalar.select v598 v599 v584
  let v1057 : Index := Scalar.indexCast v600
  let c0_654 : Index := 0#32
  ![v1056.toNat, v1057.toNat, 0]
def k0_mult6 (k0_t2 : Fin k0_t2_loop.trips) : BitVec 32 :=
  let c0_i32_61 : BitVec 32 := 0#32
  let c1_i32_62 : BitVec 32 := 1#32
  let arg25 : BitVec 32 := Scf.iv c0_i32_61 c1_i32_62 k0_t2
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let c1_i32_655 : BitVec 32 := 1#32
  let v1061 : BitVec 32 := Scalar.addi v611 c1_i32_655
  let c8_i32_656 : BitVec 32 := 8#32
  let v1062 : BitVec 32 := Scalar.muli v1061 c8_i32_656
  v1062
def k0_off31 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1078 : Index := Scalar.indexCast arg25
  let c1_662 : Index := 1#32
  let c0_663 : Index := 0#32
  let c0_664 : Index := 0#32
  ![v1078.toNat, 1, 0, 0]
def k0_off32 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1082 : Index := Scalar.indexCast arg25
  let c1_665 : Index := 1#32
  let c0_666 : Index := 0#32
  let c1024_667 : Index := 1024#32
  ![v1082.toNat, 1, 0, 1024]
def k0_off33 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1090 : Index := Scalar.indexCast arg25
  let c1_668 : Index := 1#32
  let c0_669 : Index := 0#32
  let c128_670 : Index := 128#32
  ![v1090.toNat, 1, 0, 128]
def k0_off34 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1132 : Index := Scalar.indexCast arg25
  let c1_683 : Index := 1#32
  let c0_684 : Index := 0#32
  let c0_685 : Index := 0#32
  ![v1132.toNat, 1, 0, 0]
def k0_off35 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1136 : Index := Scalar.indexCast arg25
  let c1_686 : Index := 1#32
  let c0_687 : Index := 0#32
  let c1024_688 : Index := 1024#32
  ![v1136.toNat, 1, 0, 1024]
def k0_off36 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1143 : Index := Scalar.indexCast arg25
  let c1_689 : Index := 1#32
  let c0_690 : Index := 0#32
  let c128_691 : Index := 128#32
  ![v1143.toNat, 1, 0, 128]
def k0_mult7 (k0_t2 : Fin k0_t2_loop.trips) : BitVec 32 :=
  let c0_i32_61 : BitVec 32 := 0#32
  let c1_i32_62 : BitVec 32 := 1#32
  let arg25 : BitVec 32 := Scf.iv c0_i32_61 c1_i32_62 k0_t2
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let c2_i32_785 : BitVec 32 := 2#32
  let v1382 : BitVec 32 := Scalar.addi v611 c2_i32_785
  let c8_i32_786 : BitVec 32 := 8#32
  let v1383 : BitVec 32 := Scalar.muli v1382 c8_i32_786
  v1383
def k0_off37 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1399 : Index := Scalar.indexCast arg25
  let c2_792 : Index := 2#32
  let c0_793 : Index := 0#32
  let c0_794 : Index := 0#32
  ![v1399.toNat, 2, 0, 0]
def k0_off38 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1403 : Index := Scalar.indexCast arg25
  let c2_795 : Index := 2#32
  let c0_796 : Index := 0#32
  let c1024_797 : Index := 1024#32
  ![v1403.toNat, 2, 0, 1024]
def k0_off39 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1411 : Index := Scalar.indexCast arg25
  let c2_798 : Index := 2#32
  let c0_799 : Index := 0#32
  let c128_800 : Index := 128#32
  ![v1411.toNat, 2, 0, 128]
def k0_off40 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1453 : Index := Scalar.indexCast arg25
  let c2_813 : Index := 2#32
  let c0_814 : Index := 0#32
  let c0_815 : Index := 0#32
  ![v1453.toNat, 2, 0, 0]
def k0_off41 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1457 : Index := Scalar.indexCast arg25
  let c2_816 : Index := 2#32
  let c0_817 : Index := 0#32
  let c1024_818 : Index := 1024#32
  ![v1457.toNat, 2, 0, 1024]
def k0_off42 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1464 : Index := Scalar.indexCast arg25
  let c2_819 : Index := 2#32
  let c0_820 : Index := 0#32
  let c128_821 : Index := 128#32
  ![v1464.toNat, 2, 0, 128]
def k0_mult8 (k0_t2 : Fin k0_t2_loop.trips) : BitVec 32 :=
  let c0_i32_61 : BitVec 32 := 0#32
  let c1_i32_62 : BitVec 32 := 1#32
  let arg25 : BitVec 32 := Scf.iv c0_i32_61 c1_i32_62 k0_t2
  let c4_i32_456 : BitVec 32 := 4#32
  let c0_i32_457 : BitVec 32 := 0#32
  let v601 : BitVec 1 := Scalar.cmpi .eq c4_i32_456 c0_i32_457
  let c1_i32_458 : BitVec 32 := 1#32
  let v602 : BitVec 32 := Scalar.select v601 c1_i32_458 c4_i32_456
  let v603 : BitVec 32 := Scalar.remsi arg25 v602
  let c0_i32_460 : BitVec 32 := 0#32
  let v605 : BitVec 1 := Scalar.cmpi .slt v603 c0_i32_460
  let c0_i32_461 : BitVec 32 := 0#32
  let v606 : BitVec 1 := Scalar.cmpi .slt v602 c0_i32_461
  let v607 : BitVec 1 := Scalar.xori v605 v606
  let c0_i32_459 : BitVec 32 := 0#32
  let v604 : BitVec 1 := Scalar.cmpi .ne v603 c0_i32_459
  let v608 : BitVec 1 := Scalar.andi v607 v604
  let v609 : BitVec 32 := Scalar.addi v603 v602
  let v610 : BitVec 32 := Scalar.select v608 v609 v603
  let c4_i32_462 : BitVec 32 := 4#32
  let v611 : BitVec 32 := Scalar.muli v610 c4_i32_462
  let c3_i32_915 : BitVec 32 := 3#32
  let v1703 : BitVec 32 := Scalar.addi v611 c3_i32_915
  let c8_i32_916 : BitVec 32 := 8#32
  let v1704 : BitVec 32 := Scalar.muli v1703 c8_i32_916
  v1704
def k0_off43 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1720 : Index := Scalar.indexCast arg25
  let c3_922 : Index := 3#32
  let c0_923 : Index := 0#32
  let c0_924 : Index := 0#32
  ![v1720.toNat, 3, 0, 0]
def k0_off44 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1724 : Index := Scalar.indexCast arg25
  let c3_925 : Index := 3#32
  let c0_926 : Index := 0#32
  let c1024_927 : Index := 1024#32
  ![v1724.toNat, 3, 0, 1024]
def k0_off45 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1732 : Index := Scalar.indexCast arg25
  let c3_928 : Index := 3#32
  let c0_929 : Index := 0#32
  let c128_930 : Index := 128#32
  ![v1732.toNat, 3, 0, 128]
def k0_off46 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1774 : Index := Scalar.indexCast arg25
  let c3_943 : Index := 3#32
  let c0_944 : Index := 0#32
  let c0_945 : Index := 0#32
  ![v1774.toNat, 3, 0, 0]
def k0_off47 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1778 : Index := Scalar.indexCast arg25
  let c3_946 : Index := 3#32
  let c0_947 : Index := 0#32
  let c1024_948 : Index := 1024#32
  ![v1778.toNat, 3, 0, 1024]
def k0_off48 (k0_t2 : Fin k0_t2_loop.trips) : Fin 4 → Nat :=
  let c0_i32_61 : BitVec 32 := 0#32
  let c1_i32_62 : BitVec 32 := 1#32
  let arg25 : BitVec 32 := Scf.iv c0_i32_61 c1_i32_62 k0_t2
  let v1785 : Index := Scalar.indexCast arg25
  let c3_949 : Index := 3#32
  let c0_950 : Index := 0#32
  let c128_951 : Index := 128#32
  ![v1785.toNat, 3, 0, 128]
abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1x128x128 : Shape := ⟨4, ![4, 1, 128, 128]⟩
abbrev S4x1x16x128 : Shape := ⟨4, ![4, 1, 16, 128]⟩
abbrev S4x8192x16x64 : Shape := ⟨4, ![4, 8192, 16, 64]⟩
abbrev S4x8192x16x8 : Shape := ⟨4, ![4, 8192, 16, 8]⟩
abbrev S_ : Shape := ⟨0, ![]⟩
abbrev S4 : Shape := ⟨1, ![4]⟩
abbrev S1x8192x16x64 : Shape := ⟨4, ![1, 8192, 16, 64]⟩
abbrev S8192x16x64 : Shape := ⟨3, ![8192, 16, 64]⟩
abbrev S1 : Shape := ⟨1, ![1]⟩
abbrev S1024x16x64 : Shape := ⟨3, ![1024, 16, 64]⟩
abbrev S1x1024x16x64 : Shape := ⟨4, ![1, 1024, 16, 64]⟩
abbrev S4x1024x16x64 : Shape := ⟨4, ![4, 1024, 16, 64]⟩
abbrev S1x8192x16x8 : Shape := ⟨4, ![1, 8192, 16, 8]⟩
abbrev S8192x16x8 : Shape := ⟨3, ![8192, 16, 8]⟩
abbrev S1024x16x8 : Shape := ⟨3, ![1024, 16, 8]⟩
abbrev S1x1024x16x8 : Shape := ⟨4, ![1, 1024, 16, 8]⟩
abbrev S4x1024x16x8 : Shape := ⟨4, ![4, 1024, 16, 8]⟩
abbrev S4x1024x16x128 : Shape := ⟨4, ![4, 1024, 16, 128]⟩
abbrev S4x1024x16x8x8 : Shape := ⟨5, ![4, 1024, 16, 8, 8]⟩
abbrev S4x1x16x8x128 : Shape := ⟨5, ![4, 1, 16, 8, 128]⟩
abbrev S4x1x16x8x64 : Shape := ⟨5, ![4, 1, 16, 8, 64]⟩
abbrev S4x16x1024x1x8 : Shape := ⟨5, ![4, 16, 1024, 1, 8]⟩
abbrev S4x16x8x1x1024 : Shape := ⟨5, ![4, 16, 8, 1, 1024]⟩
abbrev S4x16x1x1x8 : Shape := ⟨5, ![4, 16, 1, 1, 8]⟩
abbrev S4x16x8x1x1 : Shape := ⟨5, ![4, 16, 8, 1, 1]⟩
abbrev S4x1 : Shape := ⟨2, ![4, 1]⟩
abbrev S1024 : Shape := ⟨1, ![1024]⟩
abbrev S1x1024 : Shape := ⟨2, ![1, 1024]⟩
abbrev S4x1024 : Shape := ⟨2, ![4, 1024]⟩
abbrev S1x1 : Shape := ⟨2, ![1, 1]⟩
abbrev S4x1x1024 : Shape := ⟨3, ![4, 1, 1024]⟩
abbrev S4x1x1 : Shape := ⟨3, ![4, 1, 1]⟩
abbrev S4x1x1x1x1024 : Shape := ⟨5, ![4, 1, 1, 1, 1024]⟩
abbrev S4x16x8x1 : Shape := ⟨4, ![4, 16, 8, 1]⟩
abbrev S4x16x128x8x1 : Shape := ⟨5, ![4, 16, 128, 8, 1]⟩
abbrev S4x1x16x8x64x1 : Shape := ⟨6, ![4, 1, 16, 8, 64, 1]⟩
abbrev S4x1x16x8x64x2 : Shape := ⟨6, ![4, 1, 16, 8, 64, 2]⟩
abbrev S4x16384 : Shape := ⟨2, ![4, 16384]⟩

abbrev nBuf : Space → Nat
  | .hbm => 419
  | .vmem => 4
  | .smem => 0
  | _ => 0

abbrev hbmTy0_0 (i : Nat) : BufTy := match i % 128 with
  | 0 => ⟨S4x1x128x128, .bf16⟩
  | 1 => ⟨S4x1x16x128, .bf16⟩
  | 2 => ⟨S4x1x16x128, .bf16⟩
  | 3 => ⟨S4x8192x16x64, .i8⟩
  | 4 => ⟨S4x8192x16x64, .i8⟩
  | 5 => ⟨S4x8192x16x8, .fp8e4m3⟩
  | 6 => ⟨S4x8192x16x8, .fp8e4m3⟩
  | 7 => ⟨S_, .f32⟩
  | 8 => ⟨S_, .f32⟩
  | 9 => ⟨S4, .i32⟩
  | 10 => ⟨S4x8192x16x8, .bf16⟩
  | 11 => ⟨S4x8192x16x8, .bf16⟩
  | 12 => ⟨S_, .i32⟩
  | 13 => ⟨S4, .i32⟩
  | 14 => ⟨S4, .i32⟩
  | 15 => ⟨S_, .i32⟩
  | 16 => ⟨S_, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S1x8192x16x64, .i8⟩
  | 24 => ⟨S8192x16x64, .i8⟩
  | 25 => ⟨S1, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S1024x16x64, .i8⟩
  | 35 => ⟨S1x8192x16x64, .i8⟩
  | 36 => ⟨S8192x16x64, .i8⟩
  | 37 => ⟨S1, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1024x16x64, .i8⟩
  | 47 => ⟨S1x8192x16x64, .i8⟩
  | 48 => ⟨S8192x16x64, .i8⟩
  | 49 => ⟨S1, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1024x16x64, .i8⟩
  | 59 => ⟨S1x8192x16x64, .i8⟩
  | 60 => ⟨S8192x16x64, .i8⟩
  | 61 => ⟨S1, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S1024x16x64, .i8⟩
  | 71 => ⟨S1x1024x16x64, .i8⟩
  | 72 => ⟨S1x1024x16x64, .i8⟩
  | 73 => ⟨S1x1024x16x64, .i8⟩
  | 74 => ⟨S1x1024x16x64, .i8⟩
  | 75 => ⟨S4x1024x16x64, .i8⟩
  | 76 => ⟨S1x8192x16x8, .bf16⟩
  | 77 => ⟨S8192x16x8, .bf16⟩
  | 78 => ⟨S1, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S1024x16x8, .bf16⟩
  | 88 => ⟨S1x8192x16x8, .bf16⟩
  | 89 => ⟨S8192x16x8, .bf16⟩
  | 90 => ⟨S1, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S1024x16x8, .bf16⟩
  | 100 => ⟨S1x8192x16x8, .bf16⟩
  | 101 => ⟨S8192x16x8, .bf16⟩
  | 102 => ⟨S1, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S1024x16x8, .bf16⟩
  | 112 => ⟨S1x8192x16x8, .bf16⟩
  | 113 => ⟨S8192x16x8, .bf16⟩
  | 114 => ⟨S1, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S1024x16x8, .bf16⟩
  | 124 => ⟨S1x1024x16x8, .bf16⟩
  | 125 => ⟨S1x1024x16x8, .bf16⟩
  | 126 => ⟨S1x1024x16x8, .bf16⟩
  | 127 => ⟨S1x1024x16x8, .bf16⟩
  | _ => ⟨S4x1x128x128, .bf16⟩

abbrev hbmTy0_1 (i : Nat) : BufTy := match i % 128 with
  | 0 => ⟨S4x1024x16x8, .bf16⟩
  | 1 => ⟨S4x1024x16x64, .i32⟩
  | 2 => ⟨S_, .i32⟩
  | 3 => ⟨S4x1024x16x64, .i32⟩
  | 4 => ⟨S4x1024x16x64, .i32⟩
  | 5 => ⟨S_, .i32⟩
  | 6 => ⟨S4x1024x16x64, .i32⟩
  | 7 => ⟨S4x1024x16x64, .i32⟩
  | 8 => ⟨S4x1024x16x128, .i32⟩
  | 9 => ⟨S4x1024x16x8x8, .bf16⟩
  | 10 => ⟨S4x1024x16x64, .bf16⟩
  | 11 => ⟨S4x1024x16x128, .bf16⟩
  | 12 => ⟨S_, .i32⟩
  | 13 => ⟨S4x1024x16x128, .i32⟩
  | 14 => ⟨S4x1024x16x128, .i32⟩
  | 15 => ⟨S_, .i32⟩
  | 16 => ⟨S4x1024x16x128, .i32⟩
  | 17 => ⟨S4x1024x16x128, .i1⟩
  | 18 => ⟨S_, .i32⟩
  | 19 => ⟨S4x1024x16x128, .i32⟩
  | 20 => ⟨S4x1024x16x128, .i32⟩
  | 21 => ⟨S_, .i32⟩
  | 22 => ⟨S4x1024x16x128, .i32⟩
  | 23 => ⟨S4x1024x16x128, .i32⟩
  | 24 => ⟨S_, .i32⟩
  | 25 => ⟨S4x1024x16x128, .i32⟩
  | 26 => ⟨S4x1024x16x128, .i1⟩
  | 27 => ⟨S_, .i32⟩
  | 28 => ⟨S_, .i32⟩
  | 29 => ⟨S4x1024x16x128, .i32⟩
  | 30 => ⟨S4x1024x16x128, .i32⟩
  | 31 => ⟨S4x1024x16x128, .i32⟩
  | 32 => ⟨S4x1024x16x128, .i32⟩
  | 33 => ⟨S4x1024x16x128, .i32⟩
  | 34 => ⟨S_, .i32⟩
  | 35 => ⟨S4x1024x16x128, .i32⟩
  | 36 => ⟨S4x1024x16x128, .i32⟩
  | 37 => ⟨S_, .i32⟩
  | 38 => ⟨S4x1024x16x128, .i32⟩
  | 39 => ⟨S4x1024x16x128, .i32⟩
  | 40 => ⟨S4x1024x16x128, .i32⟩
  | 41 => ⟨S4x1024x16x128, .i16⟩
  | 42 => ⟨S4x1024x16x128, .bf16⟩
  | 43 => ⟨S4x1024x16x128, .bf16⟩
  | 44 => ⟨S1x8192x16x64, .i8⟩
  | 45 => ⟨S8192x16x64, .i8⟩
  | 46 => ⟨S1, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S1024x16x64, .i8⟩
  | 56 => ⟨S1x8192x16x64, .i8⟩
  | 57 => ⟨S8192x16x64, .i8⟩
  | 58 => ⟨S1, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S1024x16x64, .i8⟩
  | 68 => ⟨S1x8192x16x64, .i8⟩
  | 69 => ⟨S8192x16x64, .i8⟩
  | 70 => ⟨S1, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S1024x16x64, .i8⟩
  | 80 => ⟨S1x8192x16x64, .i8⟩
  | 81 => ⟨S8192x16x64, .i8⟩
  | 82 => ⟨S1, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S1024x16x64, .i8⟩
  | 92 => ⟨S1x1024x16x64, .i8⟩
  | 93 => ⟨S1x1024x16x64, .i8⟩
  | 94 => ⟨S1x1024x16x64, .i8⟩
  | 95 => ⟨S1x1024x16x64, .i8⟩
  | 96 => ⟨S4x1024x16x64, .i8⟩
  | 97 => ⟨S1x8192x16x8, .bf16⟩
  | 98 => ⟨S8192x16x8, .bf16⟩
  | 99 => ⟨S1, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1024x16x8, .bf16⟩
  | 109 => ⟨S1x8192x16x8, .bf16⟩
  | 110 => ⟨S8192x16x8, .bf16⟩
  | 111 => ⟨S1, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S1024x16x8, .bf16⟩
  | 121 => ⟨S1x8192x16x8, .bf16⟩
  | 122 => ⟨S8192x16x8, .bf16⟩
  | 123 => ⟨S1, .i32⟩
  | 124 => ⟨S_, .i32⟩
  | 125 => ⟨S_, .i32⟩
  | 126 => ⟨S_, .i1⟩
  | 127 => ⟨S_, .i32⟩
  | _ => ⟨S4x1x128x128, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S1024x16x8, .bf16⟩
  | 5 => ⟨S1x8192x16x8, .bf16⟩
  | 6 => ⟨S8192x16x8, .bf16⟩
  | 7 => ⟨S1, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S1024x16x8, .bf16⟩
  | 17 => ⟨S1x1024x16x8, .bf16⟩
  | 18 => ⟨S1x1024x16x8, .bf16⟩
  | 19 => ⟨S1x1024x16x8, .bf16⟩
  | 20 => ⟨S1x1024x16x8, .bf16⟩
  | 21 => ⟨S4x1024x16x8, .bf16⟩
  | 22 => ⟨S4x1024x16x64, .i32⟩
  | 23 => ⟨S_, .i32⟩
  | 24 => ⟨S4x1024x16x64, .i32⟩
  | 25 => ⟨S4x1024x16x64, .i32⟩
  | 26 => ⟨S_, .i32⟩
  | 27 => ⟨S4x1024x16x64, .i32⟩
  | 28 => ⟨S4x1024x16x64, .i32⟩
  | 29 => ⟨S4x1024x16x128, .i32⟩
  | 30 => ⟨S4x1024x16x8x8, .bf16⟩
  | 31 => ⟨S4x1024x16x64, .bf16⟩
  | 32 => ⟨S4x1024x16x128, .bf16⟩
  | 33 => ⟨S_, .i32⟩
  | 34 => ⟨S4x1024x16x128, .i32⟩
  | 35 => ⟨S4x1024x16x128, .i32⟩
  | 36 => ⟨S_, .i32⟩
  | 37 => ⟨S4x1024x16x128, .i32⟩
  | 38 => ⟨S4x1024x16x128, .i1⟩
  | 39 => ⟨S_, .i32⟩
  | 40 => ⟨S4x1024x16x128, .i32⟩
  | 41 => ⟨S4x1024x16x128, .i32⟩
  | 42 => ⟨S_, .i32⟩
  | 43 => ⟨S4x1024x16x128, .i32⟩
  | 44 => ⟨S4x1024x16x128, .i32⟩
  | 45 => ⟨S_, .i32⟩
  | 46 => ⟨S4x1024x16x128, .i32⟩
  | 47 => ⟨S4x1024x16x128, .i1⟩
  | 48 => ⟨S_, .i32⟩
  | 49 => ⟨S_, .i32⟩
  | 50 => ⟨S4x1024x16x128, .i32⟩
  | 51 => ⟨S4x1024x16x128, .i32⟩
  | 52 => ⟨S4x1024x16x128, .i32⟩
  | 53 => ⟨S4x1024x16x128, .i32⟩
  | 54 => ⟨S4x1024x16x128, .i32⟩
  | 55 => ⟨S_, .i32⟩
  | 56 => ⟨S4x1024x16x128, .i32⟩
  | 57 => ⟨S4x1024x16x128, .i32⟩
  | 58 => ⟨S_, .i32⟩
  | 59 => ⟨S4x1024x16x128, .i32⟩
  | 60 => ⟨S4x1024x16x128, .i32⟩
  | 61 => ⟨S4x1024x16x128, .i32⟩
  | 62 => ⟨S4x1024x16x128, .i16⟩
  | 63 => ⟨S4x1024x16x128, .bf16⟩
  | 64 => ⟨S4x1024x16x128, .bf16⟩
  | 65 => ⟨S4x1x16x8x128, .bf16⟩
  | 66 => ⟨S4x1x16x8x64, .bf16⟩
  | 67 => ⟨S4x1x16x8x64, .bf16⟩
  | 68 => ⟨S4x1x16x8x128, .bf16⟩
  | 69 => ⟨S4x16x1024x1x8, .f32⟩
  | 70 => ⟨S4x16x8x1x1024, .f32⟩
  | 71 => ⟨S_, .f32⟩
  | 72 => ⟨S_, .f32⟩
  | 73 => ⟨S4x16x8x1x1024, .f32⟩
  | 74 => ⟨S4x16x8x1x1024, .f32⟩
  | 75 => ⟨S4x16x1x1x8, .f32⟩
  | 76 => ⟨S4x16x8x1x1, .f32⟩
  | 77 => ⟨S_, .f32⟩
  | 78 => ⟨S4x16x8x1x1, .f32⟩
  | 79 => ⟨S4x16x8x1x1, .f32⟩
  | 80 => ⟨S4x1, .i32⟩
  | 81 => ⟨S1024, .i32⟩
  | 82 => ⟨S1x1024, .i32⟩
  | 83 => ⟨S4x1024, .i32⟩
  | 84 => ⟨S4x1024, .i32⟩
  | 85 => ⟨S4x1024, .i32⟩
  | 86 => ⟨S4x1, .i32⟩
  | 87 => ⟨S1, .i32⟩
  | 88 => ⟨S1x1, .i32⟩
  | 89 => ⟨S4x1, .i32⟩
  | 90 => ⟨S4x1, .i32⟩
  | 91 => ⟨S4x1x1024, .i32⟩
  | 92 => ⟨S4x1x1, .i32⟩
  | 93 => ⟨S4x1x1024, .i32⟩
  | 94 => ⟨S4x1x1024, .i1⟩
  | 95 => ⟨S4x1x1024, .i32⟩
  | 96 => ⟨S4x1x1, .i32⟩
  | 97 => ⟨S_, .i32⟩
  | 98 => ⟨S4x1x1, .i32⟩
  | 99 => ⟨S4x1x1, .i32⟩
  | 100 => ⟨S4x1x1024, .i32⟩
  | 101 => ⟨S4x1x1024, .i1⟩
  | 102 => ⟨S4x1x1024, .i1⟩
  | 103 => ⟨S1, .i32⟩
  | 104 => ⟨S1x1, .i32⟩
  | 105 => ⟨S1, .i32⟩
  | 106 => ⟨S1x1, .i32⟩
  | 107 => ⟨S1x1, .i1⟩
  | 108 => ⟨S1x1, .i32⟩
  | 109 => ⟨S_, .i32⟩
  | 110 => ⟨S1x1, .i32⟩
  | 111 => ⟨S1x1, .i1⟩
  | 112 => ⟨S1x1, .i1⟩
  | 113 => ⟨S4x1x1x1x1024, .i1⟩
  | 114 => ⟨S_, .f32⟩
  | 115 => ⟨S_, .f32⟩
  | 116 => ⟨S4x16x8x1x1024, .i1⟩
  | 117 => ⟨S4x16x8x1x1024, .f32⟩
  | 118 => ⟨S4x16x8x1x1024, .f32⟩
  | 119 => ⟨S_, .f32⟩
  | 120 => ⟨S_, .f32⟩
  | 121 => ⟨S4x16x8x1x1, .i1⟩
  | 122 => ⟨S4x16x8x1x1, .f32⟩
  | 123 => ⟨S4x16x8x1x1, .f32⟩
  | 124 => ⟨S_, .f32⟩
  | 125 => ⟨S4x16x8x1, .f32⟩
  | 126 => ⟨S4x16x8x1x1, .f32⟩
  | 127 => ⟨S_, .f32⟩
  | _ => ⟨S4x1x128x128, .bf16⟩

abbrev hbmTy0_3 (i : Nat) : BufTy := match i % 128 with
  | 0 => ⟨S4x16x8x1, .f32⟩
  | 1 => ⟨S4x16x8x1x1, .f32⟩
  | 2 => ⟨S4x16x8x1x1, .f32⟩
  | 3 => ⟨S4x16x8x1x1024, .f32⟩
  | 4 => ⟨S4x16x8x1x1024, .f32⟩
  | 5 => ⟨S4x16x8x1x1024, .f32⟩
  | 6 => ⟨S4x16x8x1x1, .f32⟩
  | 7 => ⟨S4x16x8x1x1, .f32⟩
  | 8 => ⟨S_, .f32⟩
  | 9 => ⟨S4x16x8x1, .f32⟩
  | 10 => ⟨S4x16x8x1x1, .f32⟩
  | 11 => ⟨S_, .f32⟩
  | 12 => ⟨S4x16x8x1, .f32⟩
  | 13 => ⟨S4x16x8x1x1, .f32⟩
  | 14 => ⟨S4x16x8x1x1, .f32⟩
  | 15 => ⟨S4x16x8x1x1024, .f32⟩
  | 16 => ⟨S4x16x8x1x1024, .f32⟩
  | 17 => ⟨S4x16x8x1x1024, .f32⟩
  | 18 => ⟨S4x16x8x1x1024, .f32⟩
  | 19 => ⟨S4x16x8x1x1024, .bf16⟩
  | 20 => ⟨S4x16x8x1x1, .f32⟩
  | 21 => ⟨S4x16x8x1x1, .bf16⟩
  | 22 => ⟨S4x16x128x8x1, .f32⟩
  | 23 => ⟨S4x1x16x8x128, .f32⟩
  | 24 => ⟨S4x16x128x8x1, .f32⟩
  | 25 => ⟨S4x1x16x8x128, .f32⟩
  | 26 => ⟨S4x1x16x8x64, .f32⟩
  | 27 => ⟨S4x1x16x8x64, .f32⟩
  | 28 => ⟨S4x1x16x8x64x1, .f32⟩
  | 29 => ⟨S4x1x16x8x64x1, .f32⟩
  | 30 => ⟨S4x1x16x8x64x2, .f32⟩
  | 31 => ⟨S4x1x16x8x128, .f32⟩
  | 32 => ⟨S4x1x16x8x128, .f32⟩
  | 33 => ⟨S4x16384, .f32⟩
  | 34 => ⟨S4x16384, .bf16⟩
  | _ => ⟨S4x1x128x128, .bf16⟩

abbrev hbmTy (i : Nat) : BufTy := match i / 128 with
  | 0 => hbmTy0_0 i
  | 1 => hbmTy0_1 i
  | 2 => hbmTy0_2 i
  | 3 => hbmTy0_3 i
  | _ => ⟨S4x1x128x128, .bf16⟩

abbrev bufTy : (tb : Table) → Fin (tcTables nBuf tb) → BufTy
  | .hbm, ⟨i, _⟩ => hbmTy i
  | .local _ .vmem, ⟨0, _⟩ => ⟨S4x8192x16x8, .fp8e4m3⟩
  | .local _ .vmem, ⟨1, _⟩ => ⟨S4x8192x16x8, .fp8e4m3⟩
  | .local _ .vmem, ⟨2, _⟩ => ⟨S4x8192x16x8, .bf16⟩
  | .local _ .vmem, ⟨3, _⟩ => ⟨S4x8192x16x8, .bf16⟩
  | _, _ => ⟨S4x1x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_c_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_6 : Ref sig .tc := ⟨.hbm, 39, rfl⟩
abbrev main_v16 : Ref sig .tc := ⟨.hbm, 40, rfl⟩
abbrev main_c_7 : Ref sig .tc := ⟨.hbm, 41, rfl⟩
abbrev main_v17 : Ref sig .tc := ⟨.hbm, 42, rfl⟩
abbrev main_v18 : Ref sig .tc := ⟨.hbm, 43, rfl⟩
abbrev main_c_8 : Ref sig .tc := ⟨.hbm, 44, rfl⟩
abbrev main_c_9 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_10 : Ref sig .tc := ⟨.hbm, 51, rfl⟩
abbrev main_v24 : Ref sig .tc := ⟨.hbm, 52, rfl⟩
abbrev main_c_11 : Ref sig .tc := ⟨.hbm, 53, rfl⟩
abbrev main_v25 : Ref sig .tc := ⟨.hbm, 54, rfl⟩
abbrev main_v26 : Ref sig .tc := ⟨.hbm, 55, rfl⟩
abbrev main_c_12 : Ref sig .tc := ⟨.hbm, 56, rfl⟩
abbrev main_c_13 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_14 : Ref sig .tc := ⟨.hbm, 63, rfl⟩
abbrev main_v32 : Ref sig .tc := ⟨.hbm, 64, rfl⟩
abbrev main_c_15 : Ref sig .tc := ⟨.hbm, 65, rfl⟩
abbrev main_v33 : Ref sig .tc := ⟨.hbm, 66, rfl⟩
abbrev main_v34 : Ref sig .tc := ⟨.hbm, 67, rfl⟩
abbrev main_c_16 : Ref sig .tc := ⟨.hbm, 68, rfl⟩
abbrev main_c_17 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_18 : Ref sig .tc := ⟨.hbm, 80, rfl⟩
abbrev main_v45 : Ref sig .tc := ⟨.hbm, 81, rfl⟩
abbrev main_c_19 : Ref sig .tc := ⟨.hbm, 82, rfl⟩
abbrev main_v46 : Ref sig .tc := ⟨.hbm, 83, rfl⟩
abbrev main_v47 : Ref sig .tc := ⟨.hbm, 84, rfl⟩
abbrev main_c_20 : Ref sig .tc := ⟨.hbm, 85, rfl⟩
abbrev main_c_21 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_22 : Ref sig .tc := ⟨.hbm, 92, rfl⟩
abbrev main_v53 : Ref sig .tc := ⟨.hbm, 93, rfl⟩
abbrev main_c_23 : Ref sig .tc := ⟨.hbm, 94, rfl⟩
abbrev main_v54 : Ref sig .tc := ⟨.hbm, 95, rfl⟩
abbrev main_v55 : Ref sig .tc := ⟨.hbm, 96, rfl⟩
abbrev main_c_24 : Ref sig .tc := ⟨.hbm, 97, rfl⟩
abbrev main_c_25 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_c_26 : Ref sig .tc := ⟨.hbm, 104, rfl⟩
abbrev main_v61 : Ref sig .tc := ⟨.hbm, 105, rfl⟩
abbrev main_c_27 : Ref sig .tc := ⟨.hbm, 106, rfl⟩
abbrev main_v62 : Ref sig .tc := ⟨.hbm, 107, rfl⟩
abbrev main_v63 : Ref sig .tc := ⟨.hbm, 108, rfl⟩
abbrev main_c_28 : Ref sig .tc := ⟨.hbm, 109, rfl⟩
abbrev main_c_29 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_30 : Ref sig .tc := ⟨.hbm, 116, rfl⟩
abbrev main_v69 : Ref sig .tc := ⟨.hbm, 117, rfl⟩
abbrev main_c_31 : Ref sig .tc := ⟨.hbm, 118, rfl⟩
abbrev main_v70 : Ref sig .tc := ⟨.hbm, 119, rfl⟩
abbrev main_v71 : Ref sig .tc := ⟨.hbm, 120, rfl⟩
abbrev main_c_32 : Ref sig .tc := ⟨.hbm, 121, rfl⟩
abbrev main_c_33 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_34 : Ref sig .tc := ⟨.hbm, 130, rfl⟩
abbrev main_v79 : Ref sig .tc := ⟨.hbm, 131, rfl⟩
abbrev main_v80 : Ref sig .tc := ⟨.hbm, 132, rfl⟩
abbrev main_c_35 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_c_36 : Ref sig .tc := ⟨.hbm, 140, rfl⟩
abbrev main_v87 : Ref sig .tc := ⟨.hbm, 141, rfl⟩
abbrev main_v88 : Ref sig .tc := ⟨.hbm, 142, rfl⟩
abbrev main_c_37 : Ref sig .tc := ⟨.hbm, 143, rfl⟩
abbrev main_v89 : Ref sig .tc := ⟨.hbm, 144, rfl⟩
abbrev main_v90 : Ref sig .tc := ⟨.hbm, 145, rfl⟩
abbrev main_c_38 : Ref sig .tc := ⟨.hbm, 146, rfl⟩
abbrev main_v91 : Ref sig .tc := ⟨.hbm, 147, rfl⟩
abbrev main_v92 : Ref sig .tc := ⟨.hbm, 148, rfl⟩
abbrev main_c_39 : Ref sig .tc := ⟨.hbm, 149, rfl⟩
abbrev main_v93 : Ref sig .tc := ⟨.hbm, 150, rfl⟩
abbrev main_v94 : Ref sig .tc := ⟨.hbm, 151, rfl⟩
abbrev main_c_40 : Ref sig .tc := ⟨.hbm, 152, rfl⟩
abbrev main_v95 : Ref sig .tc := ⟨.hbm, 153, rfl⟩
abbrev main_v96 : Ref sig .tc := ⟨.hbm, 154, rfl⟩
abbrev main_c_41 : Ref sig .tc := ⟨.hbm, 155, rfl⟩
abbrev main_c_42 : Ref sig .tc := ⟨.hbm, 156, rfl⟩
abbrev main_call1_v0 : Ref sig .tc := ⟨.hbm, 157, rfl⟩
abbrev main_call1_v1 : Ref sig .tc := ⟨.hbm, 158, rfl⟩
abbrev main_v97 : Ref sig .tc := ⟨.hbm, 159, rfl⟩
abbrev main_call2_v0 : Ref sig .tc := ⟨.hbm, 160, rfl⟩
abbrev main_v98 : Ref sig .tc := ⟨.hbm, 161, rfl⟩
abbrev main_c_43 : Ref sig .tc := ⟨.hbm, 162, rfl⟩
abbrev main_v99 : Ref sig .tc := ⟨.hbm, 163, rfl⟩
abbrev main_v100 : Ref sig .tc := ⟨.hbm, 164, rfl⟩
abbrev main_c_44 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_c_45 : Ref sig .tc := ⟨.hbm, 176, rfl⟩
abbrev main_v111 : Ref sig .tc := ⟨.hbm, 177, rfl⟩
abbrev main_c_46 : Ref sig .tc := ⟨.hbm, 178, rfl⟩
abbrev main_v112 : Ref sig .tc := ⟨.hbm, 179, rfl⟩
abbrev main_v113 : Ref sig .tc := ⟨.hbm, 180, rfl⟩
abbrev main_c_47 : Ref sig .tc := ⟨.hbm, 181, rfl⟩
abbrev main_c_48 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_c_49 : Ref sig .tc := ⟨.hbm, 188, rfl⟩
abbrev main_v119 : Ref sig .tc := ⟨.hbm, 189, rfl⟩
abbrev main_c_50 : Ref sig .tc := ⟨.hbm, 190, rfl⟩
abbrev main_v120 : Ref sig .tc := ⟨.hbm, 191, rfl⟩
abbrev main_v121 : Ref sig .tc := ⟨.hbm, 192, rfl⟩
abbrev main_c_51 : Ref sig .tc := ⟨.hbm, 193, rfl⟩
abbrev main_c_52 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_c_53 : Ref sig .tc := ⟨.hbm, 200, rfl⟩
abbrev main_v127 : Ref sig .tc := ⟨.hbm, 201, rfl⟩
abbrev main_c_54 : Ref sig .tc := ⟨.hbm, 202, rfl⟩
abbrev main_v128 : Ref sig .tc := ⟨.hbm, 203, rfl⟩
abbrev main_v129 : Ref sig .tc := ⟨.hbm, 204, rfl⟩
abbrev main_c_55 : Ref sig .tc := ⟨.hbm, 205, rfl⟩
abbrev main_c_56 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_c_57 : Ref sig .tc := ⟨.hbm, 212, rfl⟩
abbrev main_v135 : Ref sig .tc := ⟨.hbm, 213, rfl⟩
abbrev main_c_58 : Ref sig .tc := ⟨.hbm, 214, rfl⟩
abbrev main_v136 : Ref sig .tc := ⟨.hbm, 215, rfl⟩
abbrev main_v137 : Ref sig .tc := ⟨.hbm, 216, rfl⟩
abbrev main_c_59 : Ref sig .tc := ⟨.hbm, 217, rfl⟩
abbrev main_c_60 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_c_61 : Ref sig .tc := ⟨.hbm, 229, rfl⟩
abbrev main_v148 : Ref sig .tc := ⟨.hbm, 230, rfl⟩
abbrev main_c_62 : Ref sig .tc := ⟨.hbm, 231, rfl⟩
abbrev main_v149 : Ref sig .tc := ⟨.hbm, 232, rfl⟩
abbrev main_v150 : Ref sig .tc := ⟨.hbm, 233, rfl⟩
abbrev main_c_63 : Ref sig .tc := ⟨.hbm, 234, rfl⟩
abbrev main_c_64 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_c_65 : Ref sig .tc := ⟨.hbm, 241, rfl⟩
abbrev main_v156 : Ref sig .tc := ⟨.hbm, 242, rfl⟩
abbrev main_c_66 : Ref sig .tc := ⟨.hbm, 243, rfl⟩
abbrev main_v157 : Ref sig .tc := ⟨.hbm, 244, rfl⟩
abbrev main_v158 : Ref sig .tc := ⟨.hbm, 245, rfl⟩
abbrev main_c_67 : Ref sig .tc := ⟨.hbm, 246, rfl⟩
abbrev main_c_68 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_c_69 : Ref sig .tc := ⟨.hbm, 253, rfl⟩
abbrev main_v164 : Ref sig .tc := ⟨.hbm, 254, rfl⟩
abbrev main_c_70 : Ref sig .tc := ⟨.hbm, 255, rfl⟩
abbrev main_v165 : Ref sig .tc := ⟨.hbm, 256, rfl⟩
abbrev main_v166 : Ref sig .tc := ⟨.hbm, 257, rfl⟩
abbrev main_c_71 : Ref sig .tc := ⟨.hbm, 258, rfl⟩
abbrev main_c_72 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_c_73 : Ref sig .tc := ⟨.hbm, 265, rfl⟩
abbrev main_v172 : Ref sig .tc := ⟨.hbm, 266, rfl⟩
abbrev main_c_74 : Ref sig .tc := ⟨.hbm, 267, rfl⟩
abbrev main_v173 : Ref sig .tc := ⟨.hbm, 268, rfl⟩
abbrev main_v174 : Ref sig .tc := ⟨.hbm, 269, rfl⟩
abbrev main_c_75 : Ref sig .tc := ⟨.hbm, 270, rfl⟩
abbrev main_c_76 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_c_77 : Ref sig .tc := ⟨.hbm, 279, rfl⟩
abbrev main_v182 : Ref sig .tc := ⟨.hbm, 280, rfl⟩
abbrev main_v183 : Ref sig .tc := ⟨.hbm, 281, rfl⟩
abbrev main_c_78 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_c_79 : Ref sig .tc := ⟨.hbm, 289, rfl⟩
abbrev main_v190 : Ref sig .tc := ⟨.hbm, 290, rfl⟩
abbrev main_v191 : Ref sig .tc := ⟨.hbm, 291, rfl⟩
abbrev main_c_80 : Ref sig .tc := ⟨.hbm, 292, rfl⟩
abbrev main_v192 : Ref sig .tc := ⟨.hbm, 293, rfl⟩
abbrev main_v193 : Ref sig .tc := ⟨.hbm, 294, rfl⟩
abbrev main_c_81 : Ref sig .tc := ⟨.hbm, 295, rfl⟩
abbrev main_v194 : Ref sig .tc := ⟨.hbm, 296, rfl⟩
abbrev main_v195 : Ref sig .tc := ⟨.hbm, 297, rfl⟩
abbrev main_c_82 : Ref sig .tc := ⟨.hbm, 298, rfl⟩
abbrev main_v196 : Ref sig .tc := ⟨.hbm, 299, rfl⟩
abbrev main_v197 : Ref sig .tc := ⟨.hbm, 300, rfl⟩
abbrev main_c_83 : Ref sig .tc := ⟨.hbm, 301, rfl⟩
abbrev main_v198 : Ref sig .tc := ⟨.hbm, 302, rfl⟩
abbrev main_v199 : Ref sig .tc := ⟨.hbm, 303, rfl⟩
abbrev main_c_84 : Ref sig .tc := ⟨.hbm, 304, rfl⟩
abbrev main_c_85 : Ref sig .tc := ⟨.hbm, 305, rfl⟩
abbrev main_call3_v0 : Ref sig .tc := ⟨.hbm, 306, rfl⟩
abbrev main_call3_v1 : Ref sig .tc := ⟨.hbm, 307, rfl⟩
abbrev main_v200 : Ref sig .tc := ⟨.hbm, 308, rfl⟩
abbrev main_call4_v0 : Ref sig .tc := ⟨.hbm, 309, rfl⟩
abbrev main_v201 : Ref sig .tc := ⟨.hbm, 310, rfl⟩
abbrev main_c_86 : Ref sig .tc := ⟨.hbm, 311, rfl⟩
abbrev main_v202 : Ref sig .tc := ⟨.hbm, 312, rfl⟩
abbrev main_v203 : Ref sig .tc := ⟨.hbm, 313, rfl⟩
abbrev main_c_87 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_cst : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_cst_88 : Ref sig .tc := ⟨.hbm, 333, rfl⟩
abbrev main_v221 : Ref sig .tc := ⟨.hbm, 334, rfl⟩
abbrev main_v222 : Ref sig .tc := ⟨.hbm, 335, rfl⟩
abbrev main_v223 : Ref sig .tc := ⟨.hbm, 336, rfl⟩
abbrev main_v224 : Ref sig .tc := ⟨.hbm, 337, rfl⟩
abbrev main_v225 : Ref sig .tc := ⟨.hbm, 338, rfl⟩
abbrev main_v226 : Ref sig .tc := ⟨.hbm, 339, rfl⟩
abbrev main_v227 : Ref sig .tc := ⟨.hbm, 340, rfl⟩
abbrev main_v228 : Ref sig .tc := ⟨.hbm, 341, rfl⟩
abbrev main_v229 : Ref sig .tc := ⟨.hbm, 342, rfl⟩
abbrev main_v230 : Ref sig .tc := ⟨.hbm, 343, rfl⟩
abbrev main_v231 : Ref sig .tc := ⟨.hbm, 344, rfl⟩
abbrev main_v232 : Ref sig .tc := ⟨.hbm, 345, rfl⟩
abbrev main_v233 : Ref sig .tc := ⟨.hbm, 346, rfl⟩
abbrev main_v234 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_v238 : Ref sig .tc := ⟨.hbm, 351, rfl⟩
abbrev main_v239 : Ref sig .tc := ⟨.hbm, 352, rfl⟩
abbrev main_c_89 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_c_90 : Ref sig .tc := ⟨.hbm, 365, rfl⟩
abbrev main_v251 : Ref sig .tc := ⟨.hbm, 366, rfl⟩
abbrev main_v252 : Ref sig .tc := ⟨.hbm, 367, rfl⟩
abbrev main_v253 : Ref sig .tc := ⟨.hbm, 368, rfl⟩
abbrev main_v254 : Ref sig .tc := ⟨.hbm, 369, rfl⟩
abbrev main_cst_91 : Ref sig .tc := ⟨.hbm, 370, rfl⟩
abbrev main_call5_v0 : Ref sig .tc := ⟨.hbm, 371, rfl⟩
abbrev main_call5_v1 : Ref sig .tc := ⟨.hbm, 372, rfl⟩
abbrev main_call5_v2 : Ref sig .tc := ⟨.hbm, 373, rfl⟩
abbrev main_v255 : Ref sig .tc := ⟨.hbm, 374, rfl⟩
abbrev main_cst_92 : Ref sig .tc := ⟨.hbm, 375, rfl⟩
abbrev main_call6_v0 : Ref sig .tc := ⟨.hbm, 376, rfl⟩
abbrev main_call6_v1 : Ref sig .tc := ⟨.hbm, 377, rfl⟩
abbrev main_call6_v2 : Ref sig .tc := ⟨.hbm, 378, rfl⟩
abbrev main_v256 : Ref sig .tc := ⟨.hbm, 379, rfl⟩
abbrev main_cst_93 : Ref sig .tc := ⟨.hbm, 380, rfl⟩
abbrev main_v257 : Ref sig .tc := ⟨.hbm, 381, rfl⟩
abbrev main_v258 : Ref sig .tc := ⟨.hbm, 382, rfl⟩
abbrev main_cst_94 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_cst_95 : Ref sig .tc := ⟨.hbm, 392, rfl⟩
abbrev main_v267 : Ref sig .tc := ⟨.hbm, 393, rfl⟩
abbrev main_v268 : Ref sig .tc := ⟨.hbm, 394, rfl⟩
abbrev main_cst_96 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_v273 : Ref sig .tc := ⟨.hbm, 400, rfl⟩
abbrev main_v274 : Ref sig .tc := ⟨.hbm, 401, rfl⟩
abbrev main_v275 : Ref sig .tc := ⟨.hbm, 402, rfl⟩
abbrev main_v276 : Ref sig .tc := ⟨.hbm, 403, rfl⟩
abbrev main_v277 : Ref sig .tc := ⟨.hbm, 404, rfl⟩
abbrev main_v278 : Ref sig .tc := ⟨.hbm, 405, rfl⟩
abbrev main_v279 : Ref sig .tc := ⟨.hbm, 406, rfl⟩
abbrev main_v280 : Ref sig .tc := ⟨.hbm, 407, rfl⟩
abbrev main_v281 : Ref sig .tc := ⟨.hbm, 408, rfl⟩
abbrev main_v282 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_v289 : Ref sig .tc := ⟨.hbm, 416, rfl⟩
abbrev main_v290 : Ref sig .tc := ⟨.hbm, 417, rfl⟩
abbrev main_v291 : Ref sig .tc := ⟨.hbm, 418, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x8192x16x8 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x16x8 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x16x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x16x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Names.lean ====
/-
  The names the proof of the decode-attention kernel speaks in.

  The sixteen CHUNKS `c : Fin 16` are the pairs (batch row `c / 4`, group of four key/value heads `c % 4`). Chunk `c`
  owns slot `c` of each of the four window buffers and the four semaphore cells `(c, 0..3)`; its window is rows
  `base .. base + 1152` of the cache of its batch row, where `base = 128 * nb` and `nb` is computed from the batch
  row's length (`nbase`). Here: those slices under one name each, the kernel's offset arithmetic in closed form, and
  the equations by which a run of the body meets its own slices under those names.
-/
module

public import proofs.«01_k».proof.Proof.Gen.KernelIdeal.Skeleton
public import proofs.«01_k».proof.Proof.Gen.KernelIdeal.Loops
public import Idealize.ShloMosaic.Lib.Ring
public import Idealize.ShloMosaic.Lib.Affine
public import Idealize.ShloMosaic.Lib.Tactic

@[expose] public section

noncomputable section

namespace Cert.Proof.Attn

open Cert.KernelIdeal Cert.KernelIdeal.Gen
open Idealize.ShloMosaic Idealize.ShloMosaic.TcCoe Idealize.ShloMosaic.Tactic

/-! ## The window of a length -/

section Words
open Affine

/-- The window's first row before alignment: `clip (len - 1024) 0 7168`, as the kernel's words compute it. -/
def startW (v : BitVec 32) : BitVec 32 := Scalar.minsi 7168#32 (Scalar.maxsi 0#32 (Scalar.subi v 1024#32))
/-- The same as a number. -/
def startN (v : BitVec 32) : ℕ := (startW v).toNat
/-- The block of 128 rows the window's transfer starts at. -/
def nbase (v : BitVec 32) : Fin 56 := ⟨min (startN v / 128) 55, by omega⟩

theorem isInt_startW' (v : BitVec 32) : ∃ e : Int, IsInt (startW v) e ∧ 0 ≤ e ∧ e ≤ 7168 :=
  ⟨_, minsi (ofNat (e := 7168) 7168 ⟨rfl, by decide⟩) (maxsi (ofNat (e := 0) 0 ⟨rfl, by decide⟩) (word _) rfl) rfl, by omega, by omega⟩
theorem startN_le (v : BitVec 32) : startN v ≤ 7168 := by
  obtain ⟨e, h, h0, h1⟩ := isInt_startW' v; have := toNat_of h h0; unfold startN; omega
theorem isInt_startW (v : BitVec 32) : IsInt (startW v) (startN v : ℕ) := by
  obtain ⟨e, h, h0, h1⟩ := isInt_startW' v; have := toNat_of h h0
  exact relit h (by unfold startN; omega)
theorem startW_eq (v : BitVec 32) : startW v = BitVec.ofNat 32 (startN v) := by unfold startN; simp

/-- The kernel's aligned base as a word: the floor division spelt with its sign test. -/
theorem mult1_eq (v : BitVec 32) : k0_mult1 v = BitVec.ofNat 32 (128 * (nbase v).val) := by
  have hs := isInt_startW v; have hle := startN_le v
  have hd : IsInt (Scalar.divsi (startW v) 128#32) (startN v / 128 : ℕ) :=
    divsi hs (ofNat (e := 128) 128 ⟨rfl, by decide⟩) ⟨by omega, by omega, by omega⟩
  have hr : IsInt (Scalar.remsi (startW v) 128#32) (startN v % 128 : ℕ) :=
    remsi hs (ofNat (e := 128) 128 ⟨rfl, by decide⟩) ⟨by omega, by omega, by omega⟩
  have hz : IsInt (0#32) 0 := ofNat 0 ⟨rfl, by decide⟩
  have h128 : IsInt (128#32) 128 := ofNat 128 ⟨rfl, by decide⟩
  have key : ∀ q : BitVec 32, IsInt q (startN v / 128 : ℕ) →
      Scalar.minsi (Scalar.muli q 128#32) 7040#32 = BitVec.ofNat 32 (128 * (nbase v).val) := fun q hq =>
    eq_of (minsi (muli (e := (startN v / 128 : ℕ) * 128) hq h128 ⟨by omega, by omega, by omega⟩) (ofNat (e := 7040) 7040 ⟨rfl, by decide⟩) rfl) _
      (by simp only [nbase]; omega)
  refine key _ ?_
  have e1 : Scalar.subi (Scalar.extui (Scalar.cmpi .sgt 128#32 0#32)) (Scalar.extui (Scalar.cmpi .slt 128#32 0#32)) = (1#32 : BitVec 32) := by decide
  show IsInt (Scalar.select (Scalar.andi (Scalar.cmpi .ne (Scalar.subi (Scalar.extui (Scalar.cmpi .sgt (startW v) 0#32)) (Scalar.extui (Scalar.cmpi .slt (startW v) 0#32)))
    (Scalar.subi (Scalar.extui (Scalar.cmpi .sgt 128#32 0#32)) (Scalar.extui (Scalar.cmpi .slt 128#32 0#32)))) (Scalar.cmpi .ne (Scalar.remsi (startW v) 128#32) 0#32))
    (Scalar.subi (Scalar.divsi (startW v) 128#32) 1#32) (Scalar.divsi (startW v) 128#32)) _
  have hone : IsInt (1#32) 1 := ofNat 1 ⟨rfl, by decide⟩
  have hsub : IsInt (Scalar.subi (Scalar.divsi (startW v) 128#32) 1#32) ((startN v / 128 : ℕ) - 1) := subi hd hone ⟨rfl, by omega, by omega⟩
  refine select_fails ?_ hsub hd rfl
  have fand : ∀ a b : BitVec 1, Fails a ∨ Fails b → Fails (Scalar.andi a b) := by unfold Fails; decide
  refine fand _ _ ?_
  rw [e1]
  by_cases h0 : startN v = 0
  · right; exact ne_fails hr hz (by omega)
  · left
    exact ne_fails (subi (e := 1) (extui_holds (e := 1) (sgt_holds hs hz (by omega)) rfl) (extui_fails (e := 0) (slt_fails hs hz (by omega)) rfl) ⟨rfl, by omega, by omega⟩) hone rfl
theorem mult1_toNat (v : BitVec 32) : (k0_mult1 v).toNat = 128 * (nbase v).val := by
  rw [mult1_eq]; have := (nbase v).isLt; simp only [BitVec.toNat_ofNat]; omega

end Words

/-! ## Chunks -/

/-- Chunk `c`'s batch row, and its group of four heads. -/
abbrev bat (c : Fin 16) : Fin 4 := ⟨c.val / 4, by omega⟩
abbrev grp4 (c : Fin 16) : Fin 4 := ⟨c.val % 4, by omega⟩

theorem trips1 : k0_t1_loop.trips = 15 := by decide
theorem trips2 : k0_t2_loop.trips = 16 := by decide
/-- The chunk the first loop's trip `k` issues (chunk 0 is issued before it); the second loop's trip `k` is chunk `k`. -/
abbrev ck1 (k : Fin k0_t1_loop.trips) : Fin 16 := ⟨k.val + 1, by have := Nat.lt_of_lt_of_eq k.isLt trips1; omega⟩
abbrev ck2 (k : Fin k0_t2_loop.trips) : Fin 16 := ⟨k.val, Nat.lt_of_lt_of_eq k.isLt trips2⟩

abbrev lenOff (b : Fin 4) : Fin 1 → ℕ := ![b.val]
abbrev semOff (c : Fin 16) (i : Fin 4) : Fin 2 → ℕ := ![c.val, i.val]
abbrev slotOff (c : Fin 16) : Fin 4 → ℕ := ![c.val, 0, 0, 0]
abbrev srcOff (c : Fin 16) (n : Fin 56) : Fin 4 → ℕ := ![(bat c).val, 4 * (grp4 c).val, 0, 128 * n.val]

theorem lenOff_inb (b : Fin 4) : ∀ a, lenOff b a + S1.size a ≤ S4.size a := by
  have := b.isLt; intro a; fin_cases a; show b.val + 1 ≤ 4; omega
theorem semOff_inb (c : Fin 16) (i : Fin 4) : ∀ a, semOff c i a + S1x1.size a ≤ S16x4.size a := by
  have := c.isLt; have := i.isLt; intro a; fin_cases a
  · show c.val + 1 ≤ 16; omega
  · show i.val + 1 ≤ 4; omega
theorem slotOff_inb8 (c : Fin 16) : ∀ a, slotOff c a + S1x4x64x1152.size a ≤ S16x4x64x1152.size a := by
  have := c.isLt; intro a; fin_cases a
  · show c.val + 1 ≤ 16; omega
  all_goals exact Nat.le_refl _
theorem slotOff_inbf (c : Fin 16) : ∀ a, slotOff c a + S1x4x8x1152.size a ≤ S16x4x8x1152.size a := by
  have := c.isLt; intro a; fin_cases a
  · show c.val + 1 ≤ 16; omega
  all_goals exact Nat.le_refl _
theorem srcOff_inb8 (c : Fin 16) (n : Fin 56) : ∀ a, srcOff c n a + S1x4x64x1152.size a ≤ S4x16x64x8192.size a := by
  have := c.isLt; have := n.isLt; intro a; fin_cases a
  · show c.val / 4 + 1 ≤ 4; omega
  · show 4 * (c.val % 4) + 4 ≤ 16; omega
  · exact Nat.le_refl _
  · show 128 * n.val + 1152 ≤ 8192; omega
theorem srcOff_inbf (c : Fin 16) (n : Fin 56) : ∀ a, srcOff c n a + S1x4x8x1152.size a ≤ S4x16x8x8192.size a := by
  have := c.isLt; have := n.isLt; intro a; fin_cases a
  · show c.val / 4 + 1 ≤ 4; omega
  · show 4 * (c.val % 4) + 4 ≤ 16; omega
  · exact Nat.le_refl _
  · show 128 * n.val + 1152 ≤ 8192; omega

/-- Chunk `c`'s window of a code cache at block `n`, as the body slices and squeezes it; of a scale cache. -/
def src8 (M : Memref sig .tc .hbm S4x16x64x8192 .i8) (c : Fin 16) (n : Fin 56) : Memref sig .tc .hbm S4x64x1152 .i8 :=
  (M.slice (Rect.unit (s := S4x16x64x8192) (srcOff c n) S1x4x64x1152.size (srcOff_inb8 c n)) (fun _ => rfl)).squeeze S4x64x1152 squeezes_S1x4x64x1152_S4x64x1152
def srcf (M : Memref sig .tc .hbm S4x16x8x8192 .fp8e4m3) (c : Fin 16) (n : Fin 56) : Memref sig .tc .hbm S4x8x1152 .fp8e4m3 :=
  (M.slice (Rect.unit (s := S4x16x8x8192) (srcOff c n) S1x4x8x1152.size (srcOff_inbf c n)) (fun _ => rfl)).squeeze S4x8x1152 squeezes_S1x4x8x1152_S4x8x1152
/-- Slot `c` of a code buffer, of a scale buffer. -/
def slot8 (B : Memref sig .tc .vmem S16x4x64x1152 .i8) (c : Fin 16) : Memref sig .tc .vmem S4x64x1152 .i8 :=
  (B.slice (Rect.unit (s := S16x4x64x1152) (slotOff c) S1x4x64x1152.size (slotOff_inb8 c)) (fun _ => rfl)).squeeze S4x64x1152 squeezes_S1x4x64x1152_S4x64x1152
def slotf (B : Memref sig .tc .vmem S16x4x8x1152 .fp8e4m3) (c : Fin 16) : Memref sig .tc .vmem S4x8x1152 .fp8e4m3 :=
  (B.slice (Rect.unit (s := S16x4x8x1152) (slotOff c) S1x4x8x1152.size (slotOff_inbf c)) (fun _ => rfl)).squeeze S4x8x1152 squeezes_S1x4x8x1152_S4x8x1152
/-- The cell of chunk `c`'s transfer number `i`. -/
def csm (A : DmaSems sig S16x4) (c : Fin 16) (i : Fin 4) : DmaSems sig S_ :=
  (A.slice (Rect.unit (s := S16x4) (semOff c i) S1x1.size (semOff_inb c i))).squeeze S_ squeezes_S1x1_S_

instance (c : Fin 16) : ClosedOff (slotOff c) := ⟨slotOff c, rfl⟩
instance (c : Fin 16) (n : Fin 56) : ClosedOff (srcOff c n) := ⟨srcOff c n, rfl⟩

/-! ## The kernel's offsets in closed form -/

section Chain
variable (k1 : Fin k0_t1_loop.trips) (k2 : Fin k0_t2_loop.trips)

theorem off3_eq : k0_off3 k1 = lenOff (bat (ck1 k1)) := by revert k1; decide
theorem off4_eq : k0_off4 k1 = semOff (ck1 k1) 0 := by revert k1; decide
theorem off7_eq : k0_off7 k1 = semOff (ck1 k1) 1 := by revert k1; decide
theorem off10_eq : k0_off10 k1 = semOff (ck1 k1) 2 := by revert k1; decide
theorem off11_eq : k0_off11 k1 = semOff (ck1 k1) 3 := by revert k1; decide
theorem off5_eq : k0_off5 k1 = slotOff (ck1 k1) := by revert k1; decide
theorem off8_eq : k0_off8 k1 = slotOff (ck1 k1) := by revert k1; decide
theorem off12_eq : k0_off12 k2 = lenOff (bat (ck2 k2)) := by revert k2; decide
theorem off13_eq : k0_off13 k2 = lenOff (bat (ck2 k2)) := by revert k2; decide
theorem off14_eq : k0_off14 k2 = semOff (ck2 k2) 0 := by revert k2; decide
theorem off17_eq : k0_off17 k2 = semOff (ck2 k2) 1 := by revert k2; decide
theorem off20_eq : k0_off20 k2 = semOff (ck2 k2) 2 := by revert k2; decide
theorem off21_eq : k0_off21 k2 = semOff (ck2 k2) 3 := by revert k2; decide
theorem off15_eq : k0_off15 k2 = slotOff (ck2 k2) := by revert k2; decide
theorem off18_eq : k0_off18 k2 = slotOff (ck2 k2) := by revert k2; decide

/-- A source's offsets: the chunk's coordinates from the trip, the last from the length. -/
theorem vec4_last {a b c a' b' c' d d' : ℕ} (h : (![a, b, c] : Fin 3 → ℕ) = ![a', b', c']) (hd : d = d') :
    (![a, b, c, d] : Fin 4 → ℕ) = ![a', b', c', d'] := by
  have h0 := congrFun h 0; have h1 := congrFun h 1; have h2 := congrFun h 2
  simp only [Matrix.cons_val_zero, Matrix.cons_val_one, Matrix.cons_val] at h0 h1 h2
  rw [h0, h1, h2, hd]
theorem off1_eq (v : BitVec 32) : k0_off1 v = srcOff 0 (nbase v) := vec4_last (by decide) (mult1_toNat v)
theorem off2_eq (v : BitVec 32) : k0_off2 v = srcOff 0 (nbase v) := vec4_last (by decide) (mult1_toNat v)
theorem off6_eq (v : BitVec 32) : k0_off6 k1 v = srcOff (ck1 k1) (nbase v) := vec4_last (by revert k1; decide) (mult1_toNat v)
theorem off9_eq (v : BitVec 32) : k0_off9 k1 v = srcOff (ck1 k1) (nbase v) := vec4_last (by revert k1; decide) (mult1_toNat v)
theorem off16_eq (v : BitVec 32) : k0_off16 k2 v = srcOff (ck2 k2) (nbase v) := vec4_last (by revert k2; decide) (mult1_toNat v)
theorem off19_eq (v : BitVec 32) : k0_off19 k2 v = srcOff (ck2 k2) (nbase v) := vec4_last (by revert k2; decide) (mult1_toNat v)
theorem mult_dvd (v : BitVec 32) : 128 ∣ (k0_mult1 v).toNat := by rw [mult1_toNat]; exact ⟨_, rfl⟩

end Chain

/-! ## The checks hold of every length -/

theorem src8_words : ∀ (c : Fin 16) (n : Fin 56) (h : ∀ a, srcOff c n a + S1x4x64x1152.size a ≤ S4x16x64x8192.size a),
    (Rect.unit (s := S4x16x64x8192) (srcOff c n) S1x4x64x1152.size h).WholeWords (EltTy.packing .i8) := by decide +kernel
theorem srcf_words : ∀ (c : Fin 16) (n : Fin 56) (h : ∀ a, srcOff c n a + S1x4x8x1152.size a ≤ S4x16x8x8192.size a),
    (Rect.unit (s := S4x16x8x8192) (srcOff c n) S1x4x8x1152.size h).WholeWords (EltTy.packing .fp8e4m3) := by decide +kernel

theorem chk1 (v : BitVec 32) : k0_chk1 v := by
  unfold k0_chk1; rw [off1_eq, off2_eq]
  exact ⟨mult_dvd v, srcOff_inb8 _ _, src8_words _ _, srcOff_inbf _ _, srcf_words _ _⟩
theorem chk2 (k : Fin k0_t1_loop.trips) (v : BitVec 32) : k0_chk2 k v := by
  unfold k0_chk2; rw [off6_eq, off9_eq]
  exact ⟨mult_dvd v, srcOff_inb8 _ _, src8_words _ _, srcOff_inbf _ _, srcf_words _ _⟩
theorem chk3 (v : BitVec 32) : k0_chk3 v := mult_dvd v
theorem chk4 (k : Fin k0_t2_loop.trips) (v : BitVec 32) : k0_chk4 k v := by
  unfold k0_chk4; rw [off16_eq, off19_eq]
  exact ⟨mult_dvd v, srcOff_inb8 _ _, src8_words _ _, srcOff_inbf _ _, srcf_words _ _⟩

/-! ## The equations naming the body's slices -/

section Canon

theorem src8_congr (M : Memref sig .tc .hbm S4x16x64x8192 .i8) {off : Fin 4 → ℕ} {c : Fin 16} {n : Fin 56} (e : off = srcOff c n) (hh hs) :
    (M.slice (Rect.unit (s := S4x16x64x8192) off S1x4x64x1152.size hh) hs).squeeze S4x64x1152 squeezes_S1x4x64x1152_S4x64x1152 = src8 M c n :=
  congrArg (fun M : Memref sig .tc .hbm S1x4x64x1152 .i8 => M.squeeze S4x64x1152 squeezes_S1x4x64x1152_S4x64x1152) (Memref.slice_unit_congr _ e _ _ _ _)
theorem srcf_congr (M : Memref sig .tc .hbm S4x16x8x8192 .fp8e4m3) {off : Fin 4 → ℕ} {c : Fin 16} {n : Fin 56} (e : off = srcOff c n) (hh hs) :
    (M.slice (Rect.unit (s := S4x16x8x8192) off S1x4x8x1152.size hh) hs).squeeze S4x8x1152 squeezes_S1x4x8x1152_S4x8x1152 = srcf M c n :=
  congrArg (fun M : Memref sig .tc .hbm S1x4x8x1152 .fp8e4m3 => M.squeeze S4x8x1152 squeezes_S1x4x8x1152_S4x8x1152) (Memref.slice_unit_congr _ e _ _ _ _)
theorem slot8_congr (B : Memref sig .tc .vmem S16x4x64x1152 .i8) {off : Fin 4 → ℕ} {c : Fin 16} (e : off = slotOff c) (hh hs) :
    (B.slice (Rect.unit (s := S16x4x64x1152) off S1x4x64x1152.size hh) hs).squeeze S4x64x1152 squeezes_S1x4x64x1152_S4x64x1152 = slot8 B c :=
  congrArg (fun M : Memref sig .tc .vmem S1x4x64x1152 .i8 => M.squeeze S4x64x1152 squeezes_S1x4x64x1152_S4x64x1152) (Memref.slice_unit_congr _ e _ _ _ _)
theorem slotf_congr (B : Memref sig .tc .vmem S16x4x8x1152 .fp8e4m3) {off : Fin 4 → ℕ} {c : Fin 16} (e : off = slotOff c) (hh hs) :
    (B.slice (Rect.unit (s := S16x4x8x1152) off S1x4x8x1152.size hh) hs).squeeze S4x8x1152 squeezes_S1x4x8x1152_S4x8x1152 = slotf B c :=
  congrArg (fun M : Memref sig .tc .vmem S1x4x8x1152 .fp8e4m3 => M.squeeze S4x8x1152 squeezes_S1x4x8x1152_S4x8x1152) (Memref.slice_unit_congr _ e _ _ _ _)
theorem csm_congr (A : DmaSems sig S16x4) {off : Fin 2 → ℕ} {c : Fin 16} {i : Fin 4} (e : off = semOff c i) (hh) :
    (A.slice (Rect.unit (s := S16x4) off S1x1.size hh)).squeeze S_ squeezes_S1x1_S_ = csm A c i :=
  congrArg (fun A : DmaSems sig S1x1 => A.squeeze S_ squeezes_S1x1_S_) (SemArray.slice_unit_congr _ e _ _)

variable (M8 : Memref sig .tc .hbm S4x16x64x8192 .i8) (Mf : Memref sig .tc .hbm S4x16x8x8192 .fp8e4m3)
  (B8 : Memref sig .tc .vmem S16x4x64x1152 .i8) (Bf : Memref sig .tc .vmem S16x4x8x1152 .fp8e4m3) (A : DmaSems sig S16x4)
  (k1 : Fin k0_t1_loop.trips) (k2 : Fin k0_t2_loop.trips) (v : BitVec 32)

/-- Chunk 0, issued before the loops. -/
@[sl_canon] theorem src0 (hh hs) : (M8.slice (Rect.unit (s := S4x16x64x8192) (k0_off1 v) S1x4x64x1152.size hh) hs).squeeze S4x64x1152 squeezes_S1x4x64x1152_S4x64x1152 = src8 M8 0 (nbase v) := src8_congr _ (off1_eq v) _ _
@[sl_canon] theorem srcf0 (hh hs) : (Mf.slice (Rect.unit (s := S4x16x8x8192) (k0_off2 v) S1x4x8x1152.size hh) hs).squeeze S4x8x1152 squeezes_S1x4x8x1152_S4x8x1152 = srcf Mf 0 (nbase v) := srcf_congr _ (off2_eq v) _ _
@[sl_canon] theorem slot0 (hh hs) : (B8.slice (Rect.unit (s := S16x4x64x1152) (![0, 0, 0, 0]) S1x4x64x1152.size hh) hs).squeeze S4x64x1152 squeezes_S1x4x64x1152_S4x64x1152 = slot8 B8 0 := slot8_congr _ (by decide) _ _
@[sl_canon] theorem slotf0 (hh hs) : (Bf.slice (Rect.unit (s := S16x4x8x1152) (![0, 0, 0, 0]) S1x4x8x1152.size hh) hs).squeeze S4x8x1152 squeezes_S1x4x8x1152_S4x8x1152 = slotf Bf 0 := slotf_congr _ (by decide) _ _
@[sl_canon] theorem sem00 (hh) : (A.slice (Rect.unit (s := S16x4) (![0, 0]) S1x1.size hh)).squeeze S_ squeezes_S1x1_S_ = csm A 0 0 := csm_congr _ (by decide) _
@[sl_canon] theorem sem01 (hh) : (A.slice (Rect.unit (s := S16x4) (![0, 1]) S1x1.size hh)).squeeze S_ squeezes_S1x1_S_ = csm A 0 1 := csm_congr _ (by decide) _
@[sl_canon] theorem sem02 (hh) : (A.slice (Rect.unit (s := S16x4) (![0, 2]) S1x1.size hh)).squeeze S_ squeezes_S1x1_S_ = csm A 0 2 := csm_congr _ (by decide) _
@[sl_canon] theorem sem03 (hh) : (A.slice (Rect.unit (s := S16x4) (![0, 3]) S1x1.size hh)).squeeze S_ squeezes_S1x1_S_ = csm A 0 3 := csm_congr _ (by decide) _
/-- The first loop's trip. -/
@[sl_canon] theorem src1 (hh hs) : (M8.slice (Rect.unit (s := S4x16x64x8192) (k0_off6 k1 v) S1x4x64x1152.size hh) hs).squeeze S4x64x1152 squeezes_S1x4x64x1152_S4x64x1152 = src8 M8 (ck1 k1) (nbase v) := src8_congr _ (off6_eq k1 v) _ _
@[sl_canon] theorem srcf1 (hh hs) : (Mf.slice (Rect.unit (s := S4x16x8x8192) (k0_off9 k1 v) S1x4x8x1152.size hh) hs).squeeze S4x8x1152 squeezes_S1x4x8x1152_S4x8x1152 = srcf Mf (ck1 k1) (nbase v) := srcf_congr _ (off9_eq k1 v) _ _
@[sl_canon] theorem slot1 (hh hs) : (B8.slice (Rect.unit (s := S16x4x64x1152) (k0_off5 k1) S1x4x64x1152.size hh) hs).squeeze S4x64x1152 squeezes_S1x4x64x1152_S4x64x1152 = slot8 B8 (ck1 k1) := slot8_congr _ (off5_eq k1) _ _
@[sl_canon] theorem slotf1 (hh hs) : (Bf.slice (Rect.unit (s := S16x4x8x1152) (k0_off8 k1) S1x4x8x1152.size hh) hs).squeeze S4x8x1152 squeezes_S1x4x8x1152_S4x8x1152 = slotf Bf (ck1 k1) := slotf_congr _ (off8_eq k1) _ _
@[sl_canon] theorem sem10 (hh) : (A.slice (Rect.unit (s := S16x4) (k0_off4 k1) S1x1.size hh)).squeeze S_ squeezes_S1x1_S_ = csm A (ck1 k1) 0 := csm_congr _ (off4_eq k1) _
@[sl_canon] theorem sem11 (hh) : (A.slice (Rect.unit (s := S16x4) (k0_off7 k1) S1x1.size hh)).squeeze S_ squeezes_S1x1_S_ = csm A (ck1 k1) 1 := csm_congr _ (off7_eq k1) _
@[sl_canon] theorem sem12 (hh) : (A.slice (Rect.unit (s := S16x4) (k0_off10 k1) S1x1.size hh)).squeeze S_ squeezes_S1x1_S_ = csm A (ck1 k1) 2 := csm_congr _ (off10_eq k1) _
@[sl_canon] theorem sem13 (hh) : (A.slice (Rect.unit (s := S16x4) (k0_off11 k1) S1x1.size hh)).squeeze S_ squeezes_S1x1_S_ = csm A (ck1 k1) 3 := csm_congr _ (off11_eq k1) _
/-- The second loop's trip. -/
@[sl_canon] theorem src2 (hh hs) : (M8.slice (Rect.unit (s := S4x16x64x8192) (k0_off16 k2 v) S1x4x64x1152.size hh) hs).squeeze S4x64x1152 squeezes_S1x4x64x1152_S4x64x1152 = src8 M8 (ck2 k2) (nbase v) := src8_congr _ (off16_eq k2 v) _ _
@[sl_canon] theorem srcf2 (hh hs) : (Mf.slice (Rect.unit (s := S4x16x8x8192) (k0_off19 k2 v) S1x4x8x1152.size hh) hs).squeeze S4x8x1152 squeezes_S1x4x8x1152_S4x8x1152 = srcf Mf (ck2 k2) (nbase v) := srcf_congr _ (off19_eq k2 v) _ _
@[sl_canon] theorem slot2 (hh hs) : (B8.slice (Rect.unit (s := S16x4x64x1152) (k0_off15 k2) S1x4x64x1152.size hh) hs).squeeze S4x64x1152 squeezes_S1x4x64x1152_S4x64x1152 = slot8 B8 (ck2 k2) := slot8_congr _ (off15_eq k2) _ _
@[sl_canon] theorem slotf2 (hh hs) : (Bf.slice (Rect.unit (s := S16x4x8x1152) (k0_off18 k2) S1x4x8x1152.size hh) hs).squeeze S4x8x1152 squeezes_S1x4x8x1152_S4x8x1152 = slotf Bf (ck2 k2) := slotf_congr _ (off18_eq k2) _ _
@[sl_canon] theorem sem20 (hh) : (A.slice (Rect.unit (s := S16x4) (k0_off14 k2) S1x1.size hh)).squeeze S_ squeezes_S1x1_S_ = csm A (ck2 k2) 0 := csm_congr _ (off14_eq k2) _
@[sl_canon] theorem sem21 (hh) : (A.slice (Rect.unit (s := S16x4) (k0_off17 k2) S1x1.size hh)).squeeze S_ squeezes_S1x1_S_ = csm A (ck2 k2) 1 := csm_congr _ (off17_eq k2) _
@[sl_canon] theorem sem22 (hh) : (A.slice (Rect.unit (s := S16x4) (k0_off20 k2) S1x1.size hh)).squeeze S_ squeezes_S1x1_S_ = csm A (ck2 k2) 2 := csm_congr _ (off20_eq k2) _
@[sl_canon] theorem sem23 (hh) : (A.slice (Rect.unit (s := S16x4) (k0_off21 k2) S1x1.size hh)).squeeze S_ squeezes_S1x1_S_ = csm A (ck2 k2) 3 := csm_congr _ (off21_eq k2) _

end Canon

end Cert.Proof.Attn

end
-- ==== Proof.Pieces.lean ====
/-
  What the run of the decode-attention kernel holds: the core's memrefs, and per chunk `c` either its four windows at
  rest (`idleP`: slot, semaphore cell at zero and source window, for each of the four arrays) or its four transfers in
  flight (`flyP`). `stateAt` says: the chunks below `k` are in the one state, the others in the other.
-/
module

public import proofs.«01_k».proof.Proof.Names
public import proofs.«01_k».proof.Proof.Gen.KernelIdeal.Launch
public import Idealize.ShloMosaic.Lib.Pipeline.Frame
public import Idealize.ShloMosaic.Lib.Ring

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
abbrev 𝒱₀ : Variants := Variants.none

/-- The cache arrays in HBM: key codes, value codes, key scales, value scales. -/
abbrev ckM : Memref sig .tc .hbm S4x16x64x8192 .i8 := Memref.whole main_v5
abbrev cvM : Memref sig .tc .hbm S4x16x64x8192 .i8 := Memref.whole main_v6
abbrev ksM : Memref sig .tc .hbm S4x16x8x8192 .fp8e4m3 := Memref.whole main_v7
abbrev vsM : Memref sig .tc .hbm S4x16x8x8192 .fp8e4m3 := Memref.whole main_v8
/-- Queries, new keys, new values in HBM. -/
abbrev qM : Memref sig .tc .hbm S4x128x128 .bf16 := Memref.whole main_v2
abbrev knM : Memref sig .tc .hbm S4x16x128 .bf16 := Memref.whole main_v3
abbrev vnM : Memref sig .tc .hbm S4x16x128 .bf16 := Memref.whole main_v4
/-- The kernel's buffers. -/
abbrev qB : Memref sig .tc .vmem S4x128x128 .bf16 := Memref.whole cc0_scratch0
abbrev knB : Memref sig .tc .vmem S4x16x128 .bf16 := Memref.whole cc0_scratch1
abbrev vnB : Memref sig .tc .vmem S4x16x128 .bf16 := Memref.whole cc0_scratch2
abbrev kn32B : Memref sig .tc .vmem S4x16x128 .f32 := Memref.whole cc0_scratch3
abbrev vn32B : Memref sig .tc .vmem S4x16x128 .f32 := Memref.whole cc0_scratch4
abbrev kB : Memref sig .tc .vmem S16x4x64x1152 .i8 := Memref.whole cc0_scratch5
abbrev vB : Memref sig .tc .vmem S16x4x64x1152 .i8 := Memref.whole cc0_scratch6
abbrev ksB : Memref sig .tc .vmem S16x4x8x1152 .fp8e4m3 := Memref.whole cc0_scratch7
abbrev vsB : Memref sig .tc .vmem S16x4x8x1152 .fp8e4m3 := Memref.whole cc0_scratch8
abbrev ksdB : Memref sig .tc .vmem S4x8x1024 .f32 := Memref.whole cc0_scratch9
abbrev vsdB : Memref sig .tc .vmem S4x8x1024 .f32 := Memref.whole cc0_scratch10
abbrev oB : Memref sig .tc .vmem S128x4x128 .f32 := Memref.whole cc0_scratch11

/-- The contents of a memref's buffer on device `c`. -/
abbrev BufOf (F : FTy → Type) (c : Dev nD) {spc : Space} {s : Shape} {e : EltTy} (M : Memref sig .tc spc s e) : Type :=
  Buf (Elt F) (M.view.loc (c : Thread nD τ))

/-- The contents of the four caches on device `c`. -/
structure Caches (F : FTy → Type) (c : Dev nD) where
  K : BufOf F c ckM
  V : BufOf F c cvM
  KS : BufOf F c ksM
  VS : BufOf F c vsM

section Chunk
variable (c : Dev nD) (X : Caches F c)

abbrev ownP {spc : Space} {s : Shape} {e : EltTy} (M : Memref sig .tc spc s e) (f : BufOf F c M) : sProp 𝕄 :=
  M.view.loc (c : Thread nD τ) ↦[M.view.set]{fullShare} f
abbrev cellP (b : Fin 16) (i : Fin 4) : sProp 𝕄 := semVal ((c : Thread nD τ), SemLoc.dma (csm cc0_scratch12 b i).sem) 0
/-- Chunk `b`'s windows of the caches, at the caches' contents. -/
abbrev home8 (n : Fin 56) (M : Memref sig .tc .hbm S4x16x64x8192 .i8) (x : BufOf F c M) (b : Fin 16) : sProp 𝕄 :=
  (src8 M b n).view.loc (c : Thread nD τ) ↦[(src8 M b n).view.set]{fullShare} x
abbrev homef (n : Fin 56) (M : Memref sig .tc .hbm S4x16x8x8192 .fp8e4m3) (x : BufOf F c M) (b : Fin 16) : sProp 𝕄 :=
  (srcf M b n).view.loc (c : Thread nD τ) ↦[(srcf M b n).view.set]{fullShare} x
/-- A window's elements as a slot's payload. -/
abbrev pay8 (n : Fin 56) (M : Memref sig .tc .hbm S4x16x64x8192 .i8) (x : BufOf F c M) (b : Fin 16) : S4x64x1152.Idx → Elt F .i8 :=
  ReadAs.same.apply ((src8 M b n).view.read (Elt F) x)
abbrev payf (n : Fin 56) (M : Memref sig .tc .hbm S4x16x8x8192 .fp8e4m3) (x : BufOf F c M) (b : Fin 16) : S4x8x1152.Idx → Elt F .fp8e4m3 :=
  ReadAs.same.apply ((srcf M b n).view.read (Elt F) x)
/-- A code window in flight into its slot, on cell `i`; a scale window. -/
abbrev fly8 (n : Fin 56) (B : Memref sig .tc .vmem S16x4x64x1152 .i8) (M : Memref sig .tc .hbm S4x16x64x8192 .i8) (x : BufOf F c M) (b : Fin 16) (i : Fin 4)
    (f : BufOf F c (slot8 B b)) : sProp 𝕄 :=
  Transfers.Flight countersEmb (c : Thread nD τ) (SemLoc.dma (csm cc0_scratch12 b i).sem) () 9216
    iprop(ownP c (slot8 B b) ((slot8 B b).view.writes (Elt F) f [⟨Rect.whole S4x64x1152, pay8 c n M x b⟩]) ∗ home8 c n M x b)
abbrev flyf (n : Fin 56) (B : Memref sig .tc .vmem S16x4x8x1152 .fp8e4m3) (M : Memref sig .tc .hbm S4x16x8x8192 .fp8e4m3) (x : BufOf F c M) (b : Fin 16) (i : Fin 4)
    (f : BufOf F c (slotf B b)) : sProp 𝕄 :=
  Transfers.Flight countersEmb (c : Thread nD τ) (SemLoc.dma (csm cc0_scratch12 b i).sem) () 4608
    iprop(ownP c (slotf B b) ((slotf B b).view.writes (Elt F) f [⟨Rect.whole S4x8x1152, payf c n M x b⟩]) ∗ homef c n M x b)

/-- Chunk `b` at rest. -/
def idleP (nb : Fin 4 → Fin 56) (b : Fin 16) : sProp 𝕄 :=
  iprop((∃ f, ownP c (slot8 kB b) f) ∗ (∃ f, ownP c (slotf ksB b) f) ∗ (∃ f, ownP c (slot8 vB b) f) ∗ (∃ f, ownP c (slotf vsB b) f)
    ∗ cellP c b 0 ∗ cellP c b 1 ∗ cellP c b 2 ∗ cellP c b 3
    ∗ home8 c (nb (bat b)) ckM X.K b ∗ homef c (nb (bat b)) ksM X.KS b ∗ home8 c (nb (bat b)) cvM X.V b ∗ homef c (nb (bat b)) vsM X.VS b)
/-- Chunk `b` in flight. -/
def flyP (nb : Fin 4 → Fin 56) (b : Fin 16) : sProp 𝕄 :=
  iprop((∃ f, fly8 c (nb (bat b)) kB ckM X.K b 0 f) ∗ (∃ f, flyf c (nb (bat b)) ksB ksM X.KS b 1 f) ∗ (∃ f, fly8 c (nb (bat b)) vB cvM X.V b 2 f) ∗ (∃ f, flyf c (nb (bat b)) vsB vsM X.VS b 3 f))

end Chunk

/-! ## The chunks below `k` in one state, the others in another -/

section State

def stateAt (P Q : Fin 16 → sProp 𝕄) (k : ℕ) : sProp 𝕄 := bigSep Finset.univ (fun b : Fin 16 => if b.val < k then P b else Q b)
/-- All chunks but chunk `b`, about to change. -/
def restAt (P Q : Fin 16 → sProp 𝕄) (b : Fin 16) : sProp 𝕄 := bigSep (Finset.univ.erase b) (fun a : Fin 16 => if a.val < b.val then P a else Q a)

omit [FloatOps F] in
theorem stateAt_before (P Q : Fin 16 → sProp 𝕄) (b : Fin 16) : stateAt P Q b.val = iprop(Q b ∗ restAt P Q b) := by
  unfold stateAt restAt
  conv_lhs => rw [← Finset.insert_erase (Finset.mem_univ b), bigSep_insert (Finset.notMem_erase b _)]
  rw [if_neg (Nat.lt_irrefl _)]; rfl
omit [FloatOps F] in
theorem stateAt_after (P Q : Fin 16 → sProp 𝕄) (b : Fin 16) : stateAt P Q (b.val + 1) = iprop(P b ∗ restAt P Q b) := by
  unfold stateAt restAt
  conv_lhs => rw [← Finset.insert_erase (Finset.mem_univ b), bigSep_insert (Finset.notMem_erase b _)]
  rw [if_pos (Nat.lt_succ_self _)]
  congr 1
  refine bigSep_congr fun a ha => ?_
  have hne : a.val ≠ b.val := fun h => (Finset.mem_erase.mp ha).1 (Fin.ext h)
  by_cases h : a.val < b.val
  · rw [if_pos h, if_pos (by omega)]
  · rw [if_neg h, if_neg (by omega)]
omit [FloatOps F] in
theorem stateAt_zero (P Q : Fin 16 → sProp 𝕄) : stateAt P Q 0 = bigSep Finset.univ Q := rfl
omit [FloatOps F] in
theorem stateAt_all (P Q : Fin 16 → sProp 𝕄) : stateAt P Q 16 = bigSep Finset.univ P :=
  bigSep_congr fun a _ => if_pos a.isLt

end State

/-- Batch row `b`'s length, as the body loads it from the staged lengths. -/
abbrev lenW (c : Dev nD) (arg0 : Memref sig .tc .smem S4 .i32) (g0 : BufOf F c arg0) (b : Fin 4) : BitVec 32 :=
  (arg0.access (Rect.unit (s := S4) (lenOff b) S1.size (lenOff_inb b))).read (Elt F) g0 (Shape.Idx.first (numel1_S1.symm ▸ Nat.one_pos))

theorem access_read_congr {s : Shape} {e : EltTy} {spc : Space} (c : Dev nD) (M : Memref sig .tc spc s e) (g : BufOf F c M) {off off' : Fin s.rank → ℕ}
    {size : Fin s.rank → ℕ} (eo : off = off') (h h') (x : (⟨s.rank, size⟩ : Shape).Idx) :
    (M.access (Rect.unit off size h)).read (Elt F) g x = (M.access (Rect.unit off' size h')).read (Elt F) g x := by subst eo; rfl

end Cert.Proof.Attn

end

end
-- ==== Proof.Split.lean ====
/-
  A slot buffer whole is its sixteen slots; a cache array whole is the sixteen chunks' windows and what lies outside
  them. So the buffers and cells the launch hands over are all chunks at rest, and back.
-/
module

public import proofs.«01_k».proof.Proof.Pieces
public import Idealize.ShloMosaic.Lib.Tactic

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

omit [FloatOps F] in
theorem entails_of_eq {P Q : sProp 𝕄} (h : P = Q) : P ⊢ Q := h ▸ .rfl
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The element sets -/

def slotSet8 (b : Fin 16) : Finset S16x4x64x1152.Idx := (Rect.unit (s := S16x4x64x1152) (slotOff b) S1x4x64x1152.size (slotOff_inb8 b)).set
def slotSetf (b : Fin 16) : Finset S16x4x8x1152.Idx := (Rect.unit (s := S16x4x8x1152) (slotOff b) S1x4x8x1152.size (slotOff_inbf b)).set
def homeSet8 (nb : Fin 4 → Fin 56) (b : Fin 16) : Finset S4x16x64x8192.Idx :=
  (Rect.unit (s := S4x16x64x8192) (srcOff b (nb (bat b))) S1x4x64x1152.size (srcOff_inb8 b (nb (bat b)))).set
def homeSetf (nb : Fin 4 → Fin 56) (b : Fin 16) : Finset S4x16x8x8192.Idx :=
  (Rect.unit (s := S4x16x8x8192) (srcOff b (nb (bat b))) S1x4x8x1152.size (srcOff_inbf b (nb (bat b)))).set

theorem mem_slotSet8 (b : Fin 16) (y : S16x4x64x1152.Idx) : y ∈ slotSet8 b ↔ (y 0).val = b.val := by
  unfold slotSet8; rw [Rect.mem_set_unit]
  have h1 : (y 1).val < 4 := (y 1).isLt
  have h2 : (y 2).val < 64 := (y 2).isLt
  have h3 : (y 3).val < 1152 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 4; omega
    · show 0 ≤ (y 2).val ∧ (y 2).val < 0 + 64; omega
    · show 0 ≤ (y 3).val ∧ (y 3).val < 0 + 1152; omega
theorem mem_slotSetf (b : Fin 16) (y : S16x4x8x1152.Idx) : y ∈ slotSetf b ↔ (y 0).val = b.val := by
  unfold slotSetf; rw [Rect.mem_set_unit]
  have h1 : (y 1).val < 4 := (y 1).isLt
  have h2 : (y 2).val < 8 := (y 2).isLt
  have h3 : (y 3).val < 1152 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 4; omega
    · show 0 ≤ (y 2).val ∧ (y 2).val < 0 + 8; omega
    · show 0 ≤ (y 3).val ∧ (y 3).val < 0 + 1152; omega

theorem slotSet8_disjoint : ∀ b b' : Fin 16, b ≠ b' → Disjoint (slotSet8 b) (slotSet8 b') := by
  intro b b' hne; rw [Finset.disjoint_left]; intro y hy hy'; rw [mem_slotSet8] at hy hy'; exact hne (Fin.ext (hy.symm.trans hy'))
theorem slotSetf_disjoint : ∀ b b' : Fin 16, b ≠ b' → Disjoint (slotSetf b) (slotSetf b') := by
  intro b b' hne; rw [Finset.disjoint_left]; intro y hy hy'; rw [mem_slotSetf] at hy hy'; exact hne (Fin.ext (hy.symm.trans hy'))
theorem slotSet8_cover : (Finset.univ : Finset (Fin 16)).biUnion slotSet8 = Finset.univ := by
  ext y; simp only [Finset.mem_biUnion, Finset.mem_univ, true_and, iff_true]; exact ⟨(y 0).cast (by decide), by rw [mem_slotSet8]; rfl⟩
theorem slotSetf_cover : (Finset.univ : Finset (Fin 16)).biUnion slotSetf = Finset.univ := by
  ext y; simp only [Finset.mem_biUnion, Finset.mem_univ, true_and, iff_true]; exact ⟨(y 0).cast (by decide), by rw [mem_slotSetf]; rfl⟩

/-- Two chunks with an element of the same row and head are one chunk. -/
theorem chunk_eq {b b' : Fin 16} {i j : ℕ} (h0 : b.val / 4 ≤ i ∧ i < b.val / 4 + 1) (h1 : 4 * (b.val % 4) ≤ j ∧ j < 4 * (b.val % 4) + 4)
    (h0' : b'.val / 4 ≤ i ∧ i < b'.val / 4 + 1) (h1' : 4 * (b'.val % 4) ≤ j ∧ j < 4 * (b'.val % 4) + 4) : b = b' := Fin.ext (by omega)
theorem homeSet8_disjoint (nb : Fin 4 → Fin 56) : ∀ b b' : Fin 16, b ≠ b' → Disjoint (homeSet8 nb b) (homeSet8 nb b') := by
  intro b b' hne; rw [Finset.disjoint_left]; intro y hy hy'
  rw [homeSet8, Rect.mem_set_unit] at hy hy'
  exact hne (chunk_eq (hy 0) (hy 1) (hy' 0) (hy' 1))
theorem homeSetf_disjoint (nb : Fin 4 → Fin 56) : ∀ b b' : Fin 16, b ≠ b' → Disjoint (homeSetf nb b) (homeSetf nb b') := by
  intro b b' hne; rw [Finset.disjoint_left]; intro y hy hy'
  rw [homeSetf, Rect.mem_set_unit] at hy hy'
  exact hne (chunk_eq (hy 0) (hy 1) (hy' 0) (hy' 1))

/-! ## A buffer whole and its pieces -/

section General
variable {ℓ : Loc nD τ sig}
omit [FloatOps F] in
/-- A buffer is a family of disjoint pieces and what lies outside them. -/
theorem pieces_split (I : Fin 16 → Finset (Idx ℓ)) (hd : ∀ b b', b ≠ b' → Disjoint (I b) (I b')) (f : Buf (Elt F) ℓ) :
    (ℓ ↦{fullShare} f : sProp 𝕄) ⊢ iprop((bigSep Finset.univ fun b => ℓ ↦[I b]{fullShare} f) ∗ ℓ ↦[Finset.univ \ Finset.univ.biUnion I]{fullShare} f) := by
  refine (pointsTo_split_subset (Finset.subset_univ (Finset.univ.biUnion I))).1.trans ?_
  rw [Ring.pointsTo_sub_blocks I hd _ rfl f]
omit [FloatOps F] in
theorem pieces_join (I : Fin 16 → Finset (Idx ℓ)) (hd : ∀ b b', b ≠ b' → Disjoint (I b) (I b')) (f : Buf (Elt F) ℓ) :
    iprop((bigSep Finset.univ fun b => ℓ ↦[I b]{fullShare} f) ∗ ℓ ↦[Finset.univ \ Finset.univ.biUnion I]{fullShare} f) ⊢ (ℓ ↦{fullShare} f : sProp 𝕄) := by
  rw [← Ring.pointsTo_sub_blocks I hd _ rfl f]
  exact (pointsTo_split_subset (Finset.subset_univ (Finset.univ.biUnion I))).2
end General

section Arrays
variable (c : Dev nD) (nb : Fin 4 → Fin 56)

abbrev restH8 (M : Memref sig .tc .hbm S4x16x64x8192 .i8) (I : Finset (Idx (M.view.loc (c : Thread nD τ)))) (x : BufOf F c M) : sProp 𝕄 :=
  M.view.loc (c : Thread nD τ) ↦[Finset.univ \ I]{fullShare} x

theorem src8K_set (b : Fin 16) : (src8 ckM b (nb (bat b))).view.set = homeSet8 nb b := (View.set_reshape _ _).trans (View.set_slice_whole _ _)
theorem src8V_set (b : Fin 16) : (src8 cvM b (nb (bat b))).view.set = homeSet8 nb b := (View.set_reshape _ _).trans (View.set_slice_whole _ _)
theorem srcfK_set (b : Fin 16) : (srcf ksM b (nb (bat b))).view.set = homeSetf nb b := (View.set_reshape _ _).trans (View.set_slice_whole _ _)
theorem srcfV_set (b : Fin 16) : (srcf vsM b (nb (bat b))).view.set = homeSetf nb b := (View.set_reshape _ _).trans (View.set_slice_whole _ _)
theorem slot8K_set (b : Fin 16) : (slot8 kB b).view.set = slotSet8 b := (View.set_reshape _ _).trans (View.set_slice_whole _ _)
theorem slot8V_set (b : Fin 16) : (slot8 vB b).view.set = slotSet8 b := (View.set_reshape _ _).trans (View.set_slice_whole _ _)
theorem slotfK_set (b : Fin 16) : (slotf ksB b).view.set = slotSetf b := (View.set_reshape _ _).trans (View.set_slice_whole _ _)
theorem slotfV_set (b : Fin 16) : (slotf vsB b).view.set = slotSetf b := (View.set_reshape _ _).trans (View.set_slice_whole _ _)

/-! Each slot buffer, each cache array. -/
omit [FloatOps F] in
theorem kB_eq (f : Buf (Elt F) ((c : Thread nD τ).loc cc0_scratch5)) :
    (((c : Thread nD τ).loc cc0_scratch5) ↦{fullShare} f : sProp 𝕄) = bigSep Finset.univ (fun b => ownP c (slot8 kB b) f) := by
  rw [Ring.pointsTo_blocks (ℓ := (c : Thread nD τ).loc cc0_scratch5) slotSet8 slotSet8_disjoint slotSet8_cover]
  exact bigSep_congr fun b _ => by rw [← slot8K_set]; rfl
omit [FloatOps F] in
theorem vB_eq (f : Buf (Elt F) ((c : Thread nD τ).loc cc0_scratch6)) :
    (((c : Thread nD τ).loc cc0_scratch6) ↦{fullShare} f : sProp 𝕄) = bigSep Finset.univ (fun b => ownP c (slot8 vB b) f) := by
  rw [Ring.pointsTo_blocks (ℓ := (c : Thread nD τ).loc cc0_scratch6) slotSet8 slotSet8_disjoint slotSet8_cover]
  exact bigSep_congr fun b _ => by rw [← slot8V_set]; rfl
omit [FloatOps F] in
theorem ksB_eq (f : Buf (Elt F) ((c : Thread nD τ).loc cc0_scratch7)) :
    (((c : Thread nD τ).loc cc0_scratch7) ↦{fullShare} f : sProp 𝕄) = bigSep Finset.univ (fun b => ownP c (slotf ksB b) f) := by
  rw [Ring.pointsTo_blocks (ℓ := (c : Thread nD τ).loc cc0_scratch7) slotSetf slotSetf_disjoint slotSetf_cover]
  exact bigSep_congr fun b _ => by rw [← slotfK_set]; rfl
omit [FloatOps F] in
theorem vsB_eq (f : Buf (Elt F) ((c : Thread nD τ).loc cc0_scratch8)) :
    (((c : Thread nD τ).loc cc0_scratch8) ↦{fullShare} f : sProp 𝕄) = bigSep Finset.univ (fun b => ownP c (slotf vsB b) f) := by
  rw [Ring.pointsTo_blocks (ℓ := (c : Thread nD τ).loc cc0_scratch8) slotSetf slotSetf_disjoint slotSetf_cover]
  exact bigSep_congr fun b _ => by rw [← slotfV_set]; rfl

omit [FloatOps F] in
theorem kB_join (f0 : Buf (Elt F) ((c : Thread nD τ).loc cc0_scratch5)) :
    bigSep Finset.univ (fun b => iprop(∃ f, ownP c (slot8 kB b) f)) ⊢ (iprop(∃ f, ((c : Thread nD τ).loc cc0_scratch5) ↦{fullShare} f) : sProp 𝕄) := by
  refine (entails_of_eq (bigSep_congr fun b _ => ?_)).trans (Ring.pointsTo_blocks_join_exists (ℓ := (c : Thread nD τ).loc cc0_scratch5) slotSet8 slotSet8_disjoint slotSet8_cover f0)
  rw [← slot8K_set]; rfl
omit [FloatOps F] in
theorem vB_join (f0 : Buf (Elt F) ((c : Thread nD τ).loc cc0_scratch6)) :
    bigSep Finset.univ (fun b => iprop(∃ f, ownP c (slot8 vB b) f)) ⊢ (iprop(∃ f, ((c : Thread nD τ).loc cc0_scratch6) ↦{fullShare} f) : sProp 𝕄) := by
  refine (entails_of_eq (bigSep_congr fun b _ => ?_)).trans (Ring.pointsTo_blocks_join_exists (ℓ := (c : Thread nD τ).loc cc0_scratch6) slotSet8 slotSet8_disjoint slotSet8_cover f0)
  rw [← slot8V_set]; rfl
omit [FloatOps F] in
theorem ksB_join (f0 : Buf (Elt F) ((c : Thread nD τ).loc cc0_scratch7)) :
    bigSep Finset.univ (fun b => iprop(∃ f, ownP c (slotf ksB b) f)) ⊢ (iprop(∃ f, ((c : Thread nD τ).loc cc0_scratch7) ↦{fullShare} f) : sProp 𝕄) := by
  refine (entails_of_eq (bigSep_congr fun b _ => ?_)).trans (Ring.pointsTo_blocks_join_exists (ℓ := (c : Thread nD τ).loc cc0_scratch7) slotSetf slotSetf_disjoint slotSetf_cover f0)
  rw [← slotfK_set]; rfl
omit [FloatOps F] in
theorem vsB_join (f0 : Buf (Elt F) ((c : Thread nD τ).loc cc0_scratch8)) :
    bigSep Finset.univ (fun b => iprop(∃ f, ownP c (slotf vsB b) f)) ⊢ (iprop(∃ f, ((c : Thread nD τ).loc cc0_scratch8) ↦{fullShare} f) : sProp 𝕄) := by
  refine (entails_of_eq (bigSep_congr fun b _ => ?_)).trans (Ring.pointsTo_blocks_join_exists (ℓ := (c : Thread nD τ).loc cc0_scratch8) slotSetf slotSetf_disjoint slotSetf_cover f0)
  rw [← slotfV_set]; rfl

/-- What of a cache array no chunk reads. -/
def restH {ℓ : Loc nD τ sig} (I : Fin 16 → Finset (Idx ℓ)) (x : Buf (Elt F) ℓ) : sProp 𝕄 := ℓ ↦[Finset.univ \ Finset.univ.biUnion I]{fullShare} x

omit [FloatOps F] in
theorem hK_eq (x : BufOf F c ckM) : (((c : Thread nD τ).loc main_v5) ↦{fullShare} x : sProp 𝕄)
    = iprop(bigSep Finset.univ (fun b => home8 c (nb (bat b)) ckM x b) ∗ restH (F := F) (ℓ := (c : Thread nD τ).loc main_v5) (homeSet8 nb) x) := by
  have e : bigSep Finset.univ (fun b => home8 c (nb (bat b)) ckM x b) = bigSep Finset.univ fun b => (((c : Thread nD τ).loc main_v5) ↦[homeSet8 nb b]{fullShare} x : sProp 𝕄) :=
    bigSep_congr fun b _ => by rw [← src8K_set]; rfl
  rw [e]
  exact BI.Entails.antisymm (pieces_split _ (homeSet8_disjoint nb) _) (pieces_join _ (homeSet8_disjoint nb) _)
omit [FloatOps F] in
theorem hV_eq (x : BufOf F c cvM) : (((c : Thread nD τ).loc main_v6) ↦{fullShare} x : sProp 𝕄)
    = iprop(bigSep Finset.univ (fun b => home8 c (nb (bat b)) cvM x b) ∗ restH (F := F) (ℓ := (c : Thread nD τ).loc main_v6) (homeSet8 nb) x) := by
  have e : bigSep Finset.univ (fun b => home8 c (nb (bat b)) cvM x b) = bigSep Finset.univ fun b => (((c : Thread nD τ).loc main_v6) ↦[homeSet8 nb b]{fullShare} x : sProp 𝕄) :=
    bigSep_congr fun b _ => by rw [← src8V_set]; rfl
  rw [e]
  exact BI.Entails.antisymm (pieces_split _ (homeSet8_disjoint nb) _) (pieces_join _ (homeSet8_disjoint nb) _)
omit [FloatOps F] in
theorem hKS_eq (x : BufOf F c ksM) : (((c : Thread nD τ).loc main_v7) ↦{fullShare} x : sProp 𝕄)
    = iprop(bigSep Finset.univ (fun b => homef c (nb (bat b)) ksM x b) ∗ restH (F := F) (ℓ := (c : Thread nD τ).loc main_v7) (homeSetf nb) x) := by
  have e : bigSep Finset.univ (fun b => homef c (nb (bat b)) ksM x b) = bigSep Finset.univ fun b => (((c : Thread nD τ).loc main_v7) ↦[homeSetf nb b]{fullShare} x : sProp 𝕄) :=
    bigSep_congr fun b _ => by rw [← srcfK_set]; rfl
  rw [e]
  exact BI.Entails.antisymm (pieces_split _ (homeSetf_disjoint nb) _) (pieces_join _ (homeSetf_disjoint nb) _)
omit [FloatOps F] in
theorem hVS_eq (x : BufOf F c vsM) : (((c : Thread nD τ).loc main_v8) ↦{fullShare} x : sProp 𝕄)
    = iprop(bigSep Finset.univ (fun b => homef c (nb (bat b)) vsM x b) ∗ restH (F := F) (ℓ := (c : Thread nD τ).loc main_v8) (homeSetf nb) x) := by
  have e : bigSep Finset.univ (fun b => homef c (nb (bat b)) vsM x b) = bigSep Finset.univ fun b => (((c : Thread nD τ).loc main_v8) ↦[homeSetf nb b]{fullShare} x : sProp 𝕄) :=
    bigSep_congr fun b _ => by rw [← srcfV_set]; rfl
  rw [e]
  exact BI.Entails.antisymm (pieces_split _ (homeSetf_disjoint nb) _) (pieces_join _ (homeSetf_disjoint nb) _)

/-! ## The kernel's own cells: a chunk's four, and the three of the first transfers -/

abbrev osem0 : (Fin 16 × Fin 4) ⊕ Fin 3 → SemLoc sig
  | .inl (b, i) => .dma (csm cc0_scratch12 b i).sem
  | .inr 0 => .dma ((cc0_scratch13.slice (Rect.unit (s := S3) ![0] S1.size inb_S3_S1_0)).squeeze S_ squeezes_S1_S_).sem
  | .inr 1 => .dma ((cc0_scratch13.slice (Rect.unit (s := S3) ![1] S1.size inb_S3_S1_1)).squeeze S_ squeezes_S1_S_).sem
  | .inr 2 => .dma ((cc0_scratch13.slice (Rect.unit (s := S3) ![2] S1.size inb_S3_S1_2)).squeeze S_ squeezes_S1_S_).sem
set_option maxRecDepth 100000 in
theorem ownSemFacts : Pipeline.OwnSemFacts spec0 osem0 := by decide +kernel

abbrev cellN (i : Fin 3) : sProp 𝕄 := semVal ((c : Thread nD τ), osem0 (.inr i)) 0

omit [FloatOps F] in
theorem ownSems0_eq : (Pipeline.ownSems0 (Ix := Unit) (Name := ℕ) (U := Pipeline.UD sig nD τ) (Lvl := ℕ) (Val := Elt F) (τ := τ) osem0 c : sProp 𝕄)
    = iprop((bigSep Finset.univ (cellP c · 0) ∗ bigSep Finset.univ (cellP c · 1) ∗ bigSep Finset.univ (cellP c · 2) ∗ bigSep Finset.univ (cellP c · 3))
      ∗ cellN c 0 ∗ cellN c 1 ∗ cellN c 2) := by
  unfold Pipeline.ownSems0
  rw [bigSep_univ_sum, bigSep_univ_prod, Ring.bigSep_fin3]
  simp only [bigSep_four, bigSep_sep']
  rfl

/-! ## All chunks at rest -/

/-- The chunks at rest, array by array. -/
theorem idle_eq (X : Caches F c) : bigSep Finset.univ (idleP c X nb)
    = iprop(bigSep Finset.univ (fun b => iprop(∃ f, ownP c (slot8 kB b) f)) ∗ bigSep Finset.univ (fun b => iprop(∃ f, ownP c (slotf ksB b) f))
      ∗ bigSep Finset.univ (fun b => iprop(∃ f, ownP c (slot8 vB b) f)) ∗ bigSep Finset.univ (fun b => iprop(∃ f, ownP c (slotf vsB b) f))
      ∗ bigSep Finset.univ (cellP c · 0) ∗ bigSep Finset.univ (cellP c · 1) ∗ bigSep Finset.univ (cellP c · 2) ∗ bigSep Finset.univ (cellP c · 3)
      ∗ bigSep Finset.univ (fun b => home8 c (nb (bat b)) ckM X.K b) ∗ bigSep Finset.univ (fun b => homef c (nb (bat b)) ksM X.KS b)
      ∗ bigSep Finset.univ (fun b => home8 c (nb (bat b)) cvM X.V b) ∗ bigSep Finset.univ (fun b => homef c (nb (bat b)) vsM X.VS b)) := by
  unfold idleP
  simp only [bigSep_sep']

/-- What the launch hands the body: the plain buffers and cells, the chunks at rest, what of the caches no chunk reads. -/
def gathered (X : Caches F c) (x2 : BufOf F c qM) (x3 : BufOf F c knM) (x4 : BufOf F c vnM) : sProp 𝕄 :=
  iprop((∃ f, ownP c qB f) ∗ (∃ f, ownP c knB f) ∗ (∃ f, ownP c vnB f) ∗ (∃ f, ownP c kn32B f) ∗ (∃ f, ownP c vn32B f)
    ∗ (∃ f, ownP c ksdB f) ∗ (∃ f, ownP c vsdB f) ∗ (∃ f, ownP c oB f)
    ∗ ownP c qM x2 ∗ ownP c knM x3 ∗ ownP c vnM x4
    ∗ cellN c 0 ∗ cellN c 1 ∗ cellN c 2 ∗ bigSep Finset.univ (idleP c X nb)
    ∗ (∃ r, prngReg c r)
    ∗ restH (F := F) (ℓ := (c : Thread nD τ).loc main_v5) (homeSet8 nb) X.K ∗ restH (F := F) (ℓ := (c : Thread nD τ).loc main_v6) (homeSet8 nb) X.V
    ∗ restH (F := F) (ℓ := (c : Thread nD τ).loc main_v7) (homeSetf nb) X.KS ∗ restH (F := F) (ℓ := (c : Thread nD τ).loc main_v8) (homeSetf nb) X.VS)

/-- The operands the body reads where they lie. -/
abbrev H0 : Finset (Ref sig .tc) := {main_v2, main_v3, main_v4, main_v5, main_v6, main_v7, main_v8}
omit [FloatOps F] in
theorem bigSep_H0 (Φ : Ref sig .tc → sProp 𝕄) :
    bigSep H0 Φ = iprop(Φ main_v2 ∗ Φ main_v3 ∗ Φ main_v4 ∗ Φ main_v5 ∗ Φ main_v6 ∗ Φ main_v7 ∗ Φ main_v8) :=
  bigSep_eq_bigSepL_of_eq [main_v2, main_v3, main_v4, main_v5, main_v6, main_v7, main_v8] (by decide) (by decide) Φ

omit [FloatOps F] in
/-- One contents for every piece, and so some contents for each. -/
theorem bigSep_some {A : Type} (P : Fin 16 → A → sProp 𝕄) (a : A) : bigSep Finset.univ (fun b => P b a) ⊢ bigSep Finset.univ (fun b => iprop(∃ f, P b f)) :=
  bigSep_mono fun b _ => exists_intro (Φ := fun f => P b f) a
omit [FloatOps F] in
theorem own_whole (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) :=
  congrArg (fun S => (((c : Thread nD τ).loc b) ↦[S]{fullShare} f : sProp 𝕄)) (View.set_whole (b := b))

set_option backward.isDefEq.respectTransparency.types false in
theorem gather (V : (c : Dev nD) → (b : Ref sig .tc) → Buf (Elt F) ((c : Thread nD τ).loc b)) (X : Caches F c)
    (hK : X.K = V c main_v5) (hV : X.V = V c main_v6) (hKS : X.KS = V c main_v7) (hVS : X.VS = V c main_v8) :
    (Pipeline.ΦD osem0 spec0 H0 V c : sProp 𝕄) ⊢ gathered c nb X (V c main_v2) (V c main_v3) (V c main_v4) := by
  rw [Pipeline.ΦD_eq, scopedRest0_eq, ownSems0_eq, bigSep_H0]
  unfold gathered
  rw [idle_eq]
  iintro ⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩, Hp,
    ⟨⟨C0, C1, C2, C3⟩, N0, N1, N2⟩, A2, A3, A4, A5, A6, A7, A8⟩
  ihave A5 := (entails_of_eq (hK_eq c nb (V c main_v5))) $$ A5
  icases A5 with ⟨A5, R5⟩
  ihave A6 := (entails_of_eq (hV_eq c nb (V c main_v6))) $$ A6
  icases A6 with ⟨A6, R6⟩
  ihave A7 := (entails_of_eq (hKS_eq c nb (V c main_v7))) $$ A7
  icases A7 with ⟨A7, R7⟩
  ihave A8 := (entails_of_eq (hVS_eq c nb (V c main_v8))) $$ A8
  icases A8 with ⟨A8, R8⟩
  ihave S5 := (entails_of_eq (kB_eq c s5)) $$ S5
  ihave S6 := (entails_of_eq (vB_eq c s6)) $$ S6
  ihave S7 := (entails_of_eq (ksB_eq c s7)) $$ S7
  ihave S8 := (entails_of_eq (vsB_eq c s8)) $$ S8
  rw [hK, hV, hKS, hVS]
  isplitl [S0]; · iexists s0; iapply (entails_of_eq (own_whole c cc0_scratch0 s0).symm); iexact S0
  isplitl [S1]; · iexists s1; iapply (entails_of_eq (own_whole c cc0_scratch1 s1).symm); iexact S1
  isplitl [S2]; · iexists s2; iapply (entails_of_eq (own_whole c cc0_scratch2 s2).symm); iexact S2
  isplitl [S3]; · iexists s3; iapply (entails_of_eq (own_whole c cc0_scratch3 s3).symm); iexact S3
  isplitl [S4]; · iexists s4; iapply (entails_of_eq (own_whole c cc0_scratch4 s4).symm); iexact S4
  isplitl [S9]; · iexists s9; iapply (entails_of_eq (own_whole c cc0_scratch9 s9).symm); iexact S9
  isplitl [S10]; · iexists s10; iapply (entails_of_eq (own_whole c cc0_scratch10 s10).symm); iexact S10
  isplitl [S11]; · iexists s11; iapply (entails_of_eq (own_whole c cc0_scratch11 s11).symm); iexact S11
  isplitl [A2]; · iapply (entails_of_eq (own_whole c main_v2 _).symm); iexact A2
  isplitl [A3]; · iapply (entails_of_eq (own_whole c main_v3 _).symm); iexact A3
  isplitl [A4]; · iapply (entails_of_eq (own_whole c main_v4 _).symm); iexact A4
  isplitl [N0]; · iexact N0
  isplitl [N1]; · iexact N1
  isplitl [N2]; · iexact N2
  isplitl [C0 C1 C2 C3 A5 A6 A7 A8 S5 S6 S7 S8]
  · isplitl [S5]; · iapply (bigSep_some (fun b f => ownP c (slot8 kB b) f) s5); iexact S5
    isplitl [S7]; · iapply (bigSep_some (fun b f => ownP c (slotf ksB b) f) s7); iexact S7
    isplitl [S6]; · iapply (bigSep_some (fun b f => ownP c (slot8 vB b) f) s6); iexact S6
    isplitl [S8]; · iapply (bigSep_some (fun b f => ownP c (slotf vsB b) f) s8); iexact S8
    isplitl [C0]; · iexact C0
    isplitl [C1]; · iexact C1
    isplitl [C2]; · iexact C2
    isplitl [C3]; · iexact C3
    isplitl [A5]; · iexact A5
    isplitl [A7]; · iexact A7
    isplitl [A6]; · iexact A6
    iexact A8
  isplitl [Hp]; · iexact Hp
  isplitl [R5]; · iexact R5
  isplitl [R6]; · iexact R6
  isplitl [R7]; · iexact R7
  iexact R8

set_option backward.isDefEq.respectTransparency.types false in
theorem ungather (V : (c : Dev nD) → (b : Ref sig .tc) → Buf (Elt F) ((c : Thread nD τ).loc b)) (X : Caches F c)
    (hK : X.K = V c main_v5) (hV : X.V = V c main_v6) (hKS : X.KS = V c main_v7) (hVS : X.VS = V c main_v8) :
    gathered c nb X (V c main_v2) (V c main_v3) (V c main_v4) ⊢ (Pipeline.ΦD osem0 spec0 H0 V c : sProp 𝕄) := by
  rw [Pipeline.ΦD_eq, scopedRest0_eq, ownSems0_eq, bigSep_H0]
  unfold gathered
  rw [idle_eq, hK, hV, hKS, hVS]
  iintro ⟨⟨%s0, S0⟩, ⟨%s1, S1⟩, ⟨%s2, S2⟩, ⟨%s3, S3⟩, ⟨%s4, S4⟩, ⟨%s9, S9⟩, ⟨%s10, S10⟩, ⟨%s11, S11⟩, A2, A3, A4, N0, N1, N2,
    ⟨S5, S7, S6, S8, C0, C1, C2, C3, A5, A7, A6, A8⟩, Hp, R5, R6, R7, R8⟩
  isplitl [S0 S1 S2 S3 S4 S5 S6 S7 S8 S9 S10 S11]
  · isplitl [S0]; · iexists s0; iapply (entails_of_eq (own_whole c cc0_scratch0 s0)); iexact S0
    isplitl [S1]; · iexists s1; iapply (entails_of_eq (own_whole c cc0_scratch1 s1)); iexact S1
    isplitl [S2]; · iexists s2; iapply (entails_of_eq (own_whole c cc0_scratch2 s2)); iexact S2
    isplitl [S3]; · iexists s3; iapply (entails_of_eq (own_whole c cc0_scratch3 s3)); iexact S3
    isplitl [S4]; · iexists s4; iapply (entails_of_eq (own_whole c cc0_scratch4 s4)); iexact S4
    isplitl [S5]; · iapply (kB_join c kB.view.junk); iexact S5
    isplitl [S6]; · iapply (vB_join c vB.view.junk); iexact S6
    isplitl [S7]; · iapply (ksB_join c ksB.view.junk); iexact S7
    isplitl [S8]; · iapply (vsB_join c vsB.view.junk); iexact S8
    isplitl [S9]; · iexists s9; iapply (entails_of_eq (own_whole c cc0_scratch9 s9)); iexact S9
    isplitl [S10]; · iexists s10; iapply (entails_of_eq (own_whole c cc0_scratch10 s10)); iexact S10
    iexists s11; iapply (entails_of_eq (own_whole c cc0_scratch11 s11)); iexact S11
  isplitl [Hp]; · iexact Hp
  isplitl [C0 C1 C2 C3 N0 N1 N2]
  · isplitl [C0 C1 C2 C3]
    · isplitl [C0]; · iexact C0
      isplitl [C1]; · iexact C1
      isplitl [C2]; · iexact C2
      iexact C3
    isplitl [N0]; · iexact N0
    isplitl [N1]; · iexact N1
    iexact N2
  isplitl [A2]; · iapply (entails_of_eq (own_whole c main_v2 _)); iexact A2
  isplitl [A3]; · iapply (entails_of_eq (own_whole c main_v3 _)); iexact A3
  isplitl [A4]; · iapply (entails_of_eq (own_whole c main_v4 _)); iexact A4
  isplitl [A5 R5]
  · iapply (entails_of_eq (hK_eq c nb (V c main_v5)).symm)
    isplitl [A5]; · iexact A5
    iexact R5
  isplitl [A6 R6]
  · iapply (entails_of_eq (hV_eq c nb (V c main_v6)).symm)
    isplitl [A6]; · iexact A6
    iexact R6
  isplitl [A7 R7]
  · iapply (entails_of_eq (hKS_eq c nb (V c main_v7)).symm)
    isplitl [A7]; · iexact A7
    iexact R7
  iapply (entails_of_eq (hVS_eq c nb (V c main_v8)).symm)
  isplitl [A8]; · iexact A8
  iexact R8

end Arrays

end Cert.Proof.Attn

end

end
-- ==== Proof.Loop1.lean ====
/-
  The first loop: trip `k` issues the four transfers of chunk `k + 1`.
-/
module

public import proofs.«01_k».proof.Proof.Pieces
public import Idealize.ShloMosaic.Lib.Tactic

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Trip

variable (c : Dev nD) (X : Caches F c) (nb : Fin 4 → Fin 56)
  (arg0 : Memref sig .tc .smem S4 .i32) (harg0 : arg0.IsWhole) (arg1 : Memref sig .tc .smem S1 .f32) (harg1 : arg1.IsWhole)
  (arg2 : Memref sig .tc .smem S1 .f32) (harg2 : arg2.IsWhole) (arg10 : Memref sig .tc .vmem S4x16384 .bf16) (harg10 : arg10.IsWhole)
  (g0 : BufOf F c arg0)

theorem nbase_load1 (k : Fin k0_t1_loop.trips) (hnb : ∀ b, nb b = nbase (lenW c arg0 g0 b)) :
    nb (bat (ck1 k)) = nbase ((arg0.access (Rect.unit (s := S4) (k0_off3 k) S1.size (k0_off3_inb k))).read (Elt F) g0 (Shape.Idx.first (numel1_S1.symm ▸ Nat.one_pos))) := by
  rw [hnb]; unfold lenW
  exact congrArg nbase (access_read_congr c arg0 g0 (off3_eq k).symm _ _ _)

abbrev tripG1 (v : Elt F .i32) (hw : k0_chk1 v) (k : Fin k0_t1_loop.trips) : Prog (TpuEff nD τ sig (Elt F) Λ₀ .tc) Unit :=
  k0_t1_body (F := F) arg0 harg0 arg1 harg1 arg2 harg2 qM (Memref.isWhole_whole _) knM (Memref.isWhole_whole _) vnM (Memref.isWhole_whole _) ckM (Memref.isWhole_whole _) cvM (Memref.isWhole_whole _) ksM (Memref.isWhole_whole _) vsM (Memref.isWhole_whole _) arg10 harg10 qB (Memref.isWhole_whole _) knB (Memref.isWhole_whole _) vnB (Memref.isWhole_whole _) kn32B (Memref.isWhole_whole _) vn32B (Memref.isWhole_whole _) kB (Memref.isWhole_whole _) vB (Memref.isWhole_whole _) ksB (Memref.isWhole_whole _) vsB (Memref.isWhole_whole _) ksdB (Memref.isWhole_whole _) vsdB (Memref.isWhole_whole _) oB (Memref.isWhole_whole _) cc0_scratch12 cc0_scratch13 v hw k ()

/-- The lengths staged, the chunks below `k` in flight and the others at rest, the core's `owes`. -/
def inv1 (k : ℕ) : sProp 𝕄 :=
  iprop(ownP c arg0 g0 ∗ (∃ W, owes (c : Thread nD τ) 0 W) ∗ stateAt (flyP c X nb) (idleP c X nb) (k + 1))

theorem trip1 (hnb : ∀ b, nb b = nbase (lenW c arg0 g0 b)) (v : Elt F .i32) (hw : k0_chk1 v) (k : Fin k0_t1_loop.trips) :
    inv1 c X nb arg0 g0 k ⊢ wp frame (wpE (defs₀ (F := F)) 𝒱₀ (c : Thread nD τ) none) Set.univ
      (tripG1 arg0 harg0 arg1 harg1 arg2 harg2 arg10 harg10 v hw k) (fun _ => inv1 c X nb arg0 g0 (k.val + 1)) := by
  unfold inv1
  rw [show k.val + 1 = (ck1 k).val from rfl, stateAt_before, stateAt_after]
  generalize restAt (flyP c X nb) (idleP c X nb) (ck1 k) = R
  unfold idleP flyP
  rw [nbase_load1 c nb arg0 g0 k hnb]
  iintro ⟨HL, ⟨%W, HW⟩, ⟨⟨⟨%f0, HS0⟩, ⟨%f1, HS1⟩, ⟨%f2, HS2⟩, ⟨%f3, HS3⟩, HC0, HC1, HC2, HC3, HM0, HM1, HM2, HM3⟩, HR⟩⟩
  dsimp only [tripG1]
  sl_unfold [k0_t1_body]
  sl_exec
  have hchk := chk2 k (trip1.sl.r c arg0 g0 k)
  sl_exec
  sl_step
  isplitl [HL]; · iexact HL
  isplitl [HW]; · iexists _; iexact HW
  isplitr [HR]
  · isplitl [HC0]; · iexists f0; iexact HC0
    isplitl [HC1]; · iexists f1; iexact HC1
    isplitl [HC2]; · iexists f2; iexact HC2
    iexists f3; iexact HC3
  · iexact HR

set_option warn.classDefReducibility false in
/-- The first loop's invariant. -/
def loopInv1 (hnb : ∀ b, nb b = nbase (lenW c arg0 g0 b)) (v : Elt F .i32) (hw : k0_chk1 v) :
    LoopInvTy_k0_t1 (F := F) Unit ℕ (Pipeline.UD sig nD τ) ℕ 𝒱₀ c none Set.univ arg0 harg0 arg1 harg1 arg2 harg2 qM (Memref.isWhole_whole _) knM (Memref.isWhole_whole _) vnM (Memref.isWhole_whole _) ckM (Memref.isWhole_whole _) cvM (Memref.isWhole_whole _) ksM (Memref.isWhole_whole _) vsM (Memref.isWhole_whole _) arg10 harg10 qB (Memref.isWhole_whole _) knB (Memref.isWhole_whole _) vnB (Memref.isWhole_whole _) kn32B (Memref.isWhole_whole _) vn32B (Memref.isWhole_whole _) kB (Memref.isWhole_whole _) vB (Memref.isWhole_whole _) ksB (Memref.isWhole_whole _) vsB (Memref.isWhole_whole _) ksdB (Memref.isWhole_whole _) vsdB (Memref.isWhole_whole _) oB (Memref.isWhole_whole _) cc0_scratch12 cc0_scratch13 v hw where
  inv k _ := inv1 c X nb arg0 g0 k
  step k _ := trip1 c X nb arg0 harg0 arg1 harg1 arg2 harg2 arg10 harg10 g0 hnb v hw k

end Trip

end Cert.Proof.Attn

end

end
-- ==== Proof.Loop2.lean ====
/-
  The second loop: trip `k` waits chunk `k`'s four transfers and computes the attention of its four heads, one column of
  the output buffer `oB` each.
-/
module

public import proofs.«01_k».proof.Proof.Pieces
public import Idealize.ShloMosaic.Lib.Tactic

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The trip's loads from a slot, in closed form -/

section Cols
variable (k : Fin k0_t2_loop.trips)

/-- Head `h` of slot `b`, from lane `j` on. -/
abbrev colOff (b : Fin 16) (h : Fin 4) (j : ℕ) : Fin 4 → ℕ := ![b.val, h.val, 0, j]

theorem off24_eq : k0_off24 k = colOff (ck2 k) 0 0 := by revert k; decide
instance : ClosedOff (k0_off24 k) := ⟨colOff (ck2 k) 0 0, off24_eq k⟩
theorem off25_eq : k0_off25 k = colOff (ck2 k) 0 1024 := by revert k; decide
instance : ClosedOff (k0_off25 k) := ⟨colOff (ck2 k) 0 1024, off25_eq k⟩
theorem off26_eq : k0_off26 k = colOff (ck2 k) 0 128 := by revert k; decide
instance : ClosedOff (k0_off26 k) := ⟨colOff (ck2 k) 0 128, off26_eq k⟩
theorem off27_eq : k0_off27 k = colOff (ck2 k) 0 0 := by revert k; decide
instance : ClosedOff (k0_off27 k) := ⟨colOff (ck2 k) 0 0, off27_eq k⟩
theorem off28_eq : k0_off28 k = colOff (ck2 k) 0 1024 := by revert k; decide
instance : ClosedOff (k0_off28 k) := ⟨colOff (ck2 k) 0 1024, off28_eq k⟩
theorem off29_eq : k0_off29 k = colOff (ck2 k) 0 128 := by revert k; decide
instance : ClosedOff (k0_off29 k) := ⟨colOff (ck2 k) 0 128, off29_eq k⟩
theorem off31_eq : k0_off31 k = colOff (ck2 k) 1 0 := by revert k; decide
instance : ClosedOff (k0_off31 k) := ⟨colOff (ck2 k) 1 0, off31_eq k⟩
theorem off32_eq : k0_off32 k = colOff (ck2 k) 1 1024 := by revert k; decide
instance : ClosedOff (k0_off32 k) := ⟨colOff (ck2 k) 1 1024, off32_eq k⟩
theorem off33_eq : k0_off33 k = colOff (ck2 k) 1 128 := by revert k; decide
instance : ClosedOff (k0_off33 k) := ⟨colOff (ck2 k) 1 128, off33_eq k⟩
theorem off34_eq : k0_off34 k = colOff (ck2 k) 1 0 := by revert k; decide
instance : ClosedOff (k0_off34 k) := ⟨colOff (ck2 k) 1 0, off34_eq k⟩
theorem off35_eq : k0_off35 k = colOff (ck2 k) 1 1024 := by revert k; decide
instance : ClosedOff (k0_off35 k) := ⟨colOff (ck2 k) 1 1024, off35_eq k⟩
theorem off36_eq : k0_off36 k = colOff (ck2 k) 1 128 := by revert k; decide
instance : ClosedOff (k0_off36 k) := ⟨colOff (ck2 k) 1 128, off36_eq k⟩
theorem off37_eq : k0_off37 k = colOff (ck2 k) 2 0 := by revert k; decide
instance : ClosedOff (k0_off37 k) := ⟨colOff (ck2 k) 2 0, off37_eq k⟩
theorem off38_eq : k0_off38 k = colOff (ck2 k) 2 1024 := by revert k; decide
instance : ClosedOff (k0_off38 k) := ⟨colOff (ck2 k) 2 1024, off38_eq k⟩
theorem off39_eq : k0_off39 k = colOff (ck2 k) 2 128 := by revert k; decide
instance : ClosedOff (k0_off39 k) := ⟨colOff (ck2 k) 2 128, off39_eq k⟩
theorem off40_eq : k0_off40 k = colOff (ck2 k) 2 0 := by revert k; decide
instance : ClosedOff (k0_off40 k) := ⟨colOff (ck2 k) 2 0, off40_eq k⟩
theorem off41_eq : k0_off41 k = colOff (ck2 k) 2 1024 := by revert k; decide
instance : ClosedOff (k0_off41 k) := ⟨colOff (ck2 k) 2 1024, off41_eq k⟩
theorem off42_eq : k0_off42 k = colOff (ck2 k) 2 128 := by revert k; decide
instance : ClosedOff (k0_off42 k) := ⟨colOff (ck2 k) 2 128, off42_eq k⟩
theorem off43_eq : k0_off43 k = colOff (ck2 k) 3 0 := by revert k; decide
instance : ClosedOff (k0_off43 k) := ⟨colOff (ck2 k) 3 0, off43_eq k⟩
theorem off44_eq : k0_off44 k = colOff (ck2 k) 3 1024 := by revert k; decide
instance : ClosedOff (k0_off44 k) := ⟨colOff (ck2 k) 3 1024, off44_eq k⟩
theorem off45_eq : k0_off45 k = colOff (ck2 k) 3 128 := by revert k; decide
instance : ClosedOff (k0_off45 k) := ⟨colOff (ck2 k) 3 128, off45_eq k⟩
theorem off46_eq : k0_off46 k = colOff (ck2 k) 3 0 := by revert k; decide
instance : ClosedOff (k0_off46 k) := ⟨colOff (ck2 k) 3 0, off46_eq k⟩
theorem off47_eq : k0_off47 k = colOff (ck2 k) 3 1024 := by revert k; decide
instance : ClosedOff (k0_off47 k) := ⟨colOff (ck2 k) 3 1024, off47_eq k⟩
theorem off48_eq : k0_off48 k = colOff (ck2 k) 3 128 := by revert k; decide
instance : ClosedOff (k0_off48 k) := ⟨colOff (ck2 k) 3 128, off48_eq k⟩

end Cols

section Trip

variable (c : Dev nD) (X : Caches F c) (nb : Fin 4 → Fin 56)
  (arg0 : Memref sig .tc .smem S4 .i32) (harg0 : arg0.IsWhole) (arg1 : Memref sig .tc .smem S1 .f32) (harg1 : arg1.IsWhole)
  (arg2 : Memref sig .tc .smem S1 .f32) (harg2 : arg2.IsWhole) (arg10 : Memref sig .tc .vmem S4x16384 .bf16) (harg10 : arg10.IsWhole)
  (g0 : BufOf F c arg0) (g1 : BufOf F c arg1) (g2 : BufOf F c arg2) (fq : BufOf F c qB) (fk : BufOf F c kn32B) (fv : BufOf F c vn32B)

theorem nbase_load2 (k : Fin k0_t2_loop.trips) (hnb : ∀ b, nb b = nbase (lenW c arg0 g0 b)) :
    nb (bat (ck2 k)) = nbase ((arg0.access (Rect.unit (s := S4) (k0_off13 k) S1.size (k0_off13_inb k))).read (Elt F) g0 (Shape.Idx.first (numel1_S1.symm ▸ Nat.one_pos))) := by
  rw [hnb]; unfold lenW
  exact congrArg nbase (access_read_congr c arg0 g0 (off13_eq k).symm _ _ _)

abbrev tripG2 (k : Fin k0_t2_loop.trips) : Prog (TpuEff nD τ sig (Elt F) Λ₀ .tc) Unit :=
  k0_t2_body (F := F) arg0 harg0 arg1 harg1 arg2 harg2 qM (Memref.isWhole_whole _) knM (Memref.isWhole_whole _) vnM (Memref.isWhole_whole _) ckM (Memref.isWhole_whole _) cvM (Memref.isWhole_whole _) ksM (Memref.isWhole_whole _) vsM (Memref.isWhole_whole _) arg10 harg10 qB (Memref.isWhole_whole _) knB (Memref.isWhole_whole _) vnB (Memref.isWhole_whole _) kn32B (Memref.isWhole_whole _) vn32B (Memref.isWhole_whole _) kB (Memref.isWhole_whole _) vB (Memref.isWhole_whole _) ksB (Memref.isWhole_whole _) vsB (Memref.isWhole_whole _) ksdB (Memref.isWhole_whole _) vsdB (Memref.isWhole_whole _) oB (Memref.isWhole_whole _) cc0_scratch12 cc0_scratch13 k ()

/-- Before trip `k`: the lengths and scales staged, queries and new rows in their buffers, the scale buffers at
    something, the output buffer at `fo`, the chunks below `k` at rest and the others in flight. -/
def inv2 (k : ℕ) (fo : BufOf F c oB) : sProp 𝕄 :=
  iprop(ownP c arg0 g0 ∗ ownP c arg1 g1 ∗ ownP c arg2 g2 ∗ ownP c qB fq ∗ ownP c kn32B fk ∗ ownP c vn32B fv
    ∗ (∃ f, ownP c ksdB f) ∗ (∃ f, ownP c vsdB f) ∗ ownP c oB fo
    ∗ (∃ W, owes (c : Thread nD τ) 0 W) ∗ stateAt (idleP c X nb) (flyP c X nb) k)

/-- A column of the output buffer, as a trip stores it. -/
abbrev Col (F : FTy → Type) : Type := S8x1x128.Idx → Elt F .f32
/-- The output buffer after trip `k` stored its four columns. -/
abbrev oStep (k : Fin k0_t2_loop.trips) (fo : BufOf F c oB) (w0 w1 w2 w3 : Col F) : BufOf F c oB :=
  oB.view.writes (Elt F) fo
    [⟨Rect.unit (s := S128x4x128) (k0_off30 k 3#32) S8x1x128.size (k0_off30_inb k 3), w3⟩,
     ⟨Rect.unit (s := S128x4x128) (k0_off30 k 2#32) S8x1x128.size (k0_off30_inb k 2), w2⟩,
     ⟨Rect.unit (s := S128x4x128) (k0_off30 k 1#32) S8x1x128.size (k0_off30_inb k 1), w1⟩,
     ⟨Rect.unit (s := S128x4x128) (k0_off30 k 0#32) S8x1x128.size (k0_off30_inb k 0), w0⟩]

set_option backward.proofsInPublic true in
/-- One trip at a symbolic `k`: the four stored columns to be found. -/
def trip2 (hnb : ∀ b, nb b = nbase (lenW c arg0 g0 b)) (k : Fin k0_t2_loop.trips) (fo : BufOf F c oB) :
    Σ' (w0 w1 w2 w3 : Col F),
      inv2 c X nb arg0 arg1 arg2 g0 g1 g2 fq fk fv k fo ⊢ wp frame (wpE (defs₀ (F := F)) 𝒱₀ (c : Thread nD τ) none) Set.univ
        (tripG2 arg0 harg0 arg1 harg1 arg2 harg2 arg10 harg10 k)
        (fun _ => inv2 c X nb arg0 arg1 arg2 g0 g1 g2 fq fk fv (k.val + 1)
          (oStep c k fo w0 w1 w2 w3)) := by
  refine ⟨?w0, ?w1, ?w2, ?w3, ?run⟩
  case run =>
    unfold inv2
    rw [show k.val = (ck2 k).val from rfl, stateAt_before, stateAt_after]
    generalize restAt (idleP c X nb) (flyP c X nb) (ck2 k) = R
    unfold idleP flyP
    rw [nbase_load2 c nb arg0 g0 k hnb]
    iintro ⟨HL, HA1, HA2, HQ, HK, HV, ⟨%fs, HKS⟩, ⟨%ft, HVS⟩, HO, ⟨%W, HW⟩, ⟨⟨⟨%f0, HF0⟩, ⟨%f1, HF1⟩, ⟨%f2, HF2⟩, ⟨%f3, HF3⟩⟩, HR⟩⟩
    dsimp only [tripG2]
    sl_unfold [k0_t2_body]
    sl_exec (disch := first | exact chk3 _ | exact chk4 _ _)
    sl_step
    isplitl [HL]; · iexact HL
    isplitl [HA1]; · iexact HA1
    isplitl [HA2]; · iexact HA2
    isplitl [HQ]; · iexact HQ
    isplitl [HK]; · iexact HK
    isplitl [HV]; · iexact HV
    isplitl [HKS]; · iexists _; iexact HKS
    isplitl [HVS]; · iexists _; iexact HVS
    isplitl [HO]; · iexact HO
    isplitl [HW]; · iexists _; iexact HW
    isplitr [HR]
    · isplitl [HF0_dst]; · iexists _; iexact HF0_dst
      isplitl [HF1_dst]; · iexists _; iexact HF1_dst
      isplitl [HF2_dst]; · iexists _; iexact HF2_dst
      isplitl [HF3_dst]; · iexists _; iexact HF3_dst
      isplitl [HF0]; · iexact HF0
      isplitl [HF1]; · iexact HF1
      isplitl [HF2]; · iexact HF2
      isplitl [HF3]; · iexact HF3
      isplitl [HF0_src]; · iexact HF0_src
      isplitl [HF1_src]; · iexact HF1_src
      isplitl [HF2_src]; · iexact HF2_src
      iexact HF3_src
    · iexact HR

/-- The output buffer before trip `k`: from `fo`, each trip's four columns stored on. -/
def oAcc (hnb : ∀ b, nb b = nbase (lenW c arg0 g0 b)) (fo : BufOf F c oB) : ℕ → BufOf F c oB
  | 0 => fo
  | k + 1 =>
    if h : k < k0_t2_loop.trips then
      let w := (trip2 c X nb arg0 harg0 arg1 harg1 arg2 harg2 arg10 harg10 g0 g1 g2 fq fk fv hnb ⟨k, h⟩ (oAcc hnb fo k))
      oStep c ⟨k, h⟩ (oAcc hnb fo k) w.1 w.2.1 w.2.2.1 w.2.2.2.1
    else oAcc hnb fo k

/-- The run of trip `k` from the buffer as the trips before left it. -/
abbrev tripOf (hnb : ∀ b, nb b = nbase (lenW c arg0 g0 b)) (fo : BufOf F c oB) (k : Fin k0_t2_loop.trips) :=
  trip2 c X nb arg0 harg0 arg1 harg1 arg2 harg2 arg10 harg10 g0 g1 g2 fq fk fv hnb k (oAcc c X nb arg0 harg0 arg1 harg1 arg2 harg2 arg10 harg10 g0 g1 g2 fq fk fv hnb fo k)

theorem oAcc_succ (hnb : ∀ b, nb b = nbase (lenW c arg0 g0 b)) (fo : BufOf F c oB) (k : Fin k0_t2_loop.trips) :
    oAcc c X nb arg0 harg0 arg1 harg1 arg2 harg2 arg10 harg10 g0 g1 g2 fq fk fv hnb fo (k.val + 1)
      = oStep c k (oAcc c X nb arg0 harg0 arg1 harg1 arg2 harg2 arg10 harg10 g0 g1 g2 fq fk fv hnb fo k)
        (tripOf c X nb arg0 harg0 arg1 harg1 arg2 harg2 arg10 harg10 g0 g1 g2 fq fk fv hnb fo k).1
        (tripOf c X nb arg0 harg0 arg1 harg1 arg2 harg2 arg10 harg10 g0 g1 g2 fq fk fv hnb fo k).2.1
        (tripOf c X nb arg0 harg0 arg1 harg1 arg2 harg2 arg10 harg10 g0 g1 g2 fq fk fv hnb fo k).2.2.1
        (tripOf c X nb arg0 harg0 arg1 harg1 arg2 harg2 arg10 harg10 g0 g1 g2 fq fk fv hnb fo k).2.2.2.1 := by
  rw [oAcc, dif_pos k.isLt]

set_option warn.classDefReducibility false in
/-- The second loop's invariant. -/
def loopInv2 (hnb : ∀ b, nb b = nbase (lenW c arg0 g0 b)) (fo : BufOf F c oB) :
    LoopInvTy_k0_t2 (F := F) Unit ℕ (Pipeline.UD sig nD τ) ℕ 𝒱₀ c none Set.univ arg0 harg0 arg1 harg1 arg2 harg2 qM (Memref.isWhole_whole _) knM (Memref.isWhole_whole _) vnM (Memref.isWhole_whole _) ckM (Memref.isWhole_whole _) cvM (Memref.isWhole_whole _) ksM (Memref.isWhole_whole _) vsM (Memref.isWhole_whole _) arg10 harg10 qB (Memref.isWhole_whole _) knB (Memref.isWhole_whole _) vnB (Memref.isWhole_whole _) kn32B (Memref.isWhole_whole _) vn32B (Memref.isWhole_whole _) kB (Memref.isWhole_whole _) vB (Memref.isWhole_whole _) ksB (Memref.isWhole_whole _) vsB (Memref.isWhole_whole _) ksdB (Memref.isWhole_whole _) vsdB (Memref.isWhole_whole _) oB (Memref.isWhole_whole _) cc0_scratch12 cc0_scratch13 where
  inv k _ := inv2 c X nb arg0 arg1 arg2 g0 g1 g2 fq fk fv k (oAcc c X nb arg0 harg0 arg1 harg1 arg2 harg2 arg10 harg10 g0 g1 g2 fq fk fv hnb fo k)
  step k _ := by
    rw [oAcc_succ]
    exact (trip2 c X nb arg0 harg0 arg1 harg1 arg2 harg2 arg10 harg10 g0 g1 g2 fq fk fv hnb k (oAcc c X nb arg0 harg0 arg1 harg1 arg2 harg2 arg10 harg10 g0 g1 g2 fq fk fv hnb fo k)).2.2.2.2

end Trip

end Cert.Proof.Attn

end

end
-- ==== Proof.Body.lean ====
/-
  The kernel's body: chunk 0's transfers, the queries' and new rows' transfers, the two loops, and the rounding of the
  output buffer to the result's 128 column blocks.
-/
module

public import proofs.«01_k».proof.Proof.Loop1
public import proofs.«01_k».proof.Proof.Loop2
public import Idealize.ShloMosaic.Lib.Tactic

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Body

variable (c : Dev nD) (X : Caches F c) (nb : Fin 4 → Fin 56)
  (arg0 : Memref sig .tc .smem S4 .i32) (harg0 : arg0.IsWhole) (arg1 : Memref sig .tc .smem S1 .f32) (harg1 : arg1.IsWhole)
  (arg2 : Memref sig .tc .smem S1 .f32) (harg2 : arg2.IsWhole) (arg10 : Memref sig .tc .vmem S4x16384 .bf16) (harg10 : arg10.IsWhole)
  (g0 : BufOf F c arg0) (g1 : BufOf F c arg1) (g2 : BufOf F c arg2) (f10 : BufOf F c arg10)
  (xq : BufOf F c qM) (xk : BufOf F c knM) (xv : BufOf F c vnM)
  (fq : BufOf F c qB) (fkb : BufOf F c knB) (fvb : BufOf F c vnB) (fk : BufOf F c kn32B) (fv : BufOf F c vn32B) (fo : BufOf F c oB)

abbrev bodyG : Prog (TpuEff nD τ sig (Elt F) Λ₀ .tc) Unit :=
  cc0_window_attention (F := F) arg0 harg0 arg1 harg1 arg2 harg2 qM (Memref.isWhole_whole _) knM (Memref.isWhole_whole _) vnM (Memref.isWhole_whole _) ckM (Memref.isWhole_whole _) cvM (Memref.isWhole_whole _) ksM (Memref.isWhole_whole _) vsM (Memref.isWhole_whole _) arg10 harg10 qB (Memref.isWhole_whole _) knB (Memref.isWhole_whole _) vnB (Memref.isWhole_whole _) kn32B (Memref.isWhole_whole _) vn32B (Memref.isWhole_whole _) kB (Memref.isWhole_whole _) vB (Memref.isWhole_whole _) ksB (Memref.isWhole_whole _) vsB (Memref.isWhole_whole _) ksdB (Memref.isWhole_whole _) vsdB (Memref.isWhole_whole _) oB (Memref.isWhole_whole _) cc0_scratch12 cc0_scratch13

/-- The cell of the queries' (0), new keys' (1), new values' (2) transfer. -/
abbrev cellN0 : sProp 𝕄 := semVal ((c : Thread nD τ), SemLoc.dma ((cc0_scratch13.slice (Rect.unit (s := S3) ![0] S1.size inb_S3_S1_0)).squeeze S_ squeezes_S1_S_).sem) 0
abbrev cellN1 : sProp 𝕄 := semVal ((c : Thread nD τ), SemLoc.dma ((cc0_scratch13.slice (Rect.unit (s := S3) ![1] S1.size inb_S3_S1_1)).squeeze S_ squeezes_S1_S_).sem) 0
abbrev cellN2 : sProp 𝕄 := semVal ((c : Thread nD τ), SemLoc.dma ((cc0_scratch13.slice (Rect.unit (s := S3) ![2] S1.size inb_S3_S1_2)).squeeze S_ squeezes_S1_S_).sem) 0

/-- What the body takes: staged lengths, scales and result block, the operands in HBM, the buffers, the cells. -/
def preB : sProp 𝕄 :=
  iprop(ownP c arg0 g0 ∗ ownP c arg1 g1 ∗ ownP c arg2 g2 ∗ ownP c arg10 f10
    ∗ ownP c qM xq ∗ ownP c knM xk ∗ ownP c vnM xv
    ∗ ownP c qB fq ∗ ownP c knB fkb ∗ ownP c vnB fvb ∗ ownP c kn32B fk ∗ ownP c vn32B fv
    ∗ (∃ f, ownP c ksdB f) ∗ (∃ f, ownP c vsdB f) ∗ ownP c oB fo
    ∗ cellN0 c ∗ cellN1 c ∗ cellN2 c
    ∗ (∃ W, owes (c : Thread nD τ) 0 W) ∗ bigSep Finset.univ (idleP c X nb))

/-- The queries as transferred. -/
abbrev qF : BufOf F c qB := qB.view.writes (Elt F) qB.view.junk [⟨Rect.whole S4x128x128, ReadAs.same.apply (qM.view.read (Elt F) xq)⟩]

/-- The new keys in 32 bits, the new values. -/
abbrev knF : BufOf F c kn32B := kn32B.view.writes (Elt F) kn32B.view.junk
  [⟨Rect.unit ![0, 0, 0] S4x16x128.size inb_S4x16x128_S4x16x128_0_0_0,
    k0_pay127 (View.readAt (Elt F) knB.view (Rect.unit ![0, 0, 0] S4x16x128.size inb_S4x16x128_S4x16x128_0_0_0).toLoadRect
      (knB.view.writes (Elt F) knB.view.junk [⟨Rect.whole S4x16x128, ReadAs.same.apply (knM.view.read (Elt F) xk)⟩]))⟩]
abbrev vnF : BufOf F c vn32B := vn32B.view.writes (Elt F) vn32B.view.junk
  [⟨Rect.unit ![0, 0, 0] S4x16x128.size inb_S4x16x128_S4x16x128_0_0_0,
    k0_pay128 (View.readAt (Elt F) vnB.view (Rect.unit ![0, 0, 0] S4x16x128.size inb_S4x16x128_S4x16x128_0_0_0).toLoadRect
      (vnB.view.writes (Elt F) vnB.view.junk [⟨Rect.whole S4x16x128, ReadAs.same.apply (vnM.view.read (Elt F) xv)⟩]))⟩]

/-- The output buffer after the second loop. -/
abbrev oEnd (hnb : ∀ b, nb b = nbase (lenW c arg0 g0 b)) : BufOf F c oB :=
  oAcc c X nb arg0 harg0 arg1 harg1 arg2 harg2 arg10 harg10 g0 g1 g2 (qF c xq) (knF c xk) (vnF c xv) hnb fo (Scf.trips k0_t2_loop.lb k0_t2_loop.ub k0_t2_loop.st)

/-- What the body leaves: the result block at the pieces `L`, everything else as it was or at something. -/
def postB (L : List (View.Piece (Elt F) S4x16384 .bf16)) : sProp 𝕄 :=
  iprop(ownP c arg0 g0 ∗ ownP c arg1 g1 ∗ ownP c arg2 g2 ∗ ownP c arg10 (arg10.view.writes (Elt F) f10 L)
    ∗ ownP c qM xq ∗ ownP c knM xk ∗ ownP c vnM xv
    ∗ (∃ f, ownP c qB f) ∗ (∃ f, ownP c knB f) ∗ (∃ f, ownP c vnB f) ∗ (∃ f, ownP c kn32B f) ∗ (∃ f, ownP c vn32B f)
    ∗ (∃ f, ownP c ksdB f) ∗ (∃ f, ownP c vsdB f) ∗ (∃ f, ownP c oB f)
    ∗ cellN0 c ∗ cellN1 c ∗ cellN2 c
    ∗ (∃ W, owes (c : Thread nD τ) 0 W) ∗ bigSep Finset.univ (idleP c X nb))

/-- After the first loop every chunk is in flight, as before the second. -/
theorem flown : stateAt (flyP c X nb) (idleP c X nb) (Scf.trips k0_t1_loop.lb k0_t1_loop.ub k0_t1_loop.st + 1) ⊢ stateAt (idleP c X nb) (flyP c X nb) 0 := by
  rw [show Scf.trips k0_t1_loop.lb k0_t1_loop.ub k0_t1_loop.st + 1 = 16 from by decide, stateAt_all, stateAt_zero]
/-- After the second every chunk is at rest. -/
theorem landed : stateAt (idleP c X nb) (flyP c X nb) (Scf.trips k0_t2_loop.lb k0_t2_loop.ub k0_t2_loop.st) ⊢ bigSep Finset.univ (idleP c X nb) := by
  rw [show Scf.trips k0_t2_loop.lb k0_t2_loop.ub k0_t2_loop.st = 16 from by decide, stateAt_all]

set_option backward.proofsInPublic true in
/-- The body's run, the stored pieces to be found. -/
def bodyRun (hnb : ∀ b, nb b = nbase (lenW c arg0 g0 b)) :
    Σ' (L : List (View.Piece (Elt F) S4x16384 .bf16)), preB c X nb arg0 arg1 arg2 arg10 g0 g1 g2 f10 xq xk xv fq fkb fvb fk fv fo ⊢ wp frame (wpE (defs₀ (F := F)) 𝒱₀ (c : Thread nD τ) none) Set.univ
        (bodyG arg0 harg0 arg1 harg1 arg2 harg2 arg10 harg10)
        (fun _ => postB c X nb arg0 arg1 arg2 arg10 g0 g1 g2 f10 xq xk xv L) := by
  refine ⟨?L, ?run⟩
  case run =>
    unfold preB
    rw [← stateAt_zero (flyP c X nb), show 0 = (0 : Fin 16).val from rfl, stateAt_before]
    generalize hR : restAt (flyP c X nb) (idleP c X nb) 0 = R
    unfold idleP
    rw [hnb (bat 0)]
    iintro ⟨HL, HA1, HA2, H10, HXQ, HXK, HXV, HQ, HKB, HVB, HK, HV, ⟨%fs, HKS⟩, ⟨%ft, HVS⟩, HO, HN0, HN1, HN2, ⟨%W, HW⟩, ⟨⟨⟨%f0, HS0⟩, ⟨%f1, HS1⟩, ⟨%f2, HS2⟩, ⟨%f3, HS3⟩, HC0, HC1, HC2, HC3, HM0, HM1, HM2, HM3⟩, HR⟩⟩
    dsimp only [bodyG]
    sl_unfold [cc0_window_attention]
    sl_exec (disch := first | exact chk1 _)
    sl_for (fun k _ => inv1 c X nb arg0 g0 k) $$ [HL HW HC0 HC1 HC2 HC3 HR]
    · intro k _; exact trip1 c X nb arg0 harg0 arg1 harg1 arg2 harg2 arg10 harg10 g0 hnb (bodyRun.sl.r c arg0 g0) (chk1 _) k
    · unfold inv1
      rw [show 0 + 1 = (0 : Fin 16).val + 1 from rfl, stateAt_after, hR]
      unfold flyP
      rw [hnb (bat 0)]
      isplitl [HL]; · iexact HL
      isplitl [HW]; · iexists _; iexact HW
      isplitr [HR]
      · isplitl [HC0]; · iexists f0; iexact HC0
        isplitl [HC1]; · iexists f1; iexact HC1
        isplitl [HC2]; · iexists f2; iexact HC2
        iexists f3; iexact HC3
      · iexact HR
    iintro %acc HI
    unfold inv1
    icases HI with ⟨HL, ⟨%W', HW⟩, HR⟩
    ihave HR := (flown c X nb) $$ HR
    sl_exec
    sl_for (fun k _ => inv2 c X nb arg0 arg1 arg2 g0 g1 g2 (qF c xq) (knF c xk) (vnF c xv) k
        (oAcc c X nb arg0 harg0 arg1 harg1 arg2 harg2 arg10 harg10 g0 g1 g2 (qF c xq) (knF c xk) (vnF c xv) hnb fo k)) $$ [HL HA1 HA2 HQ HK HV HKS HVS HO HW HR]
    · intro k _; exact (loopInv2 c X nb arg0 harg0 arg1 harg1 arg2 harg2 arg10 harg10 g0 g1 g2 (qF c xq) _ _ hnb fo).step k _
    · unfold inv2
      isplitl [HL]; · iexact HL
      isplitl [HA1]; · iexact HA1
      isplitl [HA2]; · iexact HA2
      isplitl [HQ]; · iexact HQ
      isplitl [HK]; · iexact HK
      isplitl [HV]; · iexact HV
      isplitl [HKS]; · iexists _; iexact HKS
      isplitl [HVS]; · iexists _; iexact HVS
      isplitl [HO]; · iexact HO
      isplitl [HW]; · iexists _; iexact HW
      iexact HR
    iintro %acc2 HI
    unfold inv2
    icases HI with ⟨HL, HA1, HA2, HQ, HK, HV, ⟨%fs2, HKS⟩, ⟨%ft2, HVS⟩, HO, ⟨%W2, HW⟩, HR⟩
    sl_exec
    sl_step
    unfold postB
    isplitl [HL]; · iexact HL
    isplitl [HA1]; · iexact HA1
    isplitl [HA2]; · iexact HA2
    isplitl [H10]; · iexact H10
    isplitl [HXQ]; · iexact HXQ
    isplitl [HXK]; · iexact HXK
    isplitl [HXV]; · iexact HXV
    isplitl [HQ]; · iexists _; iexact HQ
    isplitl [HKB]; · iexists _; iexact HKB
    isplitl [HVB]; · iexists _; iexact HVB
    isplitl [HK]; · iexists _; iexact HK
    isplitl [HV]; · iexists _; iexact HV
    isplitl [HKS]; · iexists _; iexact HKS
    isplitl [HVS]; · iexists _; iexact HVS
    isplitl [HO]; · iexists _; iexact HO
    isplitl [HN0]; · iexact HN0
    isplitl [HN1]; · iexact HN1
    isplitl [HN2]; · iexact HN2
    isplitl [HW]; · iexists _; iexact HW
    iapply (landed c X nb); iexact HR

end Body

end Cert.Proof.Attn

end

end
-- ==== Proof.OutVal.lean ====
/-
  What the body leaves in the result block, element by element: row `b`, column `128·r + d` is the narrowed element of
  head row `r % 8` and dimension `d` of the column that trip `4·b + r/32` of the second loop computes for its head
  `r/8 % 4`. So it depends neither on the block as found nor on the output buffer as found.
-/
module

public import proofs.«01_k».proof.Proof.Body
public import Idealize.ShloMosaic.Lib.WritesUnit
public import Idealize.ShloMosaic.Lib.ValueIdxCore
public import Idealize.ShloMosaic.Lib.ValueLayout
public import Idealize.ShloMosaic.Lib.Tactic

@[expose] public section

noncomputable section

namespace Cert.Proof.Attn

open Cert.KernelIdeal Cert.KernelIdeal.Gen
open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Out

variable (c : Dev nD) (X : Caches F c) (nb : Fin 4 → Fin 56)
  (arg0 : Memref sig .tc .smem S4 .i32) (harg0 : arg0.IsWhole) (arg1 : Memref sig .tc .smem S1 .f32) (harg1 : arg1.IsWhole)
  (arg2 : Memref sig .tc .smem S1 .f32) (harg2 : arg2.IsWhole) (arg10 : Memref sig .tc .vmem S4x16384 .bf16) (harg10 : arg10.IsWhole)
  (g0 : BufOf F c arg0) (g1 : BufOf F c arg1) (g2 : BufOf F c arg2)
  (fq : BufOf F c qB) (fk : BufOf F c kn32B) (fv : BufOf F c vn32B)
  (hnb : ∀ b, nb b = nbase (lenW c arg0 g0 b))

/-- The column trip `k` computes for its head `h`. -/
def colW (k : Fin 16) : Fin 4 → Col F :=
  let w := trip2 c X nb arg0 harg0 arg1 harg1 arg2 harg2 arg10 harg10 g0 g1 g2 fq fk fv hnb k oB.view.junk
  ![w.1, w.2.1, w.2.2.1, w.2.2.2.1]

theorem oStep_eq (fo : BufOf F c oB) (k : Fin 16) :
    oAcc c X nb arg0 harg0 arg1 harg1 arg2 harg2 arg10 harg10 g0 g1 g2 fq fk fv hnb fo (k.val + 1)
      = oStep c k (oAcc c X nb arg0 harg0 arg1 harg1 arg2 harg2 arg10 harg10 g0 g1 g2 fq fk fv hnb fo k)
        (colW c X nb arg0 harg0 arg1 harg1 arg2 harg2 arg10 harg10 g0 g1 g2 fq fk fv hnb k 0)
        (colW c X nb arg0 harg0 arg1 harg1 arg2 harg2 arg10 harg10 g0 g1 g2 fq fk fv hnb k 1)
        (colW c X nb arg0 harg0 arg1 harg1 arg2 harg2 arg10 harg10 g0 g1 g2 fq fk fv hnb k 2)
        (colW c X nb arg0 harg0 arg1 harg1 arg2 harg2 arg10 harg10 g0 g1 g2 fq fk fv hnb k 3) := by
  refine (oAcc_succ c X nb arg0 harg0 arg1 harg1 arg2 harg2 arg10 harg10 g0 g1 g2 fq fk fv hnb fo k).trans ?_
  rfl

/-- Where trip `k` stores its head `h`: rows `8·(4·(k % 4) + h)` on, column `k / 4`. -/
theorem off30_eq (k : Fin 16) (h : Fin 4) : k0_off30 k (BitVec.ofNat 32 h.val) = ![32 * (k.val % 4) + 8 * h.val, k.val / 4, 0] := by
  revert k h; decide

/-- The elements of head `h`'s column of trip `k`. -/
theorem hit_iff (k : Fin 16) (h : Fin 4) (y : S128x4x128.Idx) :
    (∀ a, (![32 * (k.val % 4) + 8 * h.val, k.val / 4, 0] : Fin 3 → ℕ) a ≤ (y a).val ∧ (y a).val < (![32 * (k.val % 4) + 8 * h.val, k.val / 4, 0] : Fin 3 → ℕ) a + S8x1x128.size a)
      ↔ (4 * (y 1).val + (y 0).val / 32 = k.val ∧ (y 0).val / 8 % 4 = h.val) := by
  have h0 : (y 0).val < 128 := (y 0).isLt
  have h1 : (y 1).val < 4 := (y 1).isLt
  have h2 : (y 2).val < 128 := (y 2).isLt
  have hk := k.isLt
  have hh := h.isLt
  constructor
  · intro H
    have a0 : 32 * (k.val % 4) + 8 * h.val ≤ (y 0).val ∧ (y 0).val < 32 * (k.val % 4) + 8 * h.val + 8 := H 0
    have a1 : k.val / 4 ≤ (y 1).val ∧ (y 1).val < k.val / 4 + 1 := H 1
    omega
  · intro H a; fin_cases a
    · show 32 * (k.val % 4) + 8 * h.val ≤ (y 0).val ∧ (y 0).val < 32 * (k.val % 4) + 8 * h.val + 8; omega
    · show k.val / 4 ≤ (y 1).val ∧ (y 1).val < k.val / 4 + 1; omega
    · show 0 ≤ (y 2).val ∧ (y 2).val < 0 + 128; omega

/-- Element `y`'s place in its column. -/
abbrev inCol (y : S128x4x128.Idx) : S8x1x128.Idx := ix3 (n0 := 8) (n1 := 1) (n2 := 128) ⟨(y 0).val % 8, Nat.mod_lt _ (by decide)⟩ ⟨0, by decide⟩ (y 2)
abbrev headOf (y : S128x4x128.Idx) : Fin 4 := ⟨(y 0).val / 8 % 4, Nat.mod_lt _ (by decide)⟩

/-- The newest column, read back. -/
theorem read_col (k : Fin 16) (h : Fin 4) (fo : BufOf F c oB) (w : Col F) (off : Fin 3 → ℕ) (inb)
    (he : off = ![32 * (k.val % 4) + 8 * h.val, k.val / 4, 0]) (L) (y : S128x4x128.Idx) :
    oB.view.read (Elt F) (oB.view.writes (Elt F) fo ((⟨Rect.unit (s := S128x4x128) off S8x1x128.size inb, w⟩ : View.Piece (Elt F) S128x4x128 .f32) :: L)) y
      = if 4 * (y 1).val + (y 0).val / 32 = k.val ∧ headOf y = h then w (inCol y) else oB.view.read (Elt F) (oB.view.writes (Elt F) fo L) y := by
  rw [View.read_writes_cons_unit _ _ inb w L y he]
  by_cases H : 4 * (y 1).val + (y 0).val / 32 = k.val ∧ headOf y = h
  · rw [dif_pos ((hit_iff k h y).mpr ⟨H.1, congrArg Fin.val H.2⟩), if_pos H]
    have H2 : (y 0).val / 8 % 4 = h.val := congrArg Fin.val H.2
    congr 1
    have h0 : (y 0).val < 128 := (y 0).isLt
    have h1 : (y 1).val < 4 := (y 1).isLt
    funext a; fin_cases a
    · refine Fin.ext ((Rect.unitLocal_val _ _ _).trans ?_)
      show (y 0).val - (32 * (k.val % 4) + 8 * h.val) = (y 0).val % 8
      omega
    · refine Fin.ext ((Rect.unitLocal_val _ _ _).trans ?_)
      show (y 1).val - k.val / 4 = 0
      omega
    · refine Fin.ext ((Rect.unitLocal_val _ _ _).trans ?_)
      show (y 2).val - 0 = (y 2).val
      omega
  · rw [dif_neg (fun hc => H (((hit_iff k h y).mp hc).imp id Fin.ext)), if_neg H]

/-- One trip's four columns, read back. -/
theorem read_oStep (k : Fin 16) (fo : BufOf F c oB) (w : Fin 4 → Col F) (y : S128x4x128.Idx) :
    oB.view.read (Elt F) (oStep c k fo (w 0) (w 1) (w 2) (w 3)) y
      = if 4 * (y 1).val + (y 0).val / 32 = k.val then w (headOf y) (inCol y) else oB.view.read (Elt F) fo y := by
  refine ((read_col c k 3 fo (w 3) _ _ (off30_eq k 3) _ y).trans (congrArg (ite _ _) ((read_col c k 2 fo (w 2) _ _ (off30_eq k 2) _ y).trans
    (congrArg (ite _ _) ((read_col c k 1 fo (w 1) _ _ (off30_eq k 1) _ y).trans (congrArg (ite _ _) (read_col c k 0 fo (w 0) _ _ (off30_eq k 0) [] y))))))).trans ?_
  by_cases H : 4 * (y 1).val + (y 0).val / 32 = k.val
  · simp only [H, true_and, if_true]
    generalize headOf y = h
    fin_cases h <;> rfl
  · simp only [H, false_and, if_false]; rfl

/-- The output buffer after `n` trips. -/
theorem read_oAcc (fo : BufOf F c oB) (y : S128x4x128.Idx) : ∀ n : ℕ, n ≤ 16 →
    oB.view.read (Elt F) (oAcc c X nb arg0 harg0 arg1 harg1 arg2 harg2 arg10 harg10 g0 g1 g2 fq fk fv hnb fo n) y
      = if h : 4 * (y 1).val + (y 0).val / 32 < n then
          colW c X nb arg0 harg0 arg1 harg1 arg2 harg2 arg10 harg10 g0 g1 g2 fq fk fv hnb
            ⟨4 * (y 1).val + (y 0).val / 32, by have h0 : (y 0).val < 128 := (y 0).isLt; have h1 : (y 1).val < 4 := (y 1).isLt; omega⟩ (headOf y) (inCol y)
        else oB.view.read (Elt F) fo y
  | 0, _ => by rw [dif_neg (Nat.not_lt_zero _)]; rfl
  | n + 1, hn => by
    rw [show n + 1 = (⟨n, by omega⟩ : Fin 16).val + 1 from rfl, oStep_eq, read_oStep c _ _ (colW c X nb arg0 harg0 arg1 harg1 arg2 harg2 arg10 harg10 g0 g1 g2 fq fk fv hnb ⟨n, by omega⟩)]
    by_cases H : 4 * (y 1).val + (y 0).val / 32 = n
    · rw [if_pos H, dif_pos (by show _ < n + 1; omega)]
      exact congrArg (fun k => colW c X nb arg0 harg0 arg1 harg1 arg2 harg2 arg10 harg10 g0 g1 g2 fq fk fv hnb k (headOf y) (inCol y)) (Fin.ext H.symm)
    · rw [if_neg H, read_oAcc fo y n (by omega)]
      by_cases H' : 4 * (y 1).val + (y 0).val / 32 < n
      · rw [dif_pos H', dif_pos (by show _ < n + 1; omega)]
      · rw [dif_neg H', dif_neg (by show ¬ _ < n + 1; omega)]

/-! ## The result block -/

variable (xq : BufOf F c qM) (xk : BufOf F c knM) (xv : BufOf F c vnM)

theorem rowInb (n : ℕ) (h : n < 128) : ∀ a, (![n, 0, 0] : Fin 3 → ℕ) a + S1x4x128.size a ≤ S128x4x128.size a := by
  intro a; fin_cases a
  · show n + 1 ≤ 128; omega
  · show 0 + 4 ≤ 4; omega
  · show 0 + 128 ≤ 128; omega
theorem blockInb (n : ℕ) (h : n < 128) : ∀ a, (![0, 128 * n] : Fin 2 → ℕ) a + S4x128.size a ≤ S4x16384.size a := by
  intro a; fin_cases a
  · show 0 + 4 ≤ 4; omega
  · show 128 * n + 128 ≤ 16384; omega

/-- The result block's pieces: head row `n` of the output buffer, narrowed, goes to columns `128·n` on. -/
def outPieces (g : BufOf F c oB) : (n : ℕ) → n ≤ 128 → List (View.Piece (Elt F) S4x16384 .bf16)
  | 0, _ => []
  | n + 1, h => ⟨Rect.unit (s := S4x16384) ![0, 128 * n] S4x128.size (blockInb n h),
      k0_pay130 (View.readAt (Elt F) oB.view (Rect.unit (s := S128x4x128) ![n, 0, 0] S1x4x128.size (rowInb n h)).toLoadRect g)⟩ :: outPieces g n (by omega)

/-- An element narrowed to bf16. -/
abbrev narrow (x : Elt F .f32) : Elt F .bf16 := FloatOps.truncf .bf16 bitsLt_bf16_f32 x

/-- The element of the output buffer that goes to element `j` of the result block. -/
abbrev srcOf (j : S4x16384.Idx) : S128x4x128.Idx :=
  ix3 (n0 := 128) (n1 := 4) (n2 := 128) ⟨(j 1).val / 128, by have h : (j 1).val < 16384 := (j 1).isLt; omega⟩ (j 0) ⟨(j 1).val % 128, Nat.mod_lt _ (by decide)⟩

theorem read_outPieces {spc : Space} (M : Memref sig .tc spc S4x16384 .bf16) (f10 : BufOf F c M) (g : BufOf F c oB) (j : S4x16384.Idx) : ∀ (n : ℕ) (h : n ≤ 128),
    M.view.read (Elt F) (M.view.writes (Elt F) f10 (outPieces c g n h)) j
      = if (j 1).val / 128 < n then narrow (oB.view.read (Elt F) g (srcOf j)) else M.view.read (Elt F) f10 j
  | 0, _ => by rw [if_neg (Nat.not_lt_zero _)]; rfl
  | n + 1, h => by
    have h0 : (j 0).val < 4 := (j 0).isLt
    have h1 : (j 1).val < 16384 := (j 1).isLt
    rw [outPieces, View.read_writes_cons_unit _ _ _ _ _ _ rfl]
    by_cases H : (j 1).val / 128 = n
    · have hc : ∀ a, (![0, 128 * n] : Fin 2 → ℕ) a ≤ (j a).val ∧ (j a).val < (![0, 128 * n] : Fin 2 → ℕ) a + S4x128.size a := by
        intro a; fin_cases a
        · show 0 ≤ (j 0).val ∧ (j 0).val < 0 + 4; omega
        · show 128 * n ≤ (j 1).val ∧ (j 1).val < 128 * n + 128; omega
      rw [dif_pos hc, if_pos (by omega)]
      have hx : (Rect.unitLocal (s := S4x16384) j hc : S4x128.Idx) = ix2 (n0 := 4) (n1 := 128) (j 0) ⟨(j 1).val % 128, Nat.mod_lt _ (by decide)⟩ := by
        funext a; fin_cases a
        · exact Fin.ext ((Rect.unitLocal_val _ _ _).trans (Nat.sub_zero _))
        · refine Fin.ext ((Rect.unitLocal_val _ _ _).trans ?_)
          show (j 1).val - 128 * n = (j 1).val % 128
          omega
      rw [hx]
      unfold k0_pay130 truncf
      refine congrArg narrow ((shapeCast_1ab_ab_apply _ _ _ _).trans ?_)
      rw [View.readAt_apply]
      congr 1
      funext a; fin_cases a
      · refine Fin.ext ?_
        show n + 1 * 0 = (j 1).val / 128
        omega
      · refine Fin.ext ?_
        show 0 + 1 * (j 0).val = (j 0).val
        omega
      · refine Fin.ext ?_
        show 0 + 1 * ((j 1).val % 128) = (j 1).val % 128
        omega
    · rw [dif_neg (fun hc => H (by
        have a1 : 128 * n ≤ (j 1).val ∧ (j 1).val < 128 * n + 128 := hc 1
        omega)), read_outPieces M f10 g j n (by omega)]
      by_cases H' : (j 1).val / 128 < n
      · rw [if_pos H', if_pos (by omega)]
      · rw [if_neg H', if_neg (by omega)]

set_option maxRecDepth 100000 in
theorem L_eq (f10 : BufOf F c arg10) (fq : BufOf F c qB) (fkb : BufOf F c knB) (fvb : BufOf F c vnB) (fk : BufOf F c kn32B) (fv : BufOf F c vn32B) (fo : BufOf F c oB) :
    (bodyRun c X nb arg0 harg0 arg1 harg1 arg2 harg2 arg10 harg10 g0 g1 g2 f10 xq xk xv fq fkb fvb fk fv fo hnb).1
      = outPieces c (oEnd c X nb arg0 harg0 arg1 harg1 arg2 harg2 arg10 harg10 g0 g1 g2 xq xk xv fo hnb) 128 (le_refl _) := by
  sl_kernel_rfl

/-- What the body leaves in the result block. -/
def outB (j : S4x16384.Idx) : Elt F .bf16 :=
  narrow (colW c X nb arg0 harg0 arg1 harg1 arg2 harg2 arg10 harg10 g0 g1 g2 (qF c xq) (knF c xk) (vnF c xv) hnb
    ⟨4 * (j 0).val + (j 1).val / 128 / 32, by have h0 : (j 0).val < 4 := (j 0).isLt; have h1 : (j 1).val < 16384 := (j 1).isLt; omega⟩ (headOf (srcOf j)) (inCol (srcOf j)))

theorem out_eq (f10 : BufOf F c arg10) (fq : BufOf F c qB) (fkb : BufOf F c knB) (fvb : BufOf F c vnB) (fk : BufOf F c kn32B) (fv : BufOf F c vn32B) (fo : BufOf F c oB) :
    arg10.view.read (Elt F) (arg10.view.writes (Elt F) f10 (bodyRun c X nb arg0 harg0 arg1 harg1 arg2 harg2 arg10 harg10 g0 g1 g2 f10 xq xk xv fq fkb fvb fk fv fo hnb).1)
      = outB c X nb arg0 harg0 arg1 harg1 arg2 harg2 arg10 harg10 g0 g1 g2 hnb xq xk xv := by
  funext j
  have h0 : (j 0).val < 4 := (j 0).isLt
  have h1 : (j 1).val < 16384 := (j 1).isLt
  rw [L_eq, read_outPieces, if_pos (by omega)]
  unfold outB
  refine congrArg narrow ?_
  refine (read_oAcc c X nb arg0 harg0 arg1 harg1 arg2 harg2 arg10 harg10 g0 g1 g2 (qF c xq) (knF c xk) (vnF c xv) hnb fo (srcOf j) 16 (le_refl _)).trans ?_
  rw [dif_pos (show 4 * (j 0).val + (j 1).val / 128 / 32 < 16 by omega)]

/-- The body's run, with what it leaves in the result block. -/
theorem body_wp (f10 : BufOf F c arg10) (fq : BufOf F c qB) (fkb : BufOf F c knB) (fvb : BufOf F c vnB) (fk : BufOf F c kn32B) (fv : BufOf F c vn32B) (fo : BufOf F c oB) :
    ∃ L : List (View.Piece (Elt F) S4x16384 .bf16),
      arg10.view.read (Elt F) (arg10.view.writes (Elt F) f10 L) = outB c X nb arg0 harg0 arg1 harg1 arg2 harg2 arg10 harg10 g0 g1 g2 hnb xq xk xv
      ∧ ∀ Q : sProp 𝕄, (iprop(preB c X nb arg0 arg1 arg2 arg10 g0 g1 g2 f10 xq xk xv fq fkb fvb fk fv fo ∗ (postB c X nb arg0 arg1 arg2 arg10 g0 g1 g2 f10 xq xk xv L -∗ Q))
        ⊢ wp frame (wpE (defs₀ (F := F)) 𝒱₀ (c : Thread nD τ) none) Set.univ (bodyG arg0 harg0 arg1 harg1 arg2 harg2 arg10 harg10) (fun _ => Q)) := by
  refine ⟨_, out_eq c X nb arg0 harg0 arg1 harg1 arg2 harg2 arg10 harg10 g0 g1 g2 hnb xq xk xv f10 fq fkb fvb fk fv fo, fun Q => ?_⟩
  refine (sep_mono (bodyRun c X nb arg0 harg0 arg1 harg1 arg2 harg2 arg10 harg10 g0 g1 g2 f10 xq xk xv fq fkb fvb fk fv fo hnb).2 .rfl).trans ?_
  refine (wp_frame_r _ _ _).trans (wp_mono _ _ _ fun _ => ?_)
  iintro ⟨H, HQ⟩
  iapply HQ; iexact H

end Out

end Cert.Proof.Attn

end

end
-- ==== Proof.Launch.lean ====
/-
  The launch: the proof data of the one pipeline (every input block as found, the result block at `outB`), the body's
  obligation from `bodyRun`, the run of @main, and from it the frame claim. Nothing here depends on the float values.
-/
module

public import proofs.«01_k».proof.Proof.Split
public import proofs.«01_k».proof.Proof.OutVal
public import proofs.«01_k».proof.Proof.Gen.KernelIdeal.Frame

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The caches as the region finds them. -/
abbrev XV (c : Dev nD) : Caches F c := ⟨V m c main_v5, V m c main_v6, V m c main_v7, V m c main_v8⟩

abbrev s0 (t : Fin cfg0.N) : Memref sig .tc .smem S4 .i32 := win0_0.stage (cfg0.slots t 0)
abbrev s1 (t : Fin cfg0.N) : Memref sig .tc .smem S1 .f32 := win0_1.stage (cfg0.slots t 1)
abbrev s2 (t : Fin cfg0.N) : Memref sig .tc .smem S1 .f32 := win0_2.stage (cfg0.slots t 2)
abbrev s3 (t : Fin cfg0.N) : Memref sig .tc .vmem S4x16384 .bf16 := win0_3.stage (cfg0.slots t 3)
abbrev hs0 (t : Fin cfg0.N) : (s0 t).IsWhole := hstage0_0 0
abbrev hs1 (t : Fin cfg0.N) : (s1 t).IsWhole := hstage0_1 0
abbrev hs2 (t : Fin cfg0.N) : (s2 t).IsWhole := hstage0_2 0
abbrev hs3 (t : Fin cfg0.N) : (s3 t).IsWhole := hstage0_3 0

/-- The staged lengths and scales. -/
abbrev r0 (c : Dev nD) (t : Fin cfg0.N) : BufOf F c (s0 t) := (s0 t).view.rep (iblk m c 0 t)
abbrev r1 (c : Dev nD) (t : Fin cfg0.N) : BufOf F c (s1 t) := (s1 t).view.rep (iblk m c 1 t)
abbrev r2 (c : Dev nD) (t : Fin cfg0.N) : BufOf F c (s2 t) := (s2 t).view.rep (iblk m c 2 t)
/-- Each row's window block. -/
abbrev nbV (c : Dev nD) (t : Fin cfg0.N) : Fin 4 → Fin 56 := fun b => nbase (lenW c (s0 t) (r0 m c t) b)

/-- What the body leaves in the result's staging buffer. -/
def outAt (c : Dev nD) (t : Fin cfg0.N) : S4x16384.Idx → Elt F .bf16 :=
  outB c (XV m c) (nbV m c t) (s0 t) (hs0 t) (s1 t) (hs1 t) (s2 t) (hs2 t) (s3 t) (hs3 t) (r0 m c t) (r1 m c t) (r2 m c t) (fun _ => rfl)
    (V m c main_v2) (V m c main_v3) (V m c main_v4)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦD osem0 spec0 H0 (V m) c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = outAt m c t := by dsimp only [dats]

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (s0 t) (hs0 t) (s1 t) (hs1 t) (s2 t) (hs2 t) (s3 t) (hs3 t) := (congrFun defs_tc _).trans rfl

set_option backward.isDefEq.respectTransparency.types false in
set_option maxHeartbeats 400000 in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  rw [show (dats m 0 c).Φ t.castSucc = Pipeline.ΦD osem0 spec0 H0 (V m) c from rfl, show (dats m 0 c).Φ t.succ = Pipeline.ΦD osem0 spec0 H0 (V m) c from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, HL⟩, ⟨%d1, %g1, %hg1, HA1⟩, ⟨%d2, %g2, %hg2, HA2⟩, ⟨%d3, %gO, -, HO⟩⟩
  ihave HG := (gather c (nbV m c t) (V m) (XV m c) rfl rfl rfl rfl) $$ HΦ
  unfold gathered
  icases HG with ⟨⟨%fq, HQ⟩, ⟨%fkb, HKB⟩, ⟨%fvb, HVB⟩, ⟨%fk, HK⟩, ⟨%fv, HV⟩, HKS, HVS, ⟨%fo, HOB⟩, HXQ, HXK, HXV, HN0, HN1, HN2, HI, Hp, R5, R6, R7, R8⟩
  ihave HL' := (pointsTo_rep_entails (c : Thread nD τ) (s0 t) g0 fullShare) $$ HL
  ihave HA1' := (pointsTo_rep_entails (c : Thread nD τ) (s1 t) g1 fullShare) $$ HA1
  ihave HA2' := (pointsTo_rep_entails (c : Thread nD τ) (s2 t) g2 fullShare) $$ HA2
  rw [hg0, hg1, hg2]
  sl_rw [prog_eq t]
  obtain ⟨L, hL, hrun⟩ := body_wp c (XV m c) (nbV m c t) (s0 t) (hs0 t) (s1 t) (hs1 t) (s2 t) (hs2 t) (s3 t) (hs3 t) (r0 m c t) (r1 m c t) (r2 m c t) (fun _ => rfl)
    (V m c main_v2) (V m c main_v3) (V m c main_v4) gO fq fkb fvb fk fv fo
  iapply (hrun _)
  isplitl [HL' HA1' HA2' HO HQ HKB HVB HK HV HKS HVS HOB HXQ HXK HXV HN0 HN1 HN2 HI HW]
  · unfold preB
    isplitl [HL']; · iexact HL'
    isplitl [HA1']; · iexact HA1'
    isplitl [HA2']; · iexact HA2'
    isplitl [HO]; · iexact HO
    isplitl [HXQ]; · iexact HXQ
    isplitl [HXK]; · iexact HXK
    isplitl [HXV]; · iexact HXV
    isplitl [HQ]; · iexact HQ
    isplitl [HKB]; · iexact HKB
    isplitl [HVB]; · iexact HVB
    isplitl [HK]; · iexact HK
    isplitl [HV]; · iexact HV
    isplitl [HKS]; · iexact HKS
    isplitl [HVS]; · iexact HVS
    isplitl [HOB]; · iexact HOB
    isplitl [HN0]; · iexact HN0
    isplitl [HN1]; · iexact HN1
    isplitl [HN2]; · iexact HN2
    isplitl [HW]; · iexists W; iexact HW
    iexact HI
  unfold postB
  iintro ⟨HL, HA1, HA2, HO, HXQ, HXK, HXV, HQ, HKB, HVB, HK, HV, HKS, HVS, HOB, HN0, HN1, HN2, ⟨%W', HW⟩, HI⟩
  isplitl [HXQ HXK HXV HQ HKB HVB HK HV HKS HVS HOB HN0 HN1 HN2 HI Hp R5 R6 R7 R8]
  · iapply (ungather c (nbV m c t) (V m) (XV m c) rfl rfl rfl rfl)
    unfold gathered
    isplitl [HQ]; · iexact HQ
    isplitl [HKB]; · iexact HKB
    isplitl [HVB]; · iexact HVB
    isplitl [HK]; · iexact HK
    isplitl [HV]; · iexact HV
    isplitl [HKS]; · iexact HKS
    isplitl [HVS]; · iexact HVS
    isplitl [HOB]; · iexact HOB
    isplitl [HXQ]; · iexact HXQ
    isplitl [HXK]; · iexact HXK
    isplitl [HXV]; · iexact HXV
    isplitl [HN0]; · iexact HN0
    isplitl [HN1]; · iexact HN1
    isplitl [HN2]; · iexact HN2
    isplitl [HI]; · iexact HI
    isplitl [Hp]; · iexact Hp
    isplitl [R5]; · iexact R5
    isplitl [R6]; · iexact R6
    isplitl [R7]; · iexact R7
    iexact R8
  isplitl [HW]
  · iexists W'; isplitr; · ipureintro; exact fun _ _ => Or.inl trivial
    iexact HW
  isplitl [HL]
  · iexists _; isplitr; · ipureintro; exact View.read_rep _ _
    iexact HL
  isplitl [HA1]
  · iexists _; isplitr; · ipureintro; exact View.read_rep _ _
    iexact HA1
  isplitl [HA2]
  · iexists _; isplitr; · ipureintro; exact View.read_rep _ _
    iexact HA2
  iexists _; isplitr
  · ipureintro; exact hL
  iexact HO

theorem A_eq (c : Dev nD) (w) : (dats m 0 c).A w = V m c (Pipeline.arrRef spec0 w) := by dsimp only [dats]

set_option backward.isDefEq.respectTransparency.types false in
/-- Every run of @main from `m`: the windows' arrays as the proof data say, every other buffer as the region found it,
    every counter at zero. -/
theorem run_main : θ_run defs (onTc (τ := τ) (main (F := F))) (s₀ m ρ) (fun r => Pipeline.FramePost cfgs (dats m) 0 (V m) r ∧ r.2.sem = fun _ => 0) :=
  Pipeline.θ_run_frame_dma cfgs (dats m) 0 launch0 osem0 defs₀ 𝒱₀ ownSemFacts H0 (by decide) m ρ main
    (hbody := fun c => (body_obligation m c).loose) (hshare := fun c => (dats m 0 c).share_full fun _ => rfl) (howed := fun _ _ => rfl)
    (V := V m) (hmain := hmain m) (hA := A_eq m) (hin := fun _ => .rfl) (hout := fun _ => .rfl) (Q' := _) (hQ' := fun _ h => h)

end Cert.Proof.Attn

end

end
-- ==== Proof.Frames.lean ====
/-
  The frame claims. The kernel's from `run_main`, for any float values; and, the two programs being one program, the
  same of the program on machine floats.
-/
module

public import proofs.«01_k».proof.Proof.Launch
public import proofs.«01_k».proof.Proof.Gen.Kernel.Frame

@[expose] public section

noncomputable section

namespace Cert.Proof.Attn

open Cert.KernelIdeal Cert.KernelIdeal.Gen
open Idealize.ShloMosaic
open Idealize.ShloMosaic.TcCoe Idealize.ShloMosaic.Tactic

variable {F : FTy → Type} [FloatOps F]

/-- The arguments as launched, in a memory `r`. -/
abbrev ArgsKept (m r : (ℓ : Loc nD τ sig) → Buf (Elt F) ℓ) (c : Dev nD) : Prop :=
  r ((c.tc : Thread nD τ).loc main_arg0) = m ((c.tc : Thread nD τ).loc main_arg0)
  ∧ r ((c.tc : Thread nD τ).loc main_arg1) = m ((c.tc : Thread nD τ).loc main_arg1)
  ∧ r ((c.tc : Thread nD τ).loc main_arg2) = m ((c.tc : Thread nD τ).loc main_arg2)
  ∧ r ((c.tc : Thread nD τ).loc main_arg3) = m ((c.tc : Thread nD τ).loc main_arg3)
  ∧ r ((c.tc : Thread nD τ).loc main_arg4) = m ((c.tc : Thread nD τ).loc main_arg4)
  ∧ r ((c.tc : Thread nD τ).loc main_arg5) = m ((c.tc : Thread nD τ).loc main_arg5)
  ∧ r ((c.tc : Thread nD τ).loc main_arg6) = m ((c.tc : Thread nD τ).loc main_arg6)
  ∧ r ((c.tc : Thread nD τ).loc main_arg7) = m ((c.tc : Thread nD τ).loc main_arg7)
  ∧ r ((c.tc : Thread nD τ).loc main_arg8) = m ((c.tc : Thread nD τ).loc main_arg8)
  ∧ r ((c.tc : Thread nD τ).loc main_arg9) = m ((c.tc : Thread nD τ).loc main_arg9)

variable (m : (ℓ : Loc nD τ sig) → Buf (Elt F) ℓ) (ρ : Dev nD → PrngReg)

set_option backward.isDefEq.respectTransparency.types false in
theorem kept_of (r) (h : Pipeline.FramePost cfgs (dats m) 0 (V m) r) (c : Dev nD) : ArgsKept m r.2.mem c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).1 0).trans (((dats m 0 c).arrAt_in 0 rfl _).trans ((A_eq m c 0).trans (V_main_arg9 m c)))⟩

/-- @main runs, its arguments end as launched, every counter at zero. -/
theorem frame : θ_run defs (onTc (τ := τ) (main (F := F))) ⟨m, fun _ => 0, ρ⟩ (fun r => (∀ c, ArgsKept m r.2.mem c) ∧ r.2.sem = fun _ => 0) :=
  (θ_run defs _ _).mono (fun r h => ⟨kept_of m r h.1, h.2⟩) (run_main m ρ)

/-- The result at the end. -/
theorem result_of (r) (h : Pipeline.FramePost cfgs (dats m) 0 (V m) r) (c : Dev nD) :
    r.2.mem ((c.tc : Thread nD τ).loc main_v9) = (dats m 0 c).arrAt 3 cfg0.N := (h c).1 3

/-! ## The program on machine floats is the same program -/

theorem main_eq : Cert.Kernel.main (F := F) = Cert.KernelIdeal.main (F := F) := by sl_kernel_rfl
theorem defs_eq : Cert.Kernel.defs (F := F) = Cert.KernelIdeal.defs (F := F) := by sl_kernel_rfl
theorem run_eq : θ_run (Cert.Kernel.defs (F := F)) (onTc (τ := Cert.Kernel.τ) (Cert.Kernel.main (F := F)))
    = θ_run (defs (F := F)) (onTc (τ := τ) (main (F := F))) := by
  sl_kernel_rfl

end Cert.Proof.Attn

end

end
-- ==== Proof.Spec.lean ====
/-
  What both programs compute, once: one element of the attention of one query head over a window of 1024 cached
  rows and one new row, in extended reals. The window's rows may be listed in any order (`att_perm`), a bias of 0 or
  `-inf` is the same as a choice (`add_bias`), and a sum over the 128 dimensions may be taken as the sum over the even
  ones plus the sum over the odd ones (`sum_even_odd`).
-/
module

public import Idealize.ShloMosaic.Lib.Pointwise
public import Idealize.ShloMosaic.Lib.IdealHost
public import Idealize.ShloMosaic.PureOps.Ideal.Laws

@[expose] public section

noncomputable section

namespace Cert.Proof

open Idealize.ShloMosaic

/-- Minus infinity, as its word. -/
abbrev negInf : EReal := Ideal.ofBits .f32 4286578688#32
theorem negInf_eq : negInf = ⊥ := by simp [negInf, Ideal.ofBits, Ideal.ieee]

/-- The scale of a logit, as its word. -/
abbrev smScale : EReal := Ideal.ofBits .f32 1035273459#32

/-- The largest logit of the window. -/
def top (s : Fin 1024 → EReal) : EReal := Finset.fold max negInf s Finset.univ

/-- Given the logits of the window and of the new row, and their values in one dimension: the weighted sum. -/
def mix (s : Fin 1024 → EReal) (sn : EReal) (vg : EReal) (v : Fin 1024 → EReal) (vn : EReal) : EReal :=
  (∑ t, Ideal.div (Ideal.exp (s t - max (top s) sn)) ((∑ u, Ideal.exp (s u - max (top s) sn)) + Ideal.exp (sn - max (top s) sn)) * vg * v t)
    + Ideal.div (Ideal.exp (sn - max (top s) sn)) ((∑ u, Ideal.exp (s u - max (top s) sn)) + Ideal.exp (sn - max (top s) sn)) * vn

/-- One logit of the window before the mask. -/
def rawLogit (kg : EReal) (q k : Fin 128 → EReal) : EReal := (∑ x, q x * k x) * (smScale * kg)
/-- One logit of the window: masked by `w`. -/
def logit (kg : EReal) (q k : Fin 128 → EReal) (w : BitVec 1) : EReal := Scalar.select w (rawLogit kg q k) negInf
/-- The new row's logit. -/
def logitN (q k : Fin 128 → EReal) : EReal := (∑ x, q x * k x) * smScale

/-- One element of the attention's result. -/
def att (kg vg : EReal) (q kn : Fin 128 → EReal) (K : Fin 1024 → Fin 128 → EReal) (w : Fin 1024 → BitVec 1) (v : Fin 1024 → EReal) (vn : EReal) : EReal :=
  mix (fun t => logit kg q (K t) (w t)) (logitN q kn) vg v vn

theorem top_perm (σ : Equiv.Perm (Fin 1024)) (s : Fin 1024 → EReal) : top (fun t => s (σ t)) = top s := by
  unfold top
  rw [negInf_eq]
  change Finset.univ.sup (fun t => s (σ t)) = Finset.univ.sup s
  rw [Finset.sup_univ_eq_iSup, Finset.sup_univ_eq_iSup]
  exact σ.iSup_comp (g := s)

theorem mix_perm (σ : Equiv.Perm (Fin 1024)) (s : Fin 1024 → EReal) (sn vg : EReal) (v : Fin 1024 → EReal) (vn : EReal) :
    mix (fun t => s (σ t)) sn vg (fun t => v (σ t)) vn = mix s sn vg v vn := by
  unfold mix
  rw [top_perm]
  have e := Equiv.sum_comp σ (fun u => Ideal.exp (s u - max (top s) sn))
  rw [e]
  congr 1
  exact Equiv.sum_comp σ (fun t => Ideal.div (Ideal.exp (s t - max (top s) sn)) ((∑ u, Ideal.exp (s u - max (top s) sn)) + Ideal.exp (sn - max (top s) sn)) * vg * v t)

/-- The order in which the window's rows are listed does not matter. -/
theorem att_perm (σ : Equiv.Perm (Fin 1024)) (kg vg : EReal) (q kn : Fin 128 → EReal) (K : Fin 1024 → Fin 128 → EReal) (w : Fin 1024 → BitVec 1)
    (v : Fin 1024 → EReal) (vn : EReal) :
    att kg vg q kn (fun t => K (σ t)) (fun t => w (σ t)) (fun t => v (σ t)) vn = att kg vg q kn K w v vn :=
  mix_perm σ (fun t => logit kg q (K t) (w t)) _ _ _ _

/-- The same attention from the same parts. -/
theorem att_congr {kg vg kg' vg' : EReal} {q kn q' kn' : Fin 128 → EReal} {K K' : Fin 1024 → Fin 128 → EReal} {w w' : Fin 1024 → BitVec 1}
    {v v' : Fin 1024 → EReal} {vn vn' : EReal} (h1 : kg = kg') (h2 : vg = vg') (h3 : ∀ x, q x = q' x) (h4 : ∀ x, kn x = kn' x) (h5 : ∀ t x, K t x = K' t x)
    (h6 : ∀ t, w t = w' t) (h7 : ∀ t, v t = v' t) (h8 : vn = vn') : att kg vg q kn K w v vn = att kg' vg' q' kn' K' w' v' vn' := by
  rw [h1, h2, h8, funext h3, funext h4, funext fun t => funext (h5 t), funext h6, funext h7]

/-- Adding the bias is choosing. -/
theorem add_bias (w : BitVec 1) (x : EReal) : x + Scalar.select w 0 negInf = Scalar.select w x negInf := by
  rw [negInf_eq]
  unfold Scalar.select
  split <;> simp

theorem fold_one (x : Fin 1 → EReal) : Finset.fold max negInf x Finset.univ = x 0 := by
  rw [negInf_eq, show (Finset.univ : Finset (Fin 1)) = {0} from rfl, Finset.fold_singleton]
  simp

theorem sum_even_odd (f : Fin 128 → EReal) :
    ∑ x, f x = (∑ x : Fin 64, f ⟨2 * x.val, by omega⟩) + ∑ x : Fin 64, f ⟨1 + 2 * x.val, by omega⟩ := by
  rw [← Finset.sum_add_distrib]
  have e := (Equiv.sum_comp (finProdFinEquiv (m := 64) (n := 2)) f).symm
  rw [Fintype.sum_prod_type] at e
  refine e.trans (Finset.sum_congr rfl fun x _ => ?_)
  rw [Fin.sum_univ_two]
  congr 2
  refine Fin.ext ?_
  simp [finProdFinEquiv]

/-- The code of dimension `x` in its byte: the low four bits of an even dimension, the high four of an odd one. -/
def nib (x : ℕ) (byte : BitVec 8) : BitVec 32 :=
  if x % 2 < 1 then IntOp.andi (BitVec.setWidth 32 byte) 15#32 else IntOp.shrsi .host (BitVec.setWidth 32 byte) 4#32

/-- The magnitude bits of a code, at the place a sixteen-bit float has them. -/
def magBits (c : BitVec 32) : BitVec 32 :=
  Scalar.select (IntOp.cmpi .sge (IntOp.andi c 7#32) 2#32) (IntOp.shli .host (IntOp.addi (IntOp.andi c 7#32) 252#32) 6#32)
    (Scalar.select (IntOp.cmpi .eq (IntOp.andi c 7#32) 1#32) 16128#32 0#32)

/-- The number a code stands for. -/
def decode (c : BitVec 32) : EReal :=
  Ideal.ofBits .bf16 (BitVec.setWidth 16 (IntOp.ori (magBits c) (IntOp.shli .host (IntOp.andi c 8#32) 12#32)))

end Cert.Proof

end
-- ==== Proof.KerHead.lean ====
/-
  One head of one trip of the kernel's second loop, as a function of what it loads, and its value in extended reals.
-/
module

public import proofs.«01_k».proof.Proof.Spec
public import proofs.«01_k».proof.Proof.Names
public import Idealize.ShloMosaic.Lib.BitcastFour

@[expose] public section

set_option maxHeartbeats 1000000
set_option backward.isDefEq.respectTransparency.types false

noncomputable section

namespace Cert.Proof.Attn

open Cert.KernelIdeal Cert.KernelIdeal.Gen
open Idealize.ShloMosaic Idealize.ShloMosaic.TcCoe Idealize.ShloMosaic.Tactic

section Defs
variable {F : FTy → Type} [FloatOps F]

/-- The numbers of the window's codes, dimension by lane: lanes below `first` hold the columns of the second load. -/
def dec (first : BitVec 32) (a b : Vec F S1x1x64x128 .i8) (r : Vec F S1x1x64x896 .i8) : FVec F S128x1024 .bf16 :=
  k0_pay8 (k0_pay6 first a b r) (iota .tc S128x1024 32 [0] iota_S128x1024_d0_w32) k0_pay7
/-- The window's block scales, block by lane. -/
def scl (first : BitVec 32) (a b : Vec F S1x1x8x128 .fp8e4m3) (r : Vec F S1x1x8x896 .fp8e4m3) : FVec F S1x8x1024 .f32 :=
  k0_pay12 (k0_pay9 a) (k0_pay10 b) (k0_pay11 first) r
/-- The numbers times their blocks' scales. -/
def deq (n : FVec F S128x1024 .bf16) (s : Fin 8 → Vec F S1x1x1024 .f32) : FVec F S128x1024 .bf16 :=
  k0_pay18 n (k0_pay13 n (s 0)) (k0_pay14 n (s 1)) (k0_pay15 n (s 2)) (k0_pay16 n (s 3)) (k0_pay17 (s 4)) (s 5) (s 6) (s 7)
/-- The head's column of the result. -/
def headFn (bias : FVec F S8x1024 .f32) (ks : F .f32) (vs : Elt F .f32) (q : Vec F S1x8x128 .bf16) (kn vn : Vec F S1x1x128 .f32)
    (K V : FVec F S128x1024 .bf16) : FVec F S8x1x128 .f32 :=
  k0_pay31 vs (k0_pay5 vn) V (k0_pay29 bias ks (k0_pay3 q) K) (k0_pay30 (k0_pay3 q) (k0_pay4 kn))
end Defs

/-! ## The codes -/

/-- The kernel's arithmetic on a code. -/
def table (c : BitVec 32) : EReal :=
  Scalar.select (IntOp.cmpi .sge c 8#32)
    (0 - Scalar.select (IntOp.cmpi .slt (IntOp.andi c 7#32) 4#32) (FloatOps.sitofp (F := Ideal) .f32 (IntOp.andi c 7#32) * Ideal.ofBits .f32 1056964608#32)
      (Scalar.select (IntOp.cmpi .slt (IntOp.andi c 7#32) 6#32) (FloatOps.sitofp (F := Ideal) .f32 (IntOp.andi c 7#32) - Ideal.ofBits .f32 1073741824#32)
        (FloatOps.sitofp (F := Ideal) .f32 (IntOp.andi c 7#32) * Ideal.ofBits .f32 1073741824#32 - Ideal.ofBits .f32 1090519040#32)))
    (Scalar.select (IntOp.cmpi .slt (IntOp.andi c 7#32) 4#32) (FloatOps.sitofp (F := Ideal) .f32 (IntOp.andi c 7#32) * Ideal.ofBits .f32 1056964608#32)
      (Scalar.select (IntOp.cmpi .slt (IntOp.andi c 7#32) 6#32) (FloatOps.sitofp (F := Ideal) .f32 (IntOp.andi c 7#32) - Ideal.ofBits .f32 1073741824#32)
        (FloatOps.sitofp (F := Ideal) .f32 (IntOp.andi c 7#32) * Ideal.ofBits .f32 1073741824#32 - Ideal.ofBits .f32 1090519040#32)))

theorem half_eq : Ideal.ofBits .f32 1056964608#32 = ((1 / 2 : ℝ) : EReal) := by
  simp only [Ideal.ofBits, Ideal.ieee]; simp; rw [← EReal.coe_mul]; norm_num
theorem two_eq : Ideal.ofBits .f32 1073741824#32 = ((2 : ℝ) : EReal) := by
  simp only [Ideal.ofBits, Ideal.ieee]; simp; rw [← EReal.coe_mul]; norm_num
theorem eight_eq : Ideal.ofBits .f32 1090519040#32 = ((8 : ℝ) : EReal) := by
  simp only [Ideal.ofBits, Ideal.ieee]; simp; rw [← EReal.coe_mul]; norm_num

/-- It is the number the reference's bits spell, code by code. -/
theorem table_eq (n : Fin 16) : table (BitVec.ofNat 32 n.val) = decode (BitVec.ofNat 32 n.val) := by
  unfold table decode
  rw [half_eq, two_eq, eight_eq]
  fin_cases n <;>
    simp [magBits, Scalar.select, IntOp.cmpi, IntOp.andi, IntOp.ori, IntOp.shli, IntOp.addi, Ideal.ofBits, Ideal.ieee, FloatOps.sitofp]
  all_goals (simp only [← EReal.coe_mul, ← EReal.coe_sub]; congr 1; norm_num)

theorem table_of_lt (c : BitVec 32) (hc : c.toNat < 16) : table c = decode c := by
  have e : c = BitVec.ofNat 32 c.toNat := by simp
  rw [e]
  exact table_eq ⟨c.toNat, hc⟩

/-- The byte of lane `t`. -/
def laneByte (first : BitVec 32) (a b : Vec Ideal S1x1x64x128 .i8) (r : Vec Ideal S1x1x64x896 .i8) (i : Fin 64) (t : Fin 1024) : BitVec 8 :=
  if h : t.val < 128 then Scalar.select (IntOp.cmpi .sge (BitVec.ofNat 32 t.val) first) (a (ix4 0 0 i ⟨t.val, h⟩)) (b (ix4 0 0 i ⟨t.val, h⟩))
  else r (ix4 0 0 i ⟨t.val - 128, by omega⟩)

theorem word_bit (first : BitVec 32) (a b : Vec Ideal S1x1x64x128 .i8) (r : Vec Ideal S1x1x64x896 .i8) (d : Fin 128) (t : Fin 1024) (q : ℕ) (hq : q < 32) :
    (k0_pay6 first a b r (ix2 d t)).getLsbD q = (laneByte first a b r ⟨4 * (d.val / 8) + q / 8, by omega⟩ t).getLsbD (q % 8) := by
  unfold k0_pay6 laneByte
  pointwise
  split
  · unfold Scalar.select
    split
    · refine (bitcast_8_32_getLsbD_ix2 _ _ _ _ q hq ⟨4 * (d.val / 8) + q / 8, by omega⟩ rfl).trans ?_
      pointwise
    · refine (bitcast_8_32_getLsbD_ix2 _ _ _ _ q hq ⟨4 * (d.val / 8) + q / 8, by omega⟩ rfl).trans ?_
      pointwise
  · refine (bitcast_8_32_getLsbD_ix2 _ _ _ _ q hq ⟨4 * (d.val / 8) + q / 8, by omega⟩ rfl).trans ?_
    pointwise

theorem shift_eq (d : Fin 128) : IntOp.muli (IntOp.andi (BitVec.ofNat 32 d.val) 7#32) 4#32 = BitVec.ofNat 32 (4 * (d.val % 8)) := by
  revert d; decide

theorem getLsbD_15 (i : ℕ) : (15#32 : BitVec 32).getLsbD i = decide (i < 4) := by
  by_cases h : i < 32
  · have : ∀ j : Fin 32, (15#32 : BitVec 32).getLsbD j.val = decide (j.val < 4) := by decide
    exact this ⟨i, h⟩
  · rw [BitVec.getLsbD_of_ge _ _ (by omega)]
    simp; omega

theorem high_eq (y : BitVec 8) : IntOp.shrsi .host (BitVec.setWidth 32 y) 4#32 = (BitVec.setWidth 32 y) >>> 4 := by
  unfold IntOp.shrsi
  rw [if_pos (by decide)]
  show (BitVec.setWidth 32 y).sshiftRight 4 = _
  rw [BitVec.sshiftRight_eq_of_msb_false (by simp [BitVec.msb_setWidth])]

/-- The four bits the kernel cuts out of a word are the code of its dimension. -/
theorem nib_eq (first : BitVec 32) (a b : Vec Ideal S1x1x64x128 .i8) (r : Vec Ideal S1x1x64x896 .i8) (d : Fin 128) (t : Fin 1024) :
    IntOp.andi (IntOp.shrui .vector (k0_pay6 first a b r (ix2 d t)) (IntOp.muli (IntOp.andi (BitVec.ofNat 32 d.val) 7#32) 4#32)) 15#32
      = nib d.val (laneByte first a b r ⟨d.val / 2, by omega⟩ t) := by
  rw [shift_eq]
  have hs : (BitVec.ofNat 32 (4 * (d.val % 8))).toNat = 4 * (d.val % 8) := by simp only [BitVec.toNat_ofNat]; omega
  refine BitVec.eq_of_getLsbD_eq fun i hi => ?_
  unfold IntOp.andi IntOp.shrui nib
  rw [if_pos (by rw [hs]; omega), BitVec.getLsbD_and, getLsbD_15, BitVec.ushiftRight_eq', BitVec.getLsbD_ushiftRight, hs]
  by_cases h4 : i < 4
  · rw [word_bit _ _ _ _ _ _ _ (by omega)]
    have e1 : 4 * (d.val / 8) + (4 * (d.val % 8) + i) / 8 = d.val / 2 := by omega
    simp only [e1]
    generalize laneByte first a b r ⟨d.val / 2, _⟩ t = y
    split
    · have e2 : (4 * (d.val % 8) + i) % 8 = i := by omega
      rw [e2]
      unfold IntOp.andi
      rw [BitVec.getLsbD_and, getLsbD_15, BitVec.getLsbD_setWidth]
      simp [h4, hi]
    · have e2 : (4 * (d.val % 8) + i) % 8 = 4 + i := by omega
      rw [e2]
      rw [high_eq, BitVec.getLsbD_ushiftRight, BitVec.getLsbD_setWidth]
      simp [h4]
      omega
  · simp only [h4, decide_false, Bool.and_false]
    generalize laneByte first a b r ⟨d.val / 2, _⟩ t = y
    split
    · unfold IntOp.andi
      rw [BitVec.getLsbD_and, getLsbD_15]
      simp [h4]
    · rw [high_eq, BitVec.getLsbD_ushiftRight, BitVec.getLsbD_setWidth]
      rw [BitVec.getLsbD_of_ge y _ (by omega)]
      simp

theorem nib_lt (x : ℕ) (y : BitVec 8) : (nib x y).toNat < 16 := by
  unfold nib
  split
  · unfold IntOp.andi
    rw [BitVec.toNat_and]
    exact lt_of_le_of_lt Nat.and_le_right (by decide)
  · rw [high_eq]
    have := y.isLt
    rw [BitVec.toNat_ushiftRight, BitVec.toNat_setWidth, Nat.shiftRight_eq_div_pow]
    simp
    omega

theorem dec_at (first : BitVec 32) (a b : Vec Ideal S1x1x64x128 .i8) (r : Vec Ideal S1x1x64x896 .i8) (d : Fin 128) (t : Fin 1024) :
    (dec first a b r : FVec Ideal S128x1024 .bf16) (ix2 d t) = decode (nib d.val (laneByte first a b r ⟨d.val / 2, by omega⟩ t)) := by
  unfold dec k0_pay8 k0_pay7
  pointwise
  rw [nib_eq]
  exact table_of_lt _ (nib_lt _ _)

/-! ## The scales -/

/-- The scale of block `j` and lane `t`. -/
def laneScale (first : BitVec 32) (a b : Vec Ideal S1x1x8x128 .fp8e4m3) (r : Vec Ideal S1x1x8x896 .fp8e4m3) (j : Fin 8) (t : Fin 1024) : EReal :=
  if h : t.val < 128 then Scalar.select (IntOp.cmpi .sge (BitVec.ofNat 32 t.val) first) (a (ix4 0 0 j ⟨t.val, h⟩)) (b (ix4 0 0 j ⟨t.val, h⟩))
  else r (ix4 0 0 j ⟨t.val - 128, by omega⟩)

theorem scl_at (first : BitVec 32) (a b : Vec Ideal S1x1x8x128 .fp8e4m3) (r : Vec Ideal S1x1x8x896 .fp8e4m3) (j : Fin 8) (t : Fin 1024) :
    (scl first a b r : FVec Ideal S1x8x1024 .f32) (ix3 0 j t) = laneScale first a b r j t := by
  unfold scl k0_pay12 k0_pay9 k0_pay10 k0_pay11
  pointwise
  rfl

theorem deq_at (n : FVec Ideal S128x1024 .bf16) (s : Fin 8 → Vec Ideal S1x1x1024 .f32) (d : Fin 128) (t : Fin 1024) (X Y : EReal)
    (hX : n (ix2 d t) = X) (hY : s ⟨d.val / 16, by omega⟩ (ix3 0 0 t) = Y) :
    (deq n s : FVec Ideal S128x1024 .bf16) (ix2 d t) = X * Y := by
  subst hX hY
  have key : ∀ (d' : Fin 128) (k : Fin 8), d'.val = d.val → k.val = d.val / 16 →
      (HMul.hMul (α := EReal) (β := EReal) (n (ix2 d' t)) (s k (ix3 0 0 t))) = HMul.hMul (α := EReal) (β := EReal) (n (ix2 d t)) (s ⟨d.val / 16, by omega⟩ (ix3 0 0 t)) := by
    intro d' k h1 h2
    have e1 : d' = d := Fin.ext h1
    have e2 : k = ⟨d.val / 16, by omega⟩ := Fin.ext h2
    rw [e1, e2]
  unfold deq k0_pay18 k0_pay13 k0_pay14 k0_pay15 k0_pay16 k0_pay17
  pointwise
  repeat' split
  · exact key _ 0 rfl (by show 0 = _; omega)
  · exact key _ 1 (by show _ + _ = _; omega) (by show 1 = _; omega)
  · exact key _ 2 (by show _ + _ = _; omega) (by show 2 = _; omega)
  · exact key _ 3 (by show _ + _ = _; omega) (by show 3 = _; omega)
  · exact key _ 4 (by show _ + _ = _; omega) (by show 4 = _; omega)
  · exact key _ 5 (by show _ + _ = _; omega) (by show 5 = _; omega)
  · exact key _ 6 (by show _ + _ = _; omega) (by show 6 = _; omega)
  · exact key _ 7 (by show _ + _ = _; omega) (by show 7 = _; omega)

/-! ## The head -/

theorem head_at (bias : FVec Ideal S8x1024 .f32) (ks vs kg : EReal) (q : Vec Ideal S1x8x128 .bf16) (kn vn : Vec Ideal S1x1x128 .f32)
    (K V : FVec Ideal S128x1024 .bf16) (g : Fin 8) (d : Fin 128) (w : Fin 1024 → BitVec 1)
    (hb : ∀ t, bias (ix2 g t) = Scalar.select (w t) (0 : EReal) negInf) (hk : ks = smScale * kg) :
    (headFn (F := Ideal) bias ks vs q kn vn K V : FVec Ideal S8x1x128 .f32) (ix3 g 0 d)
      = att kg vs (fun x => q (ix3 0 g x)) (fun x => kn (ix3 0 0 x)) (fun t x => K (ix2 x t)) w (fun t => V (ix2 d t)) (vn (ix3 0 0 d)) := by
  unfold headFn k0_pay31 k0_pay29 k0_pay30 k0_pay3 k0_pay4 k0_pay5
  pointwise
  subst hk
  have e : ∀ x, (∑ y, q (ix3 0 g y) * K (ix2 y x)) * (smScale * kg) + bias (ix2 g x)
      = logit kg (fun x => q (ix3 0 g x)) (fun y => K (ix2 y x)) (w x) := fun x => by
    rw [hb, add_bias]; rfl
  simp only [e]
  rfl

end Cert.Proof.Attn

end
-- ==== Proof.KerLoads.lean ====
/-
  What the second loop's loads read, element by element: a slot of a buffer holds its chunk's window of a cache; a row of
  the scales' buffer holds what was stored last; lanes below `first` hold the window's columns from 1024 on.
-/
module

public import proofs.«01_k».proof.Proof.Body
public import proofs.«01_k».proof.Proof.KerHead
public import Idealize.ShloMosaic.Lib.VecWindow
public import Idealize.ShloMosaic.Lib.Tactic

@[expose] public section

set_option backward.isDefEq.respectTransparency.types false

noncomputable section

namespace Cert.Proof.Attn

open Cert.KernelIdeal Cert.KernelIdeal.Gen
open Idealize.ShloMosaic Idealize.ShloMosaic.TcCoe Idealize.ShloMosaic.Tactic

/-! ## Loads -/

section Loads
variable {Val : EltTy → Type} [∀ e, Nonempty (Val e)] {κ : Kind} {sp : Space} {e : EltTy}

/-- Reading a memref through a slice of it whose leading axis is squeezed away. -/
theorem read_block {A A' B' m L L' : ℕ} (M : Memref sig κ sp ⟨4, ![A, A', m, L]⟩ e) (off : Fin 4 → ℕ)
    (inb : ∀ a, off a + (⟨4, ![1, B', m, L']⟩ : Shape).size a ≤ (⟨4, ![A, A', m, L]⟩ : Shape).size a) (hr)
    (hq : (⟨4, ![1, B', m, L']⟩ : Shape).Squeezes ⟨3, ![B', m, L']⟩) (f : M.view.ty.Contents Val) (h : Fin B') (i : Fin m) (t : Fin L')
    (y0 : Fin A) (y1 : Fin A') (y2 : Fin m) (y3 : Fin L) (h0 : off 0 = y0.val) (h1 : off 1 + h.val = y1.val) (h2 : off 2 + i.val = y2.val) (h3 : off 3 + t.val = y3.val) :
    ((M.slice (Rect.unit (s := ⟨4, ![A, A', m, L]⟩) off (⟨4, ![1, B', m, L']⟩ : Shape).size inb) hr).squeeze ⟨3, ![B', m, L']⟩ hq).view.read Val f (ix3 h i t)
      = M.view.read Val f (ix4 y0 y1 y2 y3) := by
  have e1 : ((M.slice (Rect.unit (s := ⟨4, ![A, A', m, L]⟩) off (⟨4, ![1, B', m, L']⟩ : Shape).size inb) hr).squeeze ⟨3, ![B', m, L']⟩ hq).view.read Val f (ix3 h i t)
      = M.view.read Val f ((Rect.unit (s := ⟨4, ![A, A', m, L]⟩) off (⟨4, ![1, B', m, L']⟩ : Shape).size inb).emb (Shape.reshapeEquiv hq.numel_eq (ix3 h i t))) := rfl
  rw [e1, Shape.reshapeEquiv_cons_one]
  congr 1
  funext a
  apply Fin.ext
  rw [Rect.emb_apply]
  match a with
  | ⟨0, _⟩ => show off 0 + 1 * 0 = y0.val; omega
  | ⟨1, _⟩ => show off 1 + 1 * h.val = y1.val; omega
  | ⟨2, _⟩ => show off 2 + 1 * i.val = y2.val; omega
  | ⟨3, _⟩ => show off 3 + 1 * t.val = y3.val; omega

/-- A load of one head's lanes from a buffer of slots. -/
theorem load_slot {A A' m L N : ℕ} (B : Memref sig κ sp ⟨4, ![A, A', m, L]⟩ e) (off : Fin 4 → ℕ)
    (inb : ∀ a, off a + (⟨4, ![1, 1, m, N]⟩ : Shape).size a ≤ (⟨4, ![A, A', m, L]⟩ : Shape).size a) (f : B.view.ty.Contents Val) (i : Fin m) (t : Fin N)
    (y0 : Fin A) (y1 : Fin A') (y2 : Fin m) (y3 : Fin L) (h0 : off 0 = y0.val) (h1 : off 1 = y1.val) (h2 : off 2 + i.val = y2.val) (h3 : off 3 + t.val = y3.val) :
    View.readAt Val B.view (Rect.unit (s := ⟨4, ![A, A', m, L]⟩) off (⟨4, ![1, 1, m, N]⟩ : Shape).size inb).toLoadRect f (ix4 0 0 i t)
      = B.view.read Val f (ix4 y0 y1 y2 y3) := by
  rw [View.readAt_apply]
  congr 1
  funext a
  apply Fin.ext
  match a with
  | ⟨0, _⟩ => show off 0 + 1 * 0 = y0.val; omega
  | ⟨1, _⟩ => show off 1 + 1 * 0 = y1.val; omega
  | ⟨2, _⟩ => show off 2 + 1 * i.val = y2.val; omega
  | ⟨3, _⟩ => show off 3 + 1 * t.val = y3.val; omega

/-- A load of rows from a buffer of three axes. -/
theorem load_rows {A A' L R : ℕ} (B : Memref sig κ sp ⟨3, ![A, A', L]⟩ e) (off : Fin 3 → ℕ)
    (inb : ∀ a, off a + (⟨3, ![1, R, L]⟩ : Shape).size a ≤ (⟨3, ![A, A', L]⟩ : Shape).size a) (f : B.view.ty.Contents Val) (g : Fin R) (t : Fin L)
    (y0 : Fin A) (y1 : Fin A') (h : off = ![y0.val, y1.val - g.val, 0]) (hg : g.val ≤ y1.val) :
    View.readAt Val B.view (Rect.unit (s := ⟨3, ![A, A', L]⟩) off (⟨3, ![1, R, L]⟩ : Shape).size inb).toLoadRect f (ix3 0 g t)
      = B.view.read Val f (ix3 y0 y1 t) := by
  subst h
  rw [View.readAt_apply]
  congr 1
  funext a
  apply Fin.ext
  match a with
  | ⟨0, _⟩ => show y0.val + 1 * 0 = y0.val; omega
  | ⟨1, _⟩ => show (y1.val - g.val) + 1 * g.val = y1.val; omega
  | ⟨2, _⟩ => show 0 + 1 * t.val = t.val; omega

/-- A row read back from the rows stored last. -/
theorem row_back {A m L : ℕ} (B : Memref sig κ sp ⟨3, ![A, m, L]⟩ e) (h : Fin A) (j : Fin m) (off off' : Fin 3 → ℕ)
    (inb : ∀ a, off a + (⟨3, ![1, m, L]⟩ : Shape).size a ≤ (⟨3, ![A, m, L]⟩ : Shape).size a)
    (inb' : ∀ a, off' a + (⟨3, ![1, 1, L]⟩ : Shape).size a ≤ (⟨3, ![A, m, L]⟩ : Shape).size a)
    (w : (⟨3, ![1, m, L]⟩ : Shape).Idx → Val e) (T : List (View.Piece Val ⟨3, ![A, m, L]⟩ e)) (t : Fin L)
    (ho : off = ![h.val, 0, 0]) (ho' : off' = ![h.val, j.val, 0]) :
    B.view.readCov ((⟨Rect.unit (s := ⟨3, ![A, m, L]⟩) off (⟨3, ![1, m, L]⟩ : Shape).size inb, w⟩ : View.Piece Val ⟨3, ![A, m, L]⟩ e) :: T)
        (Rect.unit (s := ⟨3, ![A, m, L]⟩) off' (⟨3, ![1, 1, L]⟩ : Shape).size inb').toLoadRect (ix3 0 0 t)
      = w (ix3 0 j t) := by
  subst ho ho'
  refine (load_rows B ![h.val, j.val, 0] inb' _ 0 t h j (by simp) (Nat.zero_le _)).trans ?_
  refine View.read_writes_cons_hit B.view B.view.junk (Rect.unit (s := ⟨3, ![A, m, L]⟩) ![h.val, 0, 0] (⟨3, ![1, m, L]⟩ : Shape).size inb) w T (ix3 0 j t) (ix3 h j t) ?_
  funext a
  apply Fin.ext
  rw [Rect.emb_apply]
  match a with
  | ⟨0, _⟩ => show h.val + 1 * 0 = h.val; omega
  | ⟨1, _⟩ => show 0 + 1 * j.val = j.val; omega
  | ⟨2, _⟩ => show 0 + 1 * t.val = t.val; omega

end Loads

section Slots
variable {F : FTy → Type} [FloatOps F] (c : Dev nD)

/-- Column `p` of chunk `b`'s window at block `n`, as a row of the cache. -/
abbrev winRow (n : Fin 56) (p : ℕ) : Fin 8192 := ⟨(128 * n.val + p) % 8192, Nat.mod_lt _ (by decide)⟩
/-- Head `h` of chunk `b`. -/
abbrev headNo (b : Fin 16) (h : Fin 4) : Fin 16 := ⟨4 * (b.val % 4) + h.val, by omega⟩

/-- A load of codes from a chunk's slot is the chunk's window of the cache. -/
theorem load8 (B : Memref sig .tc .vmem S16x4x64x1152 .i8) (M : Memref sig .tc .hbm S4x16x64x8192 .i8) (x : BufOf F c M) (n : Fin 56) (b : Fin 16) (h : Fin 4)
    (j N : ℕ) (off : Fin 4 → ℕ) (inb) (f) (ho : off = colOff b h j) (i : Fin 64) (t : Fin N) (hj : j + N ≤ 1152) :
    View.readAt (Elt F) B.view (Rect.unit (s := S16x4x64x1152) off (⟨4, ![1, 1, 64, N]⟩ : Shape).size inb).toLoadRect
        ((slot8 B b).view.writes (Elt F) f [⟨Rect.whole S4x64x1152, pay8 c n M x b⟩]) (ix4 0 0 i t)
      = M.view.read (Elt F) x (ix4 (bat b) (headNo b h) i (winRow n (j + t.val))) := by
  subst ho
  have ht := t.isLt
  have hn := n.isLt
  have hb := b.isLt
  refine (load_slot B (colOff b h j) inb _ i t b h i ⟨j + t.val, by omega⟩ rfl rfl (Nat.zero_add _) rfl).trans ?_
  refine (read_block B (slotOff b) (slotOff_inb8 b) (fun _ => rfl) squeezes_S1x4x64x1152_S4x64x1152 _ h i ⟨j + t.val, by omega⟩ b h i ⟨j + t.val, by omega⟩
    rfl (Nat.zero_add _) (Nat.zero_add _) (Nat.zero_add _)).symm.trans ?_
  refine (congrFun (View.read_writes_whole (slot8 B b).view f (pay8 c n M x b)) _).trans ?_
  refine read_block M (srcOff b n) (srcOff_inb8 b n) (fun _ => rfl) squeezes_S1x4x64x1152_S4x64x1152 x h i ⟨j + t.val, by omega⟩ (bat b) (headNo b h) i (winRow n (j + t.val)) rfl rfl (Nat.zero_add _) ?_
  show 128 * n.val + (j + t.val) = (128 * n.val + (j + t.val)) % 8192
  omega

/-- The same of scales. -/
theorem loadf (B : Memref sig .tc .vmem S16x4x8x1152 .fp8e4m3) (M : Memref sig .tc .hbm S4x16x8x8192 .fp8e4m3) (x : BufOf F c M) (n : Fin 56) (b : Fin 16) (h : Fin 4)
    (j N : ℕ) (off : Fin 4 → ℕ) (inb) (f) (ho : off = colOff b h j) (i : Fin 8) (t : Fin N) (hj : j + N ≤ 1152) :
    View.readAt (Elt F) B.view (Rect.unit (s := S16x4x8x1152) off (⟨4, ![1, 1, 8, N]⟩ : Shape).size inb).toLoadRect
        ((slotf B b).view.writes (Elt F) f [⟨Rect.whole S4x8x1152, payf c n M x b⟩]) (ix4 0 0 i t)
      = M.view.read (Elt F) x (ix4 (bat b) (headNo b h) i (winRow n (j + t.val))) := by
  subst ho
  have ht := t.isLt
  have hn := n.isLt
  have hb := b.isLt
  refine (load_slot B (colOff b h j) inb _ i t b h i ⟨j + t.val, by omega⟩ rfl rfl (Nat.zero_add _) rfl).trans ?_
  refine (read_block B (slotOff b) (slotOff_inbf b) (fun _ => rfl) squeezes_S1x4x8x1152_S4x8x1152 _ h i ⟨j + t.val, by omega⟩ b h i ⟨j + t.val, by omega⟩
    rfl (Nat.zero_add _) (Nat.zero_add _) (Nat.zero_add _)).symm.trans ?_
  refine (congrFun (View.read_writes_whole (slotf B b).view f (payf c n M x b)) _).trans ?_
  refine read_block M (srcOff b n) (srcOff_inbf b n) (fun _ => rfl) squeezes_S1x4x8x1152_S4x8x1152 x h i ⟨j + t.val, by omega⟩ (bat b) (headNo b h) i (winRow n (j + t.val)) rfl rfl (Nat.zero_add _) ?_
  show 128 * n.val + (j + t.val) = (128 * n.val + (j + t.val)) % 8192
  omega

/-- The queries as transferred; the new keys and values in 32 bits. -/
theorem qF_read (xq : BufOf F c qM) : qB.view.read (Elt F) (qF c xq) = qM.view.read (Elt F) xq := View.read_writes_whole _ _ _

end Slots

section NewRows
variable (c : Dev nD)

theorem knF_read (xk : BufOf Ideal c knM) (y : S4x16x128.Idx) : kn32B.view.read (Elt Ideal) (knF c xk) y = knM.view.read (Elt Ideal) xk y := by
  have h := congrFun (View.read_writes_full (Val := Elt Ideal) kn32B.view kn32B.view.junk (off := ![0, 0, 0]) inb_S4x16x128_S4x16x128_0_0_0
    (k0_pay127 (View.readAt (Elt Ideal) knB.view (Rect.unit ![0, 0, 0] S4x16x128.size inb_S4x16x128_S4x16x128_0_0_0).toLoadRect
      (knB.view.writes (Elt Ideal) knB.view.junk [⟨Rect.whole S4x16x128, ReadAs.same.apply (knM.view.read (Elt Ideal) xk)⟩]))) []) y
  refine h.trans ?_
  unfold k0_pay127
  pointwise
  rw [View.readAt_apply]
  refine (congrFun (View.read_writes_whole knB.view knB.view.junk _) _).trans ?_
  show knM.view.read (Elt Ideal) xk _ = _
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem vnF_read (xv : BufOf Ideal c vnM) (y : S4x16x128.Idx) : vn32B.view.read (Elt Ideal) (vnF c xv) y = vnM.view.read (Elt Ideal) xv y := by
  have h := congrFun (View.read_writes_full (Val := Elt Ideal) vn32B.view vn32B.view.junk (off := ![0, 0, 0]) inb_S4x16x128_S4x16x128_0_0_0
    (k0_pay128 (View.readAt (Elt Ideal) vnB.view (Rect.unit ![0, 0, 0] S4x16x128.size inb_S4x16x128_S4x16x128_0_0_0).toLoadRect
      (vnB.view.writes (Elt Ideal) vnB.view.junk [⟨Rect.whole S4x16x128, ReadAs.same.apply (vnM.view.read (Elt Ideal) xv)⟩]))) []) y
  refine h.trans ?_
  unfold k0_pay128
  pointwise
  rw [View.readAt_apply]
  refine (congrFun (View.read_writes_whole vnB.view vnB.view.junk _) _).trans ?_
  show vnM.view.read (Elt Ideal) xv _ = _
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

end NewRows

/-! ## The window's lanes -/

/-- The column of the window that lane `t` holds. -/
def laneCol (f t : ℕ) : ℕ := if t < f then 1024 + t else t

theorem sge_iff (f t : ℕ) (hf : f ≤ 128) (ht : t < 1024) : IntOp.cmpi .sge (BitVec.ofNat 32 t) (BitVec.ofNat 32 f) = if t < f then 0#1 else 1#1 := by
  have n1 : (BitVec.ofNat 32 t).toNat = t := by simp; omega
  have n2 : (BitVec.ofNat 32 f).toNat = f := by simp; omega
  have h1 : (BitVec.ofNat 32 t).toInt = t := by rw [BitVec.toInt_eq_toNat_of_lt (by omega), n1]
  have h2 : (BitVec.ofNat 32 f).toInt = f := by rw [BitVec.toInt_eq_toNat_of_lt (by omega), n2]
  unfold IntOp.cmpi
  simp only [BitVec.sle, h1, h2]
  by_cases h : t < f
  · rw [if_pos h, decide_eq_false (by omega)]; rfl
  · rw [if_neg h, decide_eq_true (by omega)]; rfl

theorem laneByte_eq (f : ℕ) (hf : f ≤ 128) (a b : Vec Ideal S1x1x64x128 .i8) (r : Vec Ideal S1x1x64x896 .i8) (P : Fin 64 → ℕ → BitVec 8)
    (ha : ∀ i (t : Fin 128), a (ix4 0 0 i t) = P i (0 + t.val)) (hb : ∀ i (t : Fin 128), b (ix4 0 0 i t) = P i (1024 + t.val))
    (hr : ∀ i (t : Fin 896), r (ix4 0 0 i t) = P i (128 + t.val)) (i : Fin 64) (t : Fin 1024) :
    laneByte (BitVec.ofNat 32 f) a b r i t = P i (laneCol f t.val) := by
  unfold laneByte laneCol
  split
  · rw [sge_iff f t.val hf t.isLt, ha, hb, Nat.zero_add]
    by_cases h : t.val < f
    · rw [if_pos h, if_pos h]; rfl
    · rw [if_neg h, if_neg h]; rfl
  · rw [hr, if_neg (by omega)]
    congr 1
    show 128 + (t.val - 128) = t.val
    omega

theorem laneScale_eq (f : ℕ) (hf : f ≤ 128) (a b : Vec Ideal S1x1x8x128 .fp8e4m3) (r : Vec Ideal S1x1x8x896 .fp8e4m3) (P : Fin 8 → ℕ → EReal)
    (ha : ∀ i (t : Fin 128), a (ix4 0 0 i t) = P i (0 + t.val)) (hb : ∀ i (t : Fin 128), b (ix4 0 0 i t) = P i (1024 + t.val))
    (hr : ∀ i (t : Fin 896), r (ix4 0 0 i t) = P i (128 + t.val)) (i : Fin 8) (t : Fin 1024) :
    laneScale (BitVec.ofNat 32 f) a b r i t = P i (laneCol f t.val) := by
  unfold laneScale laneCol
  split
  · rw [sge_iff f t.val hf t.isLt, ha, hb, Nat.zero_add]
    by_cases h : t.val < f
    · rw [if_pos h, if_pos h]; rfl
    · rw [if_neg h, if_neg h]; rfl
  · rw [hr, if_neg (by omega)]
    congr 1
    show 128 + (t.val - 128) = t.val
    omega

end Cert.Proof.Attn

end

end
-- ==== Proof.KerTrip.lean ====
/-
  The columns one trip of the second loop computes, head by head, and their values in extended reals: the attention over
  the trip's chunk of the caches, lane by lane.
-/
module

import all proofs.«01_k».proof.Proof.Loop2
public import proofs.«01_k».proof.Proof.OutVal
public import proofs.«01_k».proof.Proof.KerLoads

@[expose] public section

set_option backward.isDefEq.respectTransparency.types false

noncomputable section

namespace Cert.Proof.Attn

open Cert.KernelIdeal Cert.KernelIdeal.Gen
open Idealize.ShloMosaic Idealize.ShloMosaic.TcCoe Idealize.ShloMosaic.Tactic

theorem rowsInb (h : Fin 4) : ∀ a, (![h.val, 0, 0] : Fin 3 → ℕ) a + S1x8x1024.size a ≤ S4x8x1024.size a := by
  revert h; decide
theorem oneRowInb (h : Fin 4) (j : Fin 8) : ∀ a, (![h.val, j.val, 0] : Fin 3 → ℕ) a + S1x1x1024.size a ≤ S4x8x1024.size a := by
  revert h j; decide

/-- The word of the window's first lane that is not taken from the second load. -/
def firstW (v : BitVec 32) : BitVec 32 := Scalar.subi (startW v) (k0_mult1 v)

section Defs
variable {F : FTy → Type} [FloatOps F]

/-- The window's dequantized codes of head `h`: its scales stored, then read back row by row. -/
def side (B : Memref sig .tc .vmem S4x8x1024 .f32) (h : Fin 4) (first : BitVec 32) (a b : Vec F S1x1x64x128 .i8) (r : Vec F S1x1x64x896 .i8)
    (sa sb : Vec F S1x1x8x128 .fp8e4m3) (sr : Vec F S1x1x8x896 .fp8e4m3) (T : List (View.Piece (Elt F) S4x8x1024 .f32)) : FVec F S128x1024 .bf16 :=
  deq (dec first a b r) fun j : Fin 8 =>
    B.view.readCov ((⟨Rect.unit (s := S4x8x1024) ![h.val, 0, 0] S1x8x1024.size (rowsInb h), scl first sa sb sr⟩ : View.Piece (Elt F) S4x8x1024 .f32) :: T)
      (Rect.unit (s := S4x8x1024) ![h.val, j.val, 0] S1x1x1024.size (oneRowInb h j)).toLoadRect

end Defs

section Cols
variable {F : FTy → Type} [FloatOps F]
variable (c : Dev nD) (X : Caches F c) (nb : Fin 4 → Fin 56)
  (arg0 : Memref sig .tc .smem S4 .i32) (harg0 : arg0.IsWhole) (arg1 : Memref sig .tc .smem S1 .f32) (harg1 : arg1.IsWhole)
  (arg2 : Memref sig .tc .smem S1 .f32) (harg2 : arg2.IsWhole) (arg10 : Memref sig .tc .vmem S4x16384 .bf16) (harg10 : arg10.IsWhole)
  (g0 : BufOf F c arg0) (g1 : BufOf F c arg1) (g2 : BufOf F c arg2)
  (fq : BufOf F c qB) (fk : BufOf F c kn32B) (fv : BufOf F c vn32B)
  (hnb : ∀ b, nb b = nbase (lenW c arg0 g0 b)) (k : Fin 16)

theorem len_eq : trip2.sl.r_1 c arg0 g0 k = lenW c arg0 g0 (bat k) :=
  (show trip2.sl.r_1 c arg0 g0 k = View.read (Elt F) (arg0.access (Rect.unit (s := S4) (k0_off13 k) S1.size (k0_off13_inb k))) g0
      (Shape.Idx.first (numel1_S1.symm ▸ Nat.one_pos)) from rfl).trans (access_read_congr c arg0 g0 (off13_eq k) _ _ _)

theorem off22_inb (h : Fin 4) : ∀ a, k0_off22 k (BitVec.ofNat 32 h.val) a + S1x8x128.size a ≤ S4x128x128.size a := by revert k h; decide
theorem off23_inb (h : Fin 4) : ∀ a, k0_off23 k (BitVec.ofNat 32 h.val) a + S1x1x128.size a ≤ S4x16x128.size a := by revert k h; decide
/-- The queries of head `h`, its new key and value, as the trip loads them. -/
abbrev qLoad (h : Fin 4) : Vec F S1x8x128 .bf16 :=
  View.readAt (Elt F) qB.view (Rect.unit (s := S4x128x128) (k0_off22 k (BitVec.ofNat 32 h.val)) S1x8x128.size (off22_inb k h)).toLoadRect fq
abbrev kLoad (h : Fin 4) : Vec F S1x1x128 .f32 :=
  View.readAt (Elt F) kn32B.view (Rect.unit (s := S4x16x128) (k0_off23 k (BitVec.ofNat 32 h.val)) S1x1x128.size (off23_inb k h)).toLoadRect fk
abbrev vLoad (h : Fin 4) : Vec F S1x1x128 .f32 :=
  View.readAt (Elt F) vn32B.view (Rect.unit (s := S4x16x128) (k0_off23 k (BitVec.ofNat 32 h.val)) S1x1x128.size (off23_inb k h)).toLoadRect fv
theorem off22_eq (h : Fin 4) : k0_off22 k (BitVec.ofNat 32 h.val) = ![(bat k).val, 8 * (headNo k h).val, 0] := by revert k h; decide
theorem off23_eq (h : Fin 4) : k0_off23 k (BitVec.ofNat 32 h.val) = ![(bat k).val, (headNo k h).val, 0] := by revert k h; decide

/-- One head's column, from its two dequantized windows. -/
def colFn (h : Fin 4) (K V : FVec F S128x1024 .bf16) : FVec F S8x1x128 .f32 :=
  headFn (k0_pay1 (trip2.sl.v616 c arg0 g0 k) 128#32 (trip2.sl.v617 c arg0 g0 k) (trip2.sl.v619 c arg0 g0 k) (trip2.sl.v621 c arg0 g0 k) (trip2.sl.r_1 c arg0 g0 k) (trip2.sl.r_1 c arg0 g0 k))
    (k0_pay2 (trip2.sl.r_2 c arg1 g1)) (trip2.sl.r_3 c arg2 g2) (qLoad c fq k h) (kLoad c fk k h) (vLoad c fv k h) K V

theorem col0_eq : colW c X nb arg0 harg0 arg1 harg1 arg2 harg2 arg10 harg10 g0 g1 g2 fq fk fv hnb k 0
    = colFn c arg0 arg1 arg2 g0 g1 g2 fq fk fv k 0
        (side ksdB 0 (firstW (trip2.sl.r_1 c arg0 g0 k)) (trip2.sl.v758 c X arg0 g0 k) (trip2.sl.v762 c X arg0 g0 k) (trip2.sl.v770 c X arg0 g0 k) (trip2.sl.v812 c X arg0 g0 k) (trip2.sl.v816 c X arg0 g0 k) (trip2.sl.v823 c X arg0 g0 k) [])
        (side vsdB 0 (firstW (trip2.sl.r_1 c arg0 g0 k)) (trip2.sl.v889 c X arg0 g0 k) (trip2.sl.v893 c X arg0 g0 k) (trip2.sl.v901 c X arg0 g0 k) (trip2.sl.v943 c X arg0 g0 k) (trip2.sl.v947 c X arg0 g0 k) (trip2.sl.v954 c X arg0 g0 k) []) := by
  sl_kernel_rfl

theorem col1_eq : colW c X nb arg0 harg0 arg1 harg1 arg2 harg2 arg10 harg10 g0 g1 g2 fq fk fv hnb k 1
    = colFn c arg0 arg1 arg2 g0 g1 g2 fq fk fv k 1
        (side ksdB 1 (firstW (trip2.sl.r_1 c arg0 g0 k)) (trip2.sl.v1079 c X arg0 g0 k) (trip2.sl.v1083 c X arg0 g0 k) (trip2.sl.v1091 c X arg0 g0 k) (trip2.sl.v1133 c X arg0 g0 k) (trip2.sl.v1137 c X arg0 g0 k) (trip2.sl.v1144 c X arg0 g0 k) (trip2.sl.HKS_1 c X arg0 g0 k))
        (side vsdB 1 (firstW (trip2.sl.r_1 c arg0 g0 k)) (trip2.sl.v1210 c X arg0 g0 k) (trip2.sl.v1214 c X arg0 g0 k) (trip2.sl.v1222 c X arg0 g0 k) (trip2.sl.v1264 c X arg0 g0 k) (trip2.sl.v1268 c X arg0 g0 k) (trip2.sl.v1275 c X arg0 g0 k) (trip2.sl.HVS_1 c X arg0 g0 k)) := by
  sl_kernel_rfl

theorem col2_eq : colW c X nb arg0 harg0 arg1 harg1 arg2 harg2 arg10 harg10 g0 g1 g2 fq fk fv hnb k 2
    = colFn c arg0 arg1 arg2 g0 g1 g2 fq fk fv k 2
        (side ksdB 2 (firstW (trip2.sl.r_1 c arg0 g0 k)) (trip2.sl.v1400 c X arg0 g0 k) (trip2.sl.v1404 c X arg0 g0 k) (trip2.sl.v1412 c X arg0 g0 k) (trip2.sl.v1454 c X arg0 g0 k) (trip2.sl.v1458 c X arg0 g0 k) (trip2.sl.v1465 c X arg0 g0 k) (trip2.sl.HKS_2 c X arg0 g0 k))
        (side vsdB 2 (firstW (trip2.sl.r_1 c arg0 g0 k)) (trip2.sl.v1531 c X arg0 g0 k) (trip2.sl.v1535 c X arg0 g0 k) (trip2.sl.v1543 c X arg0 g0 k) (trip2.sl.v1585 c X arg0 g0 k) (trip2.sl.v1589 c X arg0 g0 k) (trip2.sl.v1596 c X arg0 g0 k) (trip2.sl.HVS_2 c X arg0 g0 k)) := by
  sl_kernel_rfl

theorem col3_eq : colW c X nb arg0 harg0 arg1 harg1 arg2 harg2 arg10 harg10 g0 g1 g2 fq fk fv hnb k 3
    = colFn c arg0 arg1 arg2 g0 g1 g2 fq fk fv k 3
        (side ksdB 3 (firstW (trip2.sl.r_1 c arg0 g0 k)) (trip2.sl.v1721 c X arg0 g0 k) (trip2.sl.v1725 c X arg0 g0 k) (trip2.sl.v1733 c X arg0 g0 k) (trip2.sl.v1775 c X arg0 g0 k) (trip2.sl.v1779 c X arg0 g0 k) (trip2.sl.v1786 c X arg0 g0 k) (trip2.sl.HKS_3 c X arg0 g0 k))
        (side vsdB 3 (firstW (trip2.sl.r_1 c arg0 g0 k)) (trip2.sl.v1852 c X arg0 g0 k) (trip2.sl.v1856 c X arg0 g0 k) (trip2.sl.v1864 c X arg0 g0 k) (trip2.sl.v1906 c X arg0 g0 k) (trip2.sl.v1910 c X arg0 g0 k) (trip2.sl.v1917 c X arg0 g0 k) (trip2.sl.HVS_3 c X arg0 g0 k)) := by
  sl_kernel_rfl

end Cols

end Cert.Proof.Attn

end

end
-- ==== Proof.KerVal.lean ====
/-
  The value of a trip's column: the attention of its eight queries over the window's lanes, lane `t` holding column
  `laneCol f t` of the window that starts at block `n` of the caches.
-/
module

import all proofs.«01_k».proof.Proof.Loop2
import all proofs.«01_k».proof.Proof.KerTrip
public import proofs.«01_k».proof.Proof.KerTrip

@[expose] public section

set_option backward.isDefEq.respectTransparency.types false

noncomputable section

namespace Cert.Proof.Attn

open Cert.KernelIdeal Cert.KernelIdeal.Gen
open Idealize.ShloMosaic Idealize.ShloMosaic.TcCoe Idealize.ShloMosaic.Tactic

/-! ## The window's first lane and its mask -/

/-- How many lanes hold columns from 1024 on. -/
def firstN (v : BitVec 32) : ℕ := startN v - 128 * (nbase v).val

theorem startN_split (v : BitVec 32) : startN v = 128 * (nbase v).val + firstN v ∧ firstN v ≤ 128 := by
  have h := startN_le v
  unfold firstN
  have e : (nbase v).val = min (startN v / 128) 55 := rfl
  omega

theorem firstW_eq (v : BitVec 32) : firstW v = BitVec.ofNat 32 (firstN v) := by
  have h := (startN_split v).1
  unfold firstW
  rw [mult1_eq, startW_eq]
  conv_lhs => rw [h]
  show BitVec.ofNat 32 (128 * (nbase v).val + firstN v) - BitVec.ofNat 32 (128 * (nbase v).val) = _
  rw [BitVec.ofNat_add, BitVec.add_comm, BitVec.add_sub_cancel]

/-- Whether row `p` of a cache of length `v` is attended to. -/
def maskW (v : BitVec 32) (p : ℕ) : BitVec 1 :=
  IntOp.andi (IntOp.cmpi .slt (BitVec.ofNat 32 p) v) (IntOp.cmpi .sgt (BitVec.ofNat 32 p) (IntOp.subi v 1024#32))

/-- The row that lane `t` holds, in the kernel's words. -/
def posW (v t : BitVec 32) : BitVec 32 :=
  IntOp.addi (IntOp.addi (k0_mult1 v) t) (Scalar.select (IntOp.cmpi .slt t (firstW v)) 1024#32 0#32)

theorem slt_iff (f t : ℕ) (hf : f ≤ 128) (ht : t < 1024) : IntOp.cmpi .slt (BitVec.ofNat 32 t) (BitVec.ofNat 32 f) = if t < f then 1#1 else 0#1 := by
  have n1 : (BitVec.ofNat 32 t).toNat = t := by simp; omega
  have n2 : (BitVec.ofNat 32 f).toNat = f := by simp; omega
  have h1 : (BitVec.ofNat 32 t).toInt = t := by rw [BitVec.toInt_eq_toNat_of_lt (by omega), n1]
  have h2 : (BitVec.ofNat 32 f).toInt = f := by rw [BitVec.toInt_eq_toNat_of_lt (by omega), n2]
  unfold IntOp.cmpi
  simp only [BitVec.slt, h1, h2]
  by_cases h : t < f
  · rw [if_pos h, decide_eq_true (by omega)]; rfl
  · rw [if_neg h, decide_eq_false (by omega)]; rfl

theorem posW_eq (v : BitVec 32) (t : ℕ) (ht : t < 1024) : posW v (BitVec.ofNat 32 t) = BitVec.ofNat 32 (128 * (nbase v).val + laneCol (firstN v) t) := by
  unfold posW laneCol
  rw [firstW_eq, slt_iff _ _ (startN_split v).2 ht, mult1_eq]
  by_cases h : t < firstN v
  · rw [if_pos h, if_pos h]
    show BitVec.ofNat 32 (128 * (nbase v).val) + BitVec.ofNat 32 t + BitVec.ofNat 32 1024 = _
    rw [← BitVec.ofNat_add, ← BitVec.ofNat_add]
    congr 1; omega
  · rw [if_neg h, if_neg h]
    show BitVec.ofNat 32 (128 * (nbase v).val) + BitVec.ofNat 32 t + 0#32 = _
    rw [← BitVec.ofNat_add, BitVec.add_zero]

theorem bias_at (v : BitVec 32) (g : Fin 8) (t : Fin 1024) :
    (k0_pay1 (startW v) 128#32 (Scalar.divsi (startW v) 128#32) (Scalar.extui (Scalar.cmpi .sgt (startW v) 0#32)) (Scalar.extui (Scalar.cmpi .slt (startW v) 0#32)) v v : FVec Ideal S8x1024 .f32) (ix2 g t)
      = Scalar.select (maskW v (128 * (nbase v).val + laneCol (firstN v) t.val)) (0 : EReal) negInf := by
  have e : (k0_pay1 (startW v) 128#32 (Scalar.divsi (startW v) 128#32) (Scalar.extui (Scalar.cmpi .sgt (startW v) 0#32)) (Scalar.extui (Scalar.cmpi .slt (startW v) 0#32)) v v : FVec Ideal S8x1024 .f32) (ix2 g t)
      = Scalar.select (IntOp.andi (IntOp.cmpi .slt (posW v (BitVec.ofNat 32 t.val)) v) (IntOp.cmpi .sgt (posW v (BitVec.ofNat 32 t.val)) (IntOp.subi v 1024#32))) (Ideal.ofBits .f32 0#32) negInf := by
    unfold k0_pay1
    pointwise
    rfl
  rw [e, posW_eq v t.val t.isLt]
  congr 1
  simp [Ideal.ofBits, Ideal.ieee]

/-! ## One side of the window, dequantized -/

theorem side_at (B : Memref sig .tc .vmem S4x8x1024 .f32) (h : Fin 4) (f : ℕ) (hf : f ≤ 128) (a b : Vec Ideal S1x1x64x128 .i8) (r : Vec Ideal S1x1x64x896 .i8)
    (sa sb : Vec Ideal S1x1x8x128 .fp8e4m3) (sr : Vec Ideal S1x1x8x896 .fp8e4m3) (T) (P : Fin 64 → ℕ → BitVec 8) (S : Fin 8 → ℕ → EReal)
    (ha : ∀ i (t : Fin 128), a (ix4 0 0 i t) = P i (0 + t.val)) (hb : ∀ i (t : Fin 128), b (ix4 0 0 i t) = P i (1024 + t.val))
    (hr : ∀ i (t : Fin 896), r (ix4 0 0 i t) = P i (128 + t.val))
    (hsa : ∀ i (t : Fin 128), sa (ix4 0 0 i t) = S i (0 + t.val)) (hsb : ∀ i (t : Fin 128), sb (ix4 0 0 i t) = S i (1024 + t.val))
    (hsr : ∀ i (t : Fin 896), sr (ix4 0 0 i t) = S i (128 + t.val)) (d : Fin 128) (t : Fin 1024) :
    (side (F := Ideal) B h (BitVec.ofNat 32 f) a b r sa sb sr T) (ix2 d t)
      = decode (nib d.val (P ⟨d.val / 2, by omega⟩ (laneCol f t.val))) * S ⟨d.val / 16, by omega⟩ (laneCol f t.val) := by
  unfold side
  refine deq_at _ _ d t _ _ ?_ ?_
  · rw [dec_at, laneByte_eq f hf a b r P ha hb hr]
  · refine (row_back B h ⟨d.val / 16, by omega⟩ _ _ _ _ _ _ t rfl rfl).trans ?_
    rw [scl_at, laneScale_eq f hf sa sb sr S hsa hsb hsr]

/-! ## The column -/

section Val
variable (c : Dev nD) (X : Caches Ideal c) (nb : Fin 4 → Fin 56)
  (arg0 : Memref sig .tc .smem S4 .i32) (harg0 : arg0.IsWhole) (arg1 : Memref sig .tc .smem S1 .f32) (harg1 : arg1.IsWhole)
  (arg2 : Memref sig .tc .smem S1 .f32) (harg2 : arg2.IsWhole) (arg10 : Memref sig .tc .vmem S4x16384 .bf16) (harg10 : arg10.IsWhole)
  (g0 : BufOf Ideal c arg0) (g1 : BufOf Ideal c arg1) (g2 : BufOf Ideal c arg2)
  (fq : BufOf Ideal c qB) (fk : BufOf Ideal c kn32B) (fv : BufOf Ideal c vn32B)
  (hnb : ∀ b, nb b = nbase (lenW c arg0 g0 b)) (k : Fin 16)

/-- Column `p` of the window of chunk `k`, head `h`, at block `n`: the codes' bytes, the scales. -/
abbrev bytesAt (M : Memref sig .tc .hbm S4x16x64x8192 .i8) (x : BufOf Ideal c M) (n : Fin 56) (h : Fin 4) (i : Fin 64) (p : ℕ) : BitVec 8 :=
  M.view.read (Elt Ideal) x (ix4 (bat k) (headNo k h) i (winRow n p))
abbrev scaleAt (M : Memref sig .tc .hbm S4x16x8x8192 .fp8e4m3) (x : BufOf Ideal c M) (n : Fin 56) (h : Fin 4) (i : Fin 8) (p : ℕ) : EReal :=
  M.view.read (Elt Ideal) x (ix4 (bat k) (headNo k h) i (winRow n p))

/-- The dequantized element of lane `t`, dimension `x`. -/
def cellAt (M : Memref sig .tc .hbm S4x16x64x8192 .i8) (xm : BufOf Ideal c M) (Ms : Memref sig .tc .hbm S4x16x8x8192 .fp8e4m3) (xs : BufOf Ideal c Ms)
    (v : BitVec 32) (h : Fin 4) (t : Fin 1024) (x : Fin 128) : EReal :=
  decode (nib x.val (bytesAt c k M xm (nbase v) h ⟨x.val / 2, by omega⟩ (laneCol (firstN v) t.val)))
    * scaleAt c k Ms xs (nbase v) h ⟨x.val / 16, by omega⟩ (laneCol (firstN v) t.val)

theorem colFn_at (h : Fin 4) (K V : FVec Ideal S128x1024 .bf16) (g : Fin 8) (d : Fin 128) :
    (colFn (F := Ideal) c arg0 arg1 arg2 g0 g1 g2 fq fk fv k h K V) (ix3 g 0 d)
      = att (trip2.sl.r_2 c arg1 g1) (trip2.sl.r_3 c arg2 g2)
          (fun x => qB.view.read (Elt Ideal) fq (ix3 (bat k) ⟨8 * (headNo k h).val + g.val, by have := (headNo k h).isLt; omega⟩ x))
          (fun x => kn32B.view.read (Elt Ideal) fk (ix3 (bat k) (headNo k h) x))
          (fun t x => K (ix2 x t)) (fun t => maskW (trip2.sl.r_1 c arg0 g0 k) (128 * (nbase (trip2.sl.r_1 c arg0 g0 k)).val + laneCol (firstN (trip2.sl.r_1 c arg0 g0 k)) t.val))
          (fun t => V (ix2 d t)) (vn32B.view.read (Elt Ideal) fv (ix3 (bat k) (headNo k h) d)) := by
  unfold colFn
  refine (head_at _ _ _ (trip2.sl.r_2 c arg1 g1) _ _ _ K V g d _ (fun t => bias_at (trip2.sl.r_1 c arg0 g0 k) g t) ?_).trans ?_
  · unfold k0_pay2
    rfl
  refine att_congr rfl rfl (fun x => ?_) (fun x => ?_) (fun _ _ => rfl) (fun _ => rfl) (fun _ => rfl) ?_
  · exact load_rows qB _ _ fq g x (bat k) ⟨8 * (headNo k h).val + g.val, by have := (headNo k h).isLt; omega⟩
      ((off22_eq k h).trans (by simp)) (Nat.le_add_left _ _)
  · exact load_rows kn32B _ _ fk 0 x (bat k) (headNo k h) ((off23_eq k h).trans (by simp)) (Nat.zero_le _)
  · exact load_rows vn32B _ _ fv 0 d (bat k) (headNo k h) ((off23_eq k h).trans (by simp)) (Nat.zero_le _)

/-- A dequantized side of head `h`, from the six loads at the head's offsets. -/
theorem side_loads (D : Memref sig .tc .vmem S4x8x1024 .f32) (B : Memref sig .tc .vmem S16x4x64x1152 .i8) (Bs : Memref sig .tc .vmem S16x4x8x1152 .fp8e4m3)
    (M : Memref sig .tc .hbm S4x16x64x8192 .i8) (xm : BufOf Ideal c M) (Ms : Memref sig .tc .hbm S4x16x8x8192 .fp8e4m3) (xs : BufOf Ideal c Ms)
    (v : BitVec 32) (h : Fin 4) (T) (f) (fs) {o1 o2 o3 p1 p2 p3 : Fin 4 → ℕ} (i1) (i2) (i3) (j1) (j2) (j3)
    (e1 : o1 = colOff k h 0) (e2 : o2 = colOff k h 1024) (e3 : o3 = colOff k h 128)
    (d1 : p1 = colOff k h 0) (d2 : p2 = colOff k h 1024) (d3 : p3 = colOff k h 128) (d : Fin 128) (t : Fin 1024) :
    (side (F := Ideal) D h (firstW v)
        (View.readAt (Elt Ideal) B.view (Rect.unit (s := S16x4x64x1152) o1 S1x1x64x128.size i1).toLoadRect ((slot8 B k).view.writes (Elt Ideal) f [⟨Rect.whole S4x64x1152, pay8 c (nbase v) M xm k⟩]))
        (View.readAt (Elt Ideal) B.view (Rect.unit (s := S16x4x64x1152) o2 S1x1x64x128.size i2).toLoadRect ((slot8 B k).view.writes (Elt Ideal) f [⟨Rect.whole S4x64x1152, pay8 c (nbase v) M xm k⟩]))
        (View.readAt (Elt Ideal) B.view (Rect.unit (s := S16x4x64x1152) o3 S1x1x64x896.size i3).toLoadRect ((slot8 B k).view.writes (Elt Ideal) f [⟨Rect.whole S4x64x1152, pay8 c (nbase v) M xm k⟩]))
        (View.readAt (Elt Ideal) Bs.view (Rect.unit (s := S16x4x8x1152) p1 S1x1x8x128.size j1).toLoadRect ((slotf Bs k).view.writes (Elt Ideal) fs [⟨Rect.whole S4x8x1152, payf c (nbase v) Ms xs k⟩]))
        (View.readAt (Elt Ideal) Bs.view (Rect.unit (s := S16x4x8x1152) p2 S1x1x8x128.size j2).toLoadRect ((slotf Bs k).view.writes (Elt Ideal) fs [⟨Rect.whole S4x8x1152, payf c (nbase v) Ms xs k⟩]))
        (View.readAt (Elt Ideal) Bs.view (Rect.unit (s := S16x4x8x1152) p3 S1x1x8x896.size j3).toLoadRect ((slotf Bs k).view.writes (Elt Ideal) fs [⟨Rect.whole S4x8x1152, payf c (nbase v) Ms xs k⟩]))
        T) (ix2 d t)
      = cellAt c k M xm Ms xs v h t d := by
  rw [firstW_eq]
  exact side_at D h (firstN v) (startN_split v).2 _ _ _ _ _ _ T (bytesAt c k M xm (nbase v) h) (scaleAt c k Ms xs (nbase v) h)
    (fun i t => load8 c B M xm (nbase v) k h 0 128 _ _ _ e1 i t (by omega)) (fun i t => load8 c B M xm (nbase v) k h 1024 128 _ _ _ e2 i t (by omega))
    (fun i t => load8 c B M xm (nbase v) k h 128 896 _ _ _ e3 i t (by omega))
    (fun i t => loadf c Bs Ms xs (nbase v) k h 0 128 _ _ _ d1 i t (by omega)) (fun i t => loadf c Bs Ms xs (nbase v) k h 1024 128 _ _ _ d2 i t (by omega))
    (fun i t => loadf c Bs Ms xs (nbase v) k h 128 896 _ _ _ d3 i t (by omega)) d t

/-- What the column of head `h` is. -/
def colVal (v : BitVec 32) (kg vg : EReal) (h : Fin 4) (g : Fin 8) (d : Fin 128) : EReal :=
  att kg vg
    (fun x => qB.view.read (Elt Ideal) fq (ix3 (bat k) ⟨8 * (headNo k h).val + g.val, by have := (headNo k h).isLt; omega⟩ x))
    (fun x => kn32B.view.read (Elt Ideal) fk (ix3 (bat k) (headNo k h) x))
    (fun t x => cellAt c k ckM X.K ksM X.KS v h t x) (fun t => maskW v (128 * (nbase v).val + laneCol (firstN v) t.val))
    (fun t => cellAt c k cvM X.V vsM X.VS v h t d) (vn32B.view.read (Elt Ideal) fv (ix3 (bat k) (headNo k h) d))

theorem col_of_sides (h : Fin 4) (K V : FVec Ideal S128x1024 .bf16) (g : Fin 8) (d : Fin 128)
    (hK : ∀ x t, K (ix2 x t) = cellAt c k ckM X.K ksM X.KS (trip2.sl.r_1 c arg0 g0 k) h t x)
    (hV : ∀ x t, V (ix2 x t) = cellAt c k cvM X.V vsM X.VS (trip2.sl.r_1 c arg0 g0 k) h t x) :
    (colFn (F := Ideal) c arg0 arg1 arg2 g0 g1 g2 fq fk fv k h K V) (ix3 g 0 d)
      = colVal c X fq fk fv k (trip2.sl.r_1 c arg0 g0 k) (trip2.sl.r_2 c arg1 g1) (trip2.sl.r_3 c arg2 g2) h g d :=
  (colFn_at c arg0 arg1 arg2 g0 g1 g2 fq fk fv k h K V g d).trans
    (att_congr rfl rfl (fun _ => rfl) (fun _ => rfl) (fun t x => hK x t) (fun _ => rfl) (fun t => hV d t) rfl)

/-- The column trip `k` computes for its head `h`. -/
theorem colW_at (h : Fin 4) (g : Fin 8) (d : Fin 128) :
    colW c X nb arg0 harg0 arg1 harg1 arg2 harg2 arg10 harg10 g0 g1 g2 fq fk fv hnb k h (ix3 g 0 d)
      = colVal c X fq fk fv k (trip2.sl.r_1 c arg0 g0 k) (trip2.sl.r_2 c arg1 g1) (trip2.sl.r_3 c arg2 g2) h g d := by
  fin_cases h
  · refine (congrFun (col0_eq c X nb arg0 harg0 arg1 harg1 arg2 harg2 arg10 harg10 g0 g1 g2 fq fk fv hnb k) _).trans (col_of_sides c X arg0 arg1 arg2 g0 g1 g2 fq fk fv k 0 _ _ g d (fun x t => ?_) (fun x t => ?_))
    · exact side_loads c k ksdB kB ksB ckM X.K ksM X.KS _ 0 _ _ _ _ _ _ _ _ _ (off24_eq k) (off25_eq k) (off26_eq k) (off27_eq k) (off28_eq k) (off29_eq k) x t
    · exact side_loads c k vsdB vB vsB cvM X.V vsM X.VS _ 0 _ _ _ _ _ _ _ _ _ (off24_eq k) (off25_eq k) (off26_eq k) (off27_eq k) (off28_eq k) (off29_eq k) x t
  · refine (congrFun (col1_eq c X nb arg0 harg0 arg1 harg1 arg2 harg2 arg10 harg10 g0 g1 g2 fq fk fv hnb k) _).trans (col_of_sides c X arg0 arg1 arg2 g0 g1 g2 fq fk fv k 1 _ _ g d (fun x t => ?_) (fun x t => ?_))
    · exact side_loads c k ksdB kB ksB ckM X.K ksM X.KS _ 1 _ _ _ _ _ _ _ _ _ (off31_eq k) (off32_eq k) (off33_eq k) (off34_eq k) (off35_eq k) (off36_eq k) x t
    · exact side_loads c k vsdB vB vsB cvM X.V vsM X.VS _ 1 _ _ _ _ _ _ _ _ _ (off31_eq k) (off32_eq k) (off33_eq k) (off34_eq k) (off35_eq k) (off36_eq k) x t
  · refine (congrFun (col2_eq c X nb arg0 harg0 arg1 harg1 arg2 harg2 arg10 harg10 g0 g1 g2 fq fk fv hnb k) _).trans (col_of_sides c X arg0 arg1 arg2 g0 g1 g2 fq fk fv k 2 _ _ g d (fun x t => ?_) (fun x t => ?_))
    · exact side_loads c k ksdB kB ksB ckM X.K ksM X.KS _ 2 _ _ _ _ _ _ _ _ _ (off37_eq k) (off38_eq k) (off39_eq k) (off40_eq k) (off41_eq k) (off42_eq k) x t
    · exact side_loads c k vsdB vB vsB cvM X.V vsM X.VS _ 2 _ _ _ _ _ _ _ _ _ (off37_eq k) (off38_eq k) (off39_eq k) (off40_eq k) (off41_eq k) (off42_eq k) x t
  · refine (congrFun (col3_eq c X nb arg0 harg0 arg1 harg1 arg2 harg2 arg10 harg10 g0 g1 g2 fq fk fv hnb k) _).trans (col_of_sides c X arg0 arg1 arg2 g0 g1 g2 fq fk fv k 3 _ _ g d (fun x t => ?_) (fun x t => ?_))
    · exact side_loads c k ksdB kB ksB ckM X.K ksM X.KS _ 3 _ _ _ _ _ _ _ _ _ (off43_eq k) (off44_eq k) (off45_eq k) (off46_eq k) (off47_eq k) (off48_eq k) x t
    · exact side_loads c k vsdB vB vsB cvM X.V vsM X.VS _ 3 _ _ _ _ _ _ _ _ _ (off43_eq k) (off44_eq k) (off45_eq k) (off46_eq k) (off47_eq k) (off48_eq k) x t

end Val

end Cert.Proof.Attn

end

end
-- ==== Proof.Result.lean ====
/-
  One element of the result as a function of the arguments, and the order of the window: the kernel lists the window's
  rows from the start of a block of 128 rows, wrapped around, and this is the window in another order.
-/
module

public import proofs.«01_k».proof.Proof.KerVal

@[expose] public section

noncomputable section

namespace Cert.Proof

open Cert.Proof.Attn (startN startN_le firstN startN_split laneCol maskW)
open Idealize.ShloMosaic

/-- Row `n + t` of a cache, in one dimension: the code's number times its block's scale. -/
def cached (codes : Fin 4 → Fin 8192 → Fin 16 → Fin 64 → BitVec 8) (scales : Fin 4 → Fin 8192 → Fin 16 → Fin 8 → EReal)
    (p : ℕ) (b : Fin 4) (h : Fin 16) (x : Fin 128) : EReal :=
  decode (nib x.val (codes b ⟨p % 8192, Nat.mod_lt _ (by decide)⟩ h ⟨x.val / 2, by omega⟩)) * scales b ⟨p % 8192, Nat.mod_lt _ (by decide)⟩ h ⟨x.val / 16, by omega⟩

/-- One element of the result, the window listed by the rows `row`. -/
def attRows (row : Fin 1024 → ℕ) (v : BitVec 32) (q : Fin 128 → EReal) (kn : Fin 128 → EReal) (vn : EReal)
    (ck cv : Fin 4 → Fin 8192 → Fin 16 → Fin 64 → BitVec 8) (ks vs : Fin 4 → Fin 8192 → Fin 16 → Fin 8 → EReal)
    (kg vg : EReal) (b : Fin 4) (h : Fin 16) (d : Fin 128) : EReal :=
  att kg vg q kn (fun t x => cached ck ks (row t) b h x) (fun t => maskW v (row t)) (fun t => cached cv vs (row t) b h d) vn

/-- One element of the result, the window listed in its own order. -/
def resAt (v : BitVec 32) (q : Fin 128 → EReal) (kn : Fin 128 → EReal) (vn : EReal)
    (ck cv : Fin 4 → Fin 8192 → Fin 16 → Fin 64 → BitVec 8) (ks vs : Fin 4 → Fin 8192 → Fin 16 → Fin 8 → EReal)
    (kg vg : EReal) (b : Fin 4) (h : Fin 16) (d : Fin 128) : EReal :=
  attRows (fun t => startN v + t.val) v q kn vn ck cv ks vs kg vg b h d

/-- The place in the window of the row that lane `t` holds, when the window starts `f` rows into its block. -/
def place (f : ℕ) (hf : f ≤ 128) : Equiv.Perm (Fin 1024) where
  toFun t := ⟨if f ≤ t.val then t.val - f else 1024 + t.val - f, by split <;> omega⟩
  invFun t := ⟨if t.val + f < 1024 then t.val + f else t.val + f - 1024, by split <;> omega⟩
  left_inv t := by
    refine Fin.ext ?_
    dsimp only
    split <;> split <;> omega
  right_inv t := by
    refine Fin.ext ?_
    dsimp only
    split <;> split <;> omega

/-- The kernel's order gives the same element. -/
theorem attRows_lanes (v : BitVec 32) (base : ℕ) (hb : base + firstN v = startN v) (q : Fin 128 → EReal) (kn : Fin 128 → EReal) (vn : EReal)
    (ck cv : Fin 4 → Fin 8192 → Fin 16 → Fin 64 → BitVec 8) (ks vs : Fin 4 → Fin 8192 → Fin 16 → Fin 8 → EReal)
    (kg vg : EReal) (b : Fin 4) (h : Fin 16) (d : Fin 128) :
    attRows (fun t => base + laneCol (firstN v) t.val) v q kn vn ck cv ks vs kg vg b h d = resAt v q kn vn ck cv ks vs kg vg b h d := by
  have hf := (startN_split v).2
  have e : (fun t : Fin 1024 => base + laneCol (firstN v) t.val) = fun t => startN v + (place (firstN v) hf t).val := by
    funext t
    show base + laneCol (firstN v) t.val = startN v + (if firstN v ≤ t.val then t.val - firstN v else 1024 + t.val - firstN v)
    unfold laneCol
    split <;> split <;> omega
  rw [e]
  exact att_perm (place (firstN v) hf) kg vg q kn (fun t x => cached ck ks (startN v + t.val) b h x) (fun t => maskW v (startN v + t.val))
    (fun t => cached cv vs (startN v + t.val) b h d) vn

end Cert.Proof

end

end
-- ==== Proof.KerOut.lean ====
/-
  The kernel's result block at an index, as a function of the arguments: `resAt`.
-/
module

import all proofs.«01_k».proof.Proof.Loop2
public import proofs.«01_k».proof.Proof.Result
public import proofs.«01_k».proof.Proof.Frames
public import Idealize.ShloMosaic.Lib.StableHlo.ReadAt
public import Idealize.ShloMosaic.Lib.Pipeline.ValueKit.Geometry

@[expose] public section

set_option backward.isDefEq.respectTransparency.types false

noncomputable section

namespace Cert.Proof.Attn

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## The host operations before the kernel -/

/-- The arguments, on device `c`. -/
abbrev a0 : FVec Ideal S4x1x128x128 .bf16 := m ((c.tc : Thread nD τ).loc main_arg0)
abbrev a1 : FVec Ideal S4x1x16x128 .bf16 := m ((c.tc : Thread nD τ).loc main_arg1)
abbrev a2 : FVec Ideal S4x1x16x128 .bf16 := m ((c.tc : Thread nD τ).loc main_arg2)
abbrev a3 : IVec S4x8192x16x64 8 := m ((c.tc : Thread nD τ).loc main_arg3)
abbrev a4 : IVec S4x8192x16x64 8 := m ((c.tc : Thread nD τ).loc main_arg4)
abbrev a5 : FVec Ideal S4x8192x16x8 .fp8e4m3 := m ((c.tc : Thread nD τ).loc main_arg5)
abbrev a6 : FVec Ideal S4x8192x16x8 .fp8e4m3 := m ((c.tc : Thread nD τ).loc main_arg6)
abbrev a7 : FVec Ideal S_ .f32 := m ((c.tc : Thread nD τ).loc main_arg7)
abbrev a8 : FVec Ideal S_ .f32 := m ((c.tc : Thread nD τ).loc main_arg8)
abbrev a9 : IVec S4 32 := m ((c.tc : Thread nD τ).loc main_arg9)

theorem v0_at : (V m c main_v0 : FVec Ideal S1 .f32) (ix1 0) = a7 m c ix0 := by
  unfold V
  after_reads_at
theorem v1_at : (V m c main_v1 : FVec Ideal S1 .f32) (ix1 0) = a8 m c ix0 := by
  unfold V
  after_reads_at
theorem v2_at (b : Fin 4) (q : Fin 128) (x : Fin 128) : (V m c main_v2 : FVec Ideal S4x128x128 .bf16) (ix3 b q x) = a0 m c (ix4 b 0 q x) := by
  unfold V
  after_reads_at
theorem v3_at (b : Fin 4) (h : Fin 16) (x : Fin 128) : (V m c main_v3 : FVec Ideal S4x16x128 .bf16) (ix3 b h x) = a1 m c (ix4 b 0 h x) := by
  unfold V
  after_reads_at
theorem v4_at (b : Fin 4) (h : Fin 16) (x : Fin 128) : (V m c main_v4 : FVec Ideal S4x16x128 .bf16) (ix3 b h x) = a2 m c (ix4 b 0 h x) := by
  unfold V
  after_reads_at
theorem v5_at (b : Fin 4) (h : Fin 16) (i : Fin 64) (r : Fin 8192) : (V m c main_v5 : IVec S4x16x64x8192 8) (ix4 b h i r) = a3 m c (ix4 b r h i) := by
  unfold V
  after_reads_at
theorem v6_at (b : Fin 4) (h : Fin 16) (i : Fin 64) (r : Fin 8192) : (V m c main_v6 : IVec S4x16x64x8192 8) (ix4 b h i r) = a4 m c (ix4 b r h i) := by
  unfold V
  after_reads_at
theorem v7_at (b : Fin 4) (h : Fin 16) (i : Fin 8) (r : Fin 8192) : (V m c main_v7 : FVec Ideal S4x16x8x8192 .fp8e4m3) (ix4 b h i r) = a5 m c (ix4 b r h i) := by
  unfold V
  after_reads_at
theorem v8_at (b : Fin 4) (h : Fin 16) (i : Fin 8) (r : Fin 8192) : (V m c main_v8 : FVec Ideal S4x16x8x8192 .fp8e4m3) (ix4 b h i r) = a6 m c (ix4 b r h i) := by
  unfold V
  after_reads_at

/-! ## The staged scalars -/

variable (t : Fin cfg0.N)

theorem one_point : cfg0.N = 1 := by decide

theorem r1_at : trip2.sl.r_2 c (s1 t) (r1 m c t) = a7 m c ix0 := by
  refine Eq.trans ?_ (v0_at m c)
  refine (congrFun (View.readAt_rep (Val := Elt Ideal) (s1 t).view _ (iblk m c 1 t)) _).trans ?_
  obtain ⟨n, hn⟩ := t
  obtain rfl : n = 0 := by have := one_point; omega
  rfl

theorem r2_at : trip2.sl.r_3 c (s2 t) (r2 m c t) = a8 m c ix0 := by
  refine Eq.trans ?_ (v1_at m c)
  refine (congrFun (View.readAt_rep (Val := Elt Ideal) (s2 t).view _ (iblk m c 2 t)) _).trans ?_
  obtain ⟨n, hn⟩ := t
  obtain rfl : n = 0 := by have := one_point; omega
  rfl

theorem len_at (b : Fin 4) : lenW c (s0 t) (r0 m c t) b = a9 m c (ix1 b) := by
  refine (congrFun (View.readAt_rep (Val := Elt Ideal) (s0 t).view (Rect.unit (s := S4) (lenOff b) S1.size (lenOff_inb b)).toLoadRect (iblk m c 0 t)) (Shape.Idx.first (numel1_S1.symm ▸ Nat.one_pos))).trans ?_
  refine Eq.trans ?_ (congrFun (V_main_arg9 m c) (ix1 b))
  obtain ⟨n, hn⟩ := t
  obtain rfl : n = 0 := by have := one_point; omega
  unfold iblk
  refine congrArg (V m c main_arg9) ?_
  funext a
  refine Fin.ext ?_
  fin_cases a
  show (0 * 4 + 1 * (b.val + 1 * 0) : ℕ) = b.val
  omega

/-! ## The result -/

/-- A trip's column over the arguments. -/
theorem colVal_at (k : Fin 16) (v : BitVec 32) (kg vg : EReal) (h : Fin 4) (g : Fin 8) (d : Fin 128) :
    colVal c (XV m c) (qF c (V m c main_v2)) (knF c (V m c main_v3)) (vnF c (V m c main_v4)) k v kg vg h g d
      = attRows (fun t => 128 * (nbase v).val + laneCol (firstN v) t.val) v
          (fun x => a0 m c (ix4 (bat k) 0 ⟨8 * (headNo k h).val + g.val, by have := (headNo k h).isLt; omega⟩ x))
          (fun x => a1 m c (ix4 (bat k) 0 (headNo k h) x)) (a2 m c (ix4 (bat k) 0 (headNo k h) d))
          (fun b p h i => a3 m c (ix4 b p h i)) (fun b p h i => a4 m c (ix4 b p h i)) (fun b p h i => a5 m c (ix4 b p h i)) (fun b p h i => a6 m c (ix4 b p h i))
          kg vg (bat k) (headNo k h) d := by
  refine att_congr rfl rfl (fun x => ?_) (fun x => ?_) (fun t x => ?_) (fun _ => rfl) (fun t => ?_) ?_
  · exact (congrFun (qF_read c _) _).trans (v2_at m c _ _ x)
  · exact (knF_read c _ _).trans (v3_at m c _ _ x)
  · unfold cellAt cached
    rw [show ∀ i p, bytesAt c k ckM (XV m c).K (nbase v) h i p = a3 m c (ix4 (bat k) (winRow (nbase v) p) (headNo k h) i) from fun i p => v5_at m c _ _ i _,
      show ∀ i p, scaleAt c k ksM (XV m c).KS (nbase v) h i p = a5 m c (ix4 (bat k) (winRow (nbase v) p) (headNo k h) i) from fun i p => v7_at m c _ _ i _]
  · unfold cellAt cached
    rw [show ∀ i p, bytesAt c k cvM (XV m c).V (nbase v) h i p = a4 m c (ix4 (bat k) (winRow (nbase v) p) (headNo k h) i) from fun i p => v6_at m c _ _ i _,
      show ∀ i p, scaleAt c k vsM (XV m c).VS (nbase v) h i p = a6 m c (ix4 (bat k) (winRow (nbase v) p) (headNo k h) i) from fun i p => v8_at m c _ _ i _]
  · exact (vnF_read c _ _).trans (v4_at m c _ _ d)

/-- The kernel's result over the arguments. -/
abbrev kerAt (b : Fin 4) (d : Fin 16384) : EReal :=
  resAt (a9 m c (ix1 b)) (fun x => a0 m c (ix4 b 0 ⟨d.val / 128, by omega⟩ x))
    (fun x => a1 m c (ix4 b 0 ⟨d.val / 1024, by omega⟩ x)) (a2 m c (ix4 b 0 ⟨d.val / 1024, by omega⟩ ⟨d.val % 128, by omega⟩))
    (fun b p h i => a3 m c (ix4 b p h i)) (fun b p h i => a4 m c (ix4 b p h i)) (fun b p h i => a5 m c (ix4 b p h i)) (fun b p h i => a6 m c (ix4 b p h i))
    (a7 m c ix0) (a8 m c ix0) b ⟨d.val / 1024, by omega⟩ ⟨d.val % 128, by omega⟩

theorem trip_at (k : Fin 16) (h : Fin 4) (g : Fin 8) (b : Fin 4) (d : Fin 16384) (hb : bat k = b) (hq : 8 * (headNo k h).val + g.val = d.val / 128) :
    colVal c (XV m c) (qF c (V m c main_v2)) (knF c (V m c main_v3)) (vnF c (V m c main_v4)) k (trip2.sl.r_1 c (s0 t) (r0 m c t) k)
      (trip2.sl.r_2 c (s1 t) (r1 m c t)) (trip2.sl.r_3 c (s2 t) (r2 m c t)) h g ⟨d.val % 128, by omega⟩ = kerAt m c b d := by
  have hh : headNo k h = ⟨d.val / 1024, by omega⟩ := Fin.ext (by show (headNo k h).val = d.val / 1024; omega)
  have hq' : (⟨8 * (headNo k h).val + g.val, by have := (headNo k h).isLt; omega⟩ : Fin 128) = ⟨d.val / 128, by omega⟩ := Fin.ext hq
  rw [colVal_at, attRows_lanes _ _ (startN_split _).1.symm, len_eq, len_at, r1_at, r2_at, hq', hh, hb]

theorem outAt_at (b : Fin 4) (d : Fin 16384) : outAt m c t (ix2 b d) = kerAt m c b d := by
  have hd := d.isLt
  refine (colW_at c (XV m c) (nbV m c t) (s0 t) (hs0 t) (s1 t) (hs1 t) (s2 t) (hs2 t) (s3 t) (hs3 t) (r0 m c t) (r1 m c t) (r2 m c t)
    (qF c (V m c main_v2)) (knF c (V m c main_v3)) (vnF c (V m c main_v4)) (fun _ => rfl)
    ⟨4 * b.val + d.val / 128 / 32, by omega⟩ ⟨d.val / 128 / 8 % 4, by omega⟩ ⟨d.val / 128 % 8, by omega⟩ ⟨d.val % 128, by omega⟩).trans ?_
  refine trip_at m c t _ _ _ b d (Fin.ext ?_) ?_
  · show (4 * b.val + d.val / 128 / 32) / 4 = b.val
    omega
  · show 8 * (4 * ((4 * b.val + d.val / 128 / 32) % 4) + d.val / 128 / 8 % 4) + d.val / 128 % 8 = d.val / 128
    omega

/-- The result array after the run. -/
theorem result_at (b : Fin 4) (d : Fin 16384) : ((dats m 0 c).arrAt 3 cfg0.N : FVec Ideal S4x16384 .bf16) (ix2 b d) = kerAt m c b d := by
  have e : (dats m 0 c).arrAt 3 cfg0.N = (outAt m c ⟨0, by decide⟩ : FVec Ideal S4x16384 .bf16) := by
    refine (dats m 0 c).arrAt_eq_of_after_last 3 (⟨0, by decide⟩ : Fin cfg0.N) (by decide +kernel) _ fun j => ?_
    rw [after_w3]
    rfl
  rw [e]
  exact outAt_at m c _ b d

end Cert.Proof.Attn

end

end
-- ==== Proof.RefWindow.lean ====
/-
  The reference's window of the cache, element by element: the codes and the block scales it slices out of each batch
  row's cache at the clipped window start, laid out as it lays them out (all low nibbles, then all high nibbles).
-/
module
public import proofs.«01_k».proof.Proof.Gen.ReferenceIdeal.Frame
public import Idealize.ShloMosaic.Lib.StableHlo.ReadAt
public import Idealize.ShloMosaic.Lib.IdealHost
public import Idealize.ShloMosaic.Lib.Pointwise
public import Idealize.ShloMosaic.PureOps.Ideal.Laws

@[expose] public section

set_option maxHeartbeats 1000000
set_option backward.isDefEq.respectTransparency.types false

noncomputable section

namespace Cert.Proof.Ref

open Cert.ReferenceIdeal Cert.ReferenceIdeal.Gen
open Idealize.ShloMosaic Idealize.ShloMosaic.TcCoe Idealize.ShloMosaic.Tactic

/-- A window start in range is its own wrapped index. -/
theorem wrap_toInt (n : ℕ) (hn : n ≤ 7168) (w : BitVec 32) (h : w = BitVec.ofNat 32 n) :
    (Scalar.select (IntOp.cmpi .slt w 0#32) (IntOp.addi w 8192#32) w).toInt = n := by
  subst h
  have h1 : (BitVec.ofNat 32 n).toNat = n := by simp only [BitVec.toNat_ofNat]; omega
  have h2 : (BitVec.ofNat 32 n).toInt = n := by rw [BitVec.toInt_eq_toNat_of_lt (by omega), h1]
  have h3 : (BitVec.ofNat 32 n).slt 0#32 = false := by rw [BitVec.slt, h2]; simp
  simp [Scalar.select, IntOp.cmpi, h3, h2]

/-- One element of a sliced window of code bytes. -/
theorem win64 {α : Type} (f : S4x8192x16x64.Idx → α) (n : ℕ) (hn : n ≤ 7168) (b' b : Fin 4) (hb : b'.val = b.val) (st : Fin 3 → Int) (hh)
    (h0 : st 0 = n) (h1 : st 1 = 0) (h2 : st 2 = 0) (t : Fin 1024) (h : Fin 16) (d : ℕ) (hd : d < 64) (p0 p1 p2) :
    f (ix4 b' ⟨Host.clampedStart S8192x16x64 S1024x16x64 hh st 0 + t.val, p0⟩ ⟨Host.clampedStart S8192x16x64 S1024x16x64 hh st 1 + h.val, p1⟩
      ⟨Host.clampedStart S8192x16x64 S1024x16x64 hh st 2 + d, p2⟩) = f (ix4 b ⟨n + t.val, by omega⟩ h ⟨d, hd⟩) := by
  have e0 := Host.clampedStart_of_le hh st 0 n h0 (show n + 1024 ≤ 8192 by omega)
  have e1 := Host.clampedStart_of_le hh st 1 0 h1 (show 0 + 16 ≤ 16 by omega)
  have e2 := Host.clampedStart_of_le hh st 2 0 h2 (show 0 + 64 ≤ 64 by omega)
  have eb : b' = b := Fin.ext hb
  subst eb
  simp only [e0, e1, e2, Nat.zero_add]

/-- One element of a sliced window of block scales. -/
theorem win8 {α : Type} (f : S4x8192x16x8.Idx → α) (n : ℕ) (hn : n ≤ 7168) (b' b : Fin 4) (hb : b'.val = b.val) (st : Fin 3 → Int) (hh)
    (h0 : st 0 = n) (h1 : st 1 = 0) (h2 : st 2 = 0) (t : Fin 1024) (h : Fin 16) (d : ℕ) (hd : d < 8) (p0 p1 p2) :
    f (ix4 b' ⟨Host.clampedStart S8192x16x8 S1024x16x8 hh st 0 + t.val, p0⟩ ⟨Host.clampedStart S8192x16x8 S1024x16x8 hh st 1 + h.val, p1⟩
      ⟨Host.clampedStart S8192x16x8 S1024x16x8 hh st 2 + d, p2⟩) = f (ix4 b ⟨n + t.val, by omega⟩ h ⟨d, hd⟩) := by
  have e0 := Host.clampedStart_of_le hh st 0 n h0 (show n + 1024 ≤ 8192 by omega)
  have e1 := Host.clampedStart_of_le hh st 1 0 h1 (show 0 + 16 ≤ 16 by omega)
  have e2 := Host.clampedStart_of_le hh st 2 0 h2 (show 0 + 8 ≤ 8 by omega)
  have eb : b' = b := Fin.ext hb
  subst eb
  simp only [e0, e1, e2, Nat.zero_add]

/-- The key codes of the window. -/
theorem kcode (n : ℕ) (hn : n ≤ 7168) (V : Valuation τ sig (Elt Ideal)) (b : Fin 4) (hs : (V (Proc.devRef .tc main_v3) : IVec S4 32) (ix1 b) = BitVec.ofNat 32 n)
    (t : Fin 1024) (h : Fin 16) (d : Fin 128) :
    (StableHlo.after (hostOps1_2 (F := Ideal)) V (Proc.devRef .tc main_v83) : IVec S4x1024x16x128 32) (ix4 b t h d) =
      if hd : d.val < 64 then IntOp.andi (BitVec.setWidth 32 ((V (Proc.devRef .tc main_arg3) : IVec S4x8192x16x64 8) (ix4 b ⟨n + t.val, by omega⟩ h ⟨d.val, hd⟩))) 15#32
      else IntOp.shrsi .host (BitVec.setWidth 32 ((V (Proc.devRef .tc main_arg3) : IVec S4x8192x16x64 8) (ix4 b ⟨n + t.val, by omega⟩ h ⟨d.val - 64, by omega⟩))) 4#32 := by
  after_reads_at
  after_reads_at
  repeat' split
  all_goals first
    | omega
    | (congr 2
       refine win64 _ n hn _ _ (by first | omega | (show (0:ℕ) = b.val; omega) | (show (1:ℕ) = b.val; omega) | (show (2:ℕ) = b.val; omega) | (show (3:ℕ) = b.val; omega)) _ _ ?_ ?_ ?_ _ _ _ _ _ _ _
       · dsimp only [Matrix.cons_val_zero, Matrix.cons_val_one, Matrix.cons_val, cast_eq]
         after_reads_at
         refine wrap_toInt n hn _ ((congrArg (fun i : Fin 4 => (V (Proc.devRef .tc main_v3) : IVec S4 32) (ix1 i)) (Fin.ext (by first | omega | (show (0:ℕ) = b.val; omega) | (show (1:ℕ) = b.val; omega) | (show (2:ℕ) = b.val; omega) | (show (3:ℕ) = b.val; omega)))).trans hs)
       · dsimp only [Matrix.cons_val_zero, Matrix.cons_val_one, Matrix.cons_val, cast_eq]
         after_reads_at
         rfl
       · dsimp only [Matrix.cons_val_zero, Matrix.cons_val_one, Matrix.cons_val, cast_eq]
         after_reads_at
         rfl)

/-- The key scales of the window. -/
theorem kscale (n : ℕ) (hn : n ≤ 7168) (V : Valuation τ sig (Elt Ideal)) (b : Fin 4) (hs : (V (Proc.devRef .tc main_v3) : IVec S4 32) (ix1 b) = BitVec.ofNat 32 n)
    (t : Fin 1024) (h : Fin 16) (d : Fin 128) :
    (StableHlo.after (hostOps1_2 (F := Ideal)) V (Proc.devRef .tc main_v86) : FVec Ideal S4x1024x16x128 .bf16) (ix4 b t h d) =
      (V (Proc.devRef .tc main_v0_0) : FVec Ideal S4x8192x16x8 .bf16) (ix4 b ⟨n + t.val, by omega⟩ h ⟨d.val % 64 / 8, by omega⟩) := by
  after_reads_at
  after_reads_at
  repeat' split
  all_goals
    refine (win8 _ n hn _ b (by first | omega | (show (0:ℕ) = b.val; omega) | (show (1:ℕ) = b.val; omega) | (show (2:ℕ) = b.val; omega) | (show (3:ℕ) = b.val; omega)) _ _ ?_ ?_ ?_ _ _ _ (by omega) _ _ _).trans ?_
    · dsimp only [Matrix.cons_val_zero, Matrix.cons_val_one, Matrix.cons_val, cast_eq]
      after_reads_at
      refine wrap_toInt n hn _ ((congrArg (fun i : Fin 4 => (V (Proc.devRef .tc main_v3) : IVec S4 32) (ix1 i)) (Fin.ext (by first | omega | (show (0:ℕ) = b.val; omega) | (show (1:ℕ) = b.val; omega) | (show (2:ℕ) = b.val; omega) | (show (3:ℕ) = b.val; omega)))).trans hs)
    · dsimp only [Matrix.cons_val_zero, Matrix.cons_val_one, Matrix.cons_val, cast_eq]
      after_reads_at
      rfl
    · dsimp only [Matrix.cons_val_zero, Matrix.cons_val_one, Matrix.cons_val, cast_eq]
      after_reads_at
      rfl
    · congr 2
      refine Fin.ext ?_
      simp only
      omega

/-- The value codes of the window. -/
theorem vcode (n : ℕ) (hn : n ≤ 7168) (V : Valuation τ sig (Elt Ideal)) (b : Fin 4) (hs : (V (Proc.devRef .tc main_v3) : IVec S4 32) (ix1 b) = BitVec.ofNat 32 n)
    (t : Fin 1024) (h : Fin 16) (d : Fin 128) :
    (StableHlo.after (hostOps1_5 (F := Ideal)) V (Proc.devRef .tc main_v186) : IVec S4x1024x16x128 32) (ix4 b t h d) =
      if hd : d.val < 64 then IntOp.andi (BitVec.setWidth 32 ((V (Proc.devRef .tc main_arg4) : IVec S4x8192x16x64 8) (ix4 b ⟨n + t.val, by omega⟩ h ⟨d.val, hd⟩))) 15#32
      else IntOp.shrsi .host (BitVec.setWidth 32 ((V (Proc.devRef .tc main_arg4) : IVec S4x8192x16x64 8) (ix4 b ⟨n + t.val, by omega⟩ h ⟨d.val - 64, by omega⟩))) 4#32 := by
  after_reads_at
  after_reads_at
  repeat' split
  all_goals first
    | omega
    | (congr 2
       refine win64 _ n hn _ _ (by first | omega | (show (0:ℕ) = b.val; omega) | (show (1:ℕ) = b.val; omega) | (show (2:ℕ) = b.val; omega) | (show (3:ℕ) = b.val; omega)) _ _ ?_ ?_ ?_ _ _ _ _ _ _ _
       · dsimp only [Matrix.cons_val_zero, Matrix.cons_val_one, Matrix.cons_val, cast_eq]
         after_reads_at
         refine wrap_toInt n hn _ ((congrArg (fun i : Fin 4 => (V (Proc.devRef .tc main_v3) : IVec S4 32) (ix1 i)) (Fin.ext (by first | omega | (show (0:ℕ) = b.val; omega) | (show (1:ℕ) = b.val; omega) | (show (2:ℕ) = b.val; omega) | (show (3:ℕ) = b.val; omega)))).trans hs)
       · dsimp only [Matrix.cons_val_zero, Matrix.cons_val_one, Matrix.cons_val, cast_eq]
         after_reads_at
         rfl
       · dsimp only [Matrix.cons_val_zero, Matrix.cons_val_one, Matrix.cons_val, cast_eq]
         after_reads_at
         rfl)

/-- The value scales of the window. -/
theorem vscale (n : ℕ) (hn : n ≤ 7168) (V : Valuation τ sig (Elt Ideal)) (b : Fin 4) (hs : (V (Proc.devRef .tc main_v3) : IVec S4 32) (ix1 b) = BitVec.ofNat 32 n)
    (t : Fin 1024) (h : Fin 16) (d : Fin 128) :
    (StableHlo.after (hostOps1_5 (F := Ideal)) V (Proc.devRef .tc main_v189) : FVec Ideal S4x1024x16x128 .bf16) (ix4 b t h d) =
      (V (Proc.devRef .tc main_v0_1) : FVec Ideal S4x8192x16x8 .bf16) (ix4 b ⟨n + t.val, by omega⟩ h ⟨d.val % 64 / 8, by omega⟩) := by
  after_reads_at
  after_reads_at
  repeat' split
  all_goals
    refine (win8 _ n hn _ b (by first | omega | (show (0:ℕ) = b.val; omega) | (show (1:ℕ) = b.val; omega) | (show (2:ℕ) = b.val; omega) | (show (3:ℕ) = b.val; omega)) _ _ ?_ ?_ ?_ _ _ _ (by omega) _ _ _).trans ?_
    · dsimp only [Matrix.cons_val_zero, Matrix.cons_val_one, Matrix.cons_val, cast_eq]
      after_reads_at
      refine wrap_toInt n hn _ ((congrArg (fun i : Fin 4 => (V (Proc.devRef .tc main_v3) : IVec S4 32) (ix1 i)) (Fin.ext (by first | omega | (show (0:ℕ) = b.val; omega) | (show (1:ℕ) = b.val; omega) | (show (2:ℕ) = b.val; omega) | (show (3:ℕ) = b.val; omega)))).trans hs)
    · dsimp only [Matrix.cons_val_zero, Matrix.cons_val_one, Matrix.cons_val, cast_eq]
      after_reads_at
      rfl
    · dsimp only [Matrix.cons_val_zero, Matrix.cons_val_one, Matrix.cons_val, cast_eq]
      after_reads_at
      rfl
    · congr 2
      refine Fin.ext ?_
      simp only
      omega

end Cert.Proof.Ref
-- ==== Proof.RefStages.lean ====
/-
  The reference's host operations, group by group: what each value the later groups need holds at an index, in terms of
  the valuation the group starts from.
-/
module
public import proofs.«01_k».proof.Proof.Gen.ReferenceIdeal.Frame
public import proofs.«01_k».proof.Proof.Spec
public import proofs.«01_k».proof.Proof.Names
public import Idealize.ShloMosaic.Lib.StableHlo.ReadAt
public import Idealize.ShloMosaic.Lib.IdealHost
public import Idealize.ShloMosaic.Lib.Pointwise
public import Idealize.ShloMosaic.PureOps.Ideal.Laws

@[expose] public section

set_option maxHeartbeats 1000000
set_option backward.isDefEq.respectTransparency.types false

noncomputable section

namespace Cert.Proof.Ref

open Cert.Proof.Attn (startW startN startN_le startW_eq)
open Cert.ReferenceIdeal Cert.ReferenceIdeal.Gen
open Idealize.ShloMosaic Idealize.ShloMosaic.TcCoe Idealize.ShloMosaic.Tactic

variable (V : Valuation τ sig (Elt Ideal))

theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- The window's start. -/
theorem start_at (b : Fin 4) :
    (StableHlo.after (hostOps1_1 (F := Ideal)) (StableHlo.after (hostOps1 (F := Ideal)) V) (Proc.devRef .tc main_v3) : IVec S4 32) (ix1 b)
      = startW ((V (Proc.devRef .tc main_arg9) : IVec S4 32) (ix1 b)) := by
  rw [← after_append]
  after_reads_at
  rfl

/-- The magnitude bits of the key codes. -/
theorem kmag (i : S4x1024x16x128.Idx) :
    (StableHlo.after (hostOps1_4 (F := Ideal)) (StableHlo.after (hostOps1_3 (F := Ideal)) (StableHlo.after (hostOps1_2 (F := Ideal)) V)) (Proc.devRef .tc main_v98) : IVec S4x1024x16x128 32) i
      = magBits ((StableHlo.after (hostOps1_2 (F := Ideal)) V (Proc.devRef .tc main_v83) : IVec S4x1024x16x128 32) i) := by
  have e4 : ∀ W : Valuation τ sig (Elt Ideal), (StableHlo.after (hostOps1_4 (F := Ideal)) W (Proc.devRef .tc main_v98) : IVec S4x1024x16x128 32) i
      = Scalar.select ((W (Proc.devRef .tc main_v90) : IVec S4x1024x16x128 1) i) ((W (Proc.devRef .tc main_v94) : IVec S4x1024x16x128 32) i) ((W (Proc.devRef .tc main_v97) : IVec S4x1024x16x128 32) i) := by
    intro W
    after_reads_at
    rfl
  have e3 : ∀ W : Valuation τ sig (Elt Ideal), (StableHlo.after (hostOps1_3 (F := Ideal)) W (Proc.devRef .tc main_v97) : IVec S4x1024x16x128 32) i
      = Scalar.select ((W (Proc.devRef .tc main_v96) : IVec S4x1024x16x128 1) i) ((W (Proc.devRef .tc main_c_41) : IVec S_ 32) ix0) ((W (Proc.devRef .tc main_c_42) : IVec S_ 32) ix0) := by
    intro W
    after_reads_at
  rw [e4, e3, StableHlo.after_of_writes_sub _ _ hostOps1_3_writes (r := main_v90) (by decide), StableHlo.after_of_writes_sub _ _ hostOps1_3_writes (r := main_v94) (by decide)]
  unfold magBits
  have h90 : (StableHlo.after (hostOps1_2 (F := Ideal)) V (Proc.devRef .tc main_v90) : IVec S4x1024x16x128 1) i
      = IntOp.cmpi .sge (IntOp.andi ((StableHlo.after (hostOps1_2 (F := Ideal)) V (Proc.devRef .tc main_v83) : IVec S4x1024x16x128 32) i) 7#32) 2#32 := by
    after_reads_simp
    rfl
  have h94 : (StableHlo.after (hostOps1_2 (F := Ideal)) V (Proc.devRef .tc main_v94) : IVec S4x1024x16x128 32) i
      = IntOp.shli .host (IntOp.addi (IntOp.andi ((StableHlo.after (hostOps1_2 (F := Ideal)) V (Proc.devRef .tc main_v83) : IVec S4x1024x16x128 32) i) 7#32) 252#32) 6#32 := by
    after_reads_simp
    rfl
  have h96 : (StableHlo.after (hostOps1_2 (F := Ideal)) V (Proc.devRef .tc main_v96) : IVec S4x1024x16x128 1) i
      = IntOp.cmpi .eq (IntOp.andi ((StableHlo.after (hostOps1_2 (F := Ideal)) V (Proc.devRef .tc main_v83) : IVec S4x1024x16x128 32) i) 7#32) 1#32 := by
    after_reads_simp
    rfl
  have h41 : (StableHlo.after (hostOps1_2 (F := Ideal)) V (Proc.devRef .tc main_c_41) : IVec S_ 32) ix0 = 16128#32 := by
    after_reads_at
  have h42 : (StableHlo.after (hostOps1_2 (F := Ideal)) V (Proc.devRef .tc main_c_42) : IVec S_ 32) ix0 = 0#32 := by
    after_reads_at
  rw [h90, h94, h96, h41, h42]

/-- The magnitude bits of the value codes. -/
theorem vmag (i : S4x1024x16x128.Idx) :
    (StableHlo.after (hostOps1_7 (F := Ideal)) (StableHlo.after (hostOps1_6 (F := Ideal)) (StableHlo.after (hostOps1_5 (F := Ideal)) V)) (Proc.devRef .tc main_v201) : IVec S4x1024x16x128 32) i
      = magBits ((StableHlo.after (hostOps1_5 (F := Ideal)) V (Proc.devRef .tc main_v186) : IVec S4x1024x16x128 32) i) := by
  have e4 : ∀ W : Valuation τ sig (Elt Ideal), (StableHlo.after (hostOps1_7 (F := Ideal)) W (Proc.devRef .tc main_v201) : IVec S4x1024x16x128 32) i
      = Scalar.select ((W (Proc.devRef .tc main_v193) : IVec S4x1024x16x128 1) i) ((W (Proc.devRef .tc main_v197) : IVec S4x1024x16x128 32) i) ((W (Proc.devRef .tc main_v200) : IVec S4x1024x16x128 32) i) := by
    intro W
    after_reads_at
    rfl
  have e3 : ∀ W : Valuation τ sig (Elt Ideal), (StableHlo.after (hostOps1_6 (F := Ideal)) W (Proc.devRef .tc main_v200) : IVec S4x1024x16x128 32) i
      = Scalar.select ((W (Proc.devRef .tc main_v199) : IVec S4x1024x16x128 1) i) ((W (Proc.devRef .tc main_c_84) : IVec S_ 32) ix0) ((W (Proc.devRef .tc main_c_85) : IVec S_ 32) ix0) := by
    intro W
    after_reads_at
  rw [e4, e3, StableHlo.after_of_writes_sub _ _ hostOps1_6_writes (r := main_v193) (by decide), StableHlo.after_of_writes_sub _ _ hostOps1_6_writes (r := main_v197) (by decide)]
  unfold magBits
  have h90 : (StableHlo.after (hostOps1_5 (F := Ideal)) V (Proc.devRef .tc main_v193) : IVec S4x1024x16x128 1) i
      = IntOp.cmpi .sge (IntOp.andi ((StableHlo.after (hostOps1_5 (F := Ideal)) V (Proc.devRef .tc main_v186) : IVec S4x1024x16x128 32) i) 7#32) 2#32 := by
    after_reads_simp
    rfl
  have h94 : (StableHlo.after (hostOps1_5 (F := Ideal)) V (Proc.devRef .tc main_v197) : IVec S4x1024x16x128 32) i
      = IntOp.shli .host (IntOp.addi (IntOp.andi ((StableHlo.after (hostOps1_5 (F := Ideal)) V (Proc.devRef .tc main_v186) : IVec S4x1024x16x128 32) i) 7#32) 252#32) 6#32 := by
    after_reads_simp
    rfl
  have h96 : (StableHlo.after (hostOps1_5 (F := Ideal)) V (Proc.devRef .tc main_v199) : IVec S4x1024x16x128 1) i
      = IntOp.cmpi .eq (IntOp.andi ((StableHlo.after (hostOps1_5 (F := Ideal)) V (Proc.devRef .tc main_v186) : IVec S4x1024x16x128 32) i) 7#32) 1#32 := by
    after_reads_simp
    rfl
  have h41 : (StableHlo.after (hostOps1_5 (F := Ideal)) V (Proc.devRef .tc main_c_84) : IVec S_ 32) ix0 = 16128#32 := by
    after_reads_at
  have h42 : (StableHlo.after (hostOps1_5 (F := Ideal)) V (Proc.devRef .tc main_c_85) : IVec S_ 32) ix0 = 0#32 := by
    after_reads_at
  rw [h90, h94, h96, h41, h42]

/-- The keys. -/
theorem keys_at (i : S4x1024x16x128.Idx) :
    (StableHlo.after (hostOps1_5 (F := Ideal)) V (Proc.devRef .tc main_v106) : FVec Ideal S4x1024x16x128 .bf16) i
      = Ideal.ofBits .bf16 (BitVec.setWidth 16 (IntOp.ori ((V (Proc.devRef .tc main_v98) : IVec S4x1024x16x128 32) i)
          (IntOp.shli .host (IntOp.andi ((V (Proc.devRef .tc main_v83) : IVec S4x1024x16x128 32) i) 8#32) 12#32)))
        * (V (Proc.devRef .tc main_v86) : FVec Ideal S4x1024x16x128 .bf16) i := by
  after_reads_at

/-- The values. -/
theorem values_at (i : S4x1024x16x128.Idx) :
    (StableHlo.after (hostOps1_8 (F := Ideal)) V (Proc.devRef .tc main_v209) : FVec Ideal S4x1024x16x128 .bf16) i
      = Ideal.ofBits .bf16 (BitVec.setWidth 16 (IntOp.ori ((V (Proc.devRef .tc main_v201) : IVec S4x1024x16x128 32) i)
          (IntOp.shli .host (IntOp.andi ((V (Proc.devRef .tc main_v186) : IVec S4x1024x16x128 32) i) 8#32) 12#32)))
        * (V (Proc.devRef .tc main_v189) : FVec Ideal S4x1024x16x128 .bf16) i := by
  after_reads_at

/-- The window's logits before the mask. -/
theorem logits_at (b : Fin 4) (h : Fin 16) (g : Fin 8) (t : Fin 1024) :
    (StableHlo.after (hostOps1_8 (F := Ideal)) V (Proc.devRef .tc main_v218) : FVec Ideal S4x16x8x1x1024 .f32) (ix5 b h g 0 t)
      = rawLogit ((V (Proc.devRef .tc main_arg7) : FVec Ideal S_ .f32) ix0)
          (fun x => (V (Proc.devRef .tc main_arg0) : FVec Ideal S4x1x128x128 .bf16) (ix4 b 0 ⟨h.val * 8 + g.val, by omega⟩ x))
          (fun x => (V (Proc.devRef .tc main_v106) : FVec Ideal S4x1024x16x128 .bf16) (ix4 b t h ⟨x.val / 2 + 64 * (x.val % 2), by omega⟩)) := by
  unfold rawLogit
  rw [sum_even_odd]
  after_reads_at
  after_reads_at
  congr 2
  · refine Finset.sum_congr rfl fun x _ => ?_
    rw [mul_comm]
    congr 4
    omega
  · refine Finset.sum_congr rfl fun x _ => ?_
    rw [mul_comm]
    congr 4
    omega

/-- The new row's logit. -/
theorem logitN_at (b : Fin 4) (h : Fin 16) (g : Fin 8) :
    (StableHlo.after (hostOps1_8 (F := Ideal)) V (Proc.devRef .tc main_v222) : FVec Ideal S4x16x8x1x1 .f32) (ix5 b h g 0 0)
      = logitN (fun x => (V (Proc.devRef .tc main_arg0) : FVec Ideal S4x1x128x128 .bf16) (ix4 b 0 ⟨h.val * 8 + g.val, by omega⟩ x))
          (fun x => (V (Proc.devRef .tc main_arg1) : FVec Ideal S4x1x16x128 .bf16) (ix4 b 0 h x)) := by
  after_reads_at
  unfold logitN
  congr 1
  exact Finset.sum_congr rfl fun x _ => mul_comm _ _

/-- The new row is never masked. -/
theorem maskN_at : (StableHlo.after (hostOps1_8 (F := Ideal)) V (Proc.devRef .tc main_v253) : IVec S1x1 1) (ix2 0 0) = 1#1 := by
  after_reads_at
  decide

/-- The window's mask. -/
theorem mask_at (b : Fin 4) (t : Fin 1024) :
    (StableHlo.after (hostOps1_8 (F := Ideal)) V (Proc.devRef .tc main_v254) : IVec S4x1x1x1x1024 1) (ix5 b 0 0 0 t)
      = IntOp.andi (IntOp.cmpi .slt (IntOp.addi ((V (Proc.devRef .tc main_v3) : IVec S4 32) (ix1 b)) (BitVec.ofNat 32 t.val)) ((V (Proc.devRef .tc main_arg9) : IVec S4 32) (ix1 b)))
          (IntOp.cmpi .sgt (IntOp.addi ((V (Proc.devRef .tc main_v3) : IVec S4 32) (ix1 b)) (BitVec.ofNat 32 t.val))
            (IntOp.subi (IntOp.addi ((V (Proc.devRef .tc main_arg9) : IVec S4 32) (ix1 b)) 0#32) 1024#32)) := by
  after_reads_at

theorem cst91_at : (StableHlo.after (hostOps1_8 (F := Ideal)) V (Proc.devRef .tc main_cst_91) : FVec Ideal S_ .f32) ix0 = negInf := by
  after_reads_at

/-- The window's logits, masked. -/
theorem masked_at (b : Fin 4) (h : Fin 16) (g : Fin 8) (t : Fin 1024) :
    (StableHlo.after (hostOps1_9 (F := Ideal)) V (Proc.devRef .tc main_v255) : FVec Ideal S4x16x8x1x1024 .f32) (ix5 b h g 0 t)
      = Scalar.select ((V (Proc.devRef .tc main_v254) : IVec S4x1x1x1x1024 1) (ix5 b 0 0 0 t)) ((V (Proc.devRef .tc main_v218) : FVec Ideal S4x16x8x1x1024 .f32) (ix5 b h g 0 t))
          ((V (Proc.devRef .tc main_cst_91) : FVec Ideal S_ .f32) ix0) := by
  after_reads_at
  rfl

/-- The new row's logit, masked. -/
theorem maskedN_at (b : Fin 4) (h : Fin 16) (g : Fin 8) :
    (StableHlo.after (hostOps1_11 (F := Ideal)) V (Proc.devRef .tc main_v256) : FVec Ideal S4x16x8x1x1 .f32) (ix5 b h g 0 0)
      = Scalar.select ((V (Proc.devRef .tc main_v253) : IVec S1x1 1) (ix2 0 0)) ((V (Proc.devRef .tc main_v222) : FVec Ideal S4x16x8x1x1 .f32) (ix5 b h g 0 0))
          ((V (Proc.devRef .tc main_cst_92) : FVec Ideal S_ .f32) ix0) := by
  after_reads_at
  rfl

/-- The result, from the masked logits and the values. -/
theorem out_at (b : Fin 4) (d : Fin 16384) :
    (StableHlo.after (hostOps1_12 (F := Ideal)) V (Proc.devRef .tc main_v291) : FVec Ideal S4x16384 .bf16) (ix2 b d)
      = mix (fun t => (V (Proc.devRef .tc main_v255) : FVec Ideal S4x16x8x1x1024 .f32) (ix5 b ⟨d.val / 1024, by omega⟩ ⟨d.val / 128 % 8, by omega⟩ 0 t))
          ((V (Proc.devRef .tc main_v256) : FVec Ideal S4x16x8x1x1 .f32) (ix5 b ⟨d.val / 1024, by omega⟩ ⟨d.val / 128 % 8, by omega⟩ 0 0))
          ((V (Proc.devRef .tc main_arg8) : FVec Ideal S_ .f32) ix0)
          (fun t => (V (Proc.devRef .tc main_v209) : FVec Ideal S4x1024x16x128 .bf16) (ix4 b t ⟨d.val / 1024, by omega⟩ ⟨d.val % 128 / 2 + 64 * (d.val % 128 % 2), by omega⟩))
          ((V (Proc.devRef .tc main_arg2) : FVec Ideal S4x1x16x128 .bf16) (ix4 b 0 ⟨d.val / 1024, by omega⟩ ⟨d.val % 128, by omega⟩)) := by
  after_reads_at
  after_reads_at
  simp only [fold_one, Fin.sum_univ_one]
  unfold mix top
  congr 1
  · split
    · refine Finset.sum_congr rfl fun x _ => ?_
      rw [mul_comm]
      congr 3
      refine Fin.ext ?_
      show d.val % 128 / 2 = d.val % 128 / 2 + 64 * (d.val % 128 % 2)
      omega
    · refine Finset.sum_congr rfl fun x _ => ?_
      rw [mul_comm]
      congr 3
      refine Fin.ext ?_
      show 64 + d.val % 128 / 2 = d.val % 128 / 2 + 64 * (d.val % 128 % 2)
      omega
  · exact mul_comm _ _

end Cert.Proof.Ref

end
-- ==== Proof.RefChain.lean ====
/-
  The reference's groups of host operations one after another: its result at an index as a function of the arguments
  and of the two arrays of scales.
-/
module
public import proofs.«01_k».proof.Proof.RefWindow
public import proofs.«01_k».proof.Proof.RefStages
public import proofs.«01_k».proof.Proof.Result

@[expose] public section

set_option maxHeartbeats 1000000
set_option backward.isDefEq.respectTransparency.types false

noncomputable section

namespace Cert.Proof.Ref

open Cert.Proof.Attn (startW startN startN_le startW_eq maskW)
open Cert.ReferenceIdeal Cert.ReferenceIdeal.Gen
open Idealize.ShloMosaic Idealize.ShloMosaic.TcCoe Idealize.ShloMosaic.Tactic

/-! ## The groups in order -/

abbrev W1 (V : Valuation τ sig (Elt Ideal)) := StableHlo.after (hostOps1_1 (F := Ideal)) (StableHlo.after (hostOps1 (F := Ideal)) V)
abbrev W2 (V : Valuation τ sig (Elt Ideal)) := StableHlo.after (hostOps1_2 (F := Ideal)) (W1 V)
abbrev W4 (V : Valuation τ sig (Elt Ideal)) := StableHlo.after (hostOps1_4 (F := Ideal)) (StableHlo.after (hostOps1_3 (F := Ideal)) (W2 V))
abbrev W5 (V : Valuation τ sig (Elt Ideal)) := StableHlo.after (hostOps1_5 (F := Ideal)) (W4 V)
abbrev W7 (V : Valuation τ sig (Elt Ideal)) := StableHlo.after (hostOps1_7 (F := Ideal)) (StableHlo.after (hostOps1_6 (F := Ideal)) (W5 V))
abbrev W8 (V : Valuation τ sig (Elt Ideal)) := StableHlo.after (hostOps1_8 (F := Ideal)) (W7 V)
abbrev W9 (V : Valuation τ sig (Elt Ideal)) := StableHlo.after (hostOps1_9 (F := Ideal)) (W8 V)
abbrev W10 (V : Valuation τ sig (Elt Ideal)) := StableHlo.after (hostOps1_10 (F := Ideal)) (W9 V)
abbrev W11 (V : Valuation τ sig (Elt Ideal)) := StableHlo.after (hostOps1_11 (F := Ideal)) (W10 V)
abbrev W12 (V : Valuation τ sig (Elt Ideal)) := StableHlo.after (hostOps1_12 (F := Ideal)) (W11 V)

/-! Each stretch unfolded by one group. -/
theorem W2_eq (V : Valuation τ sig (Elt Ideal)) : W2 V = StableHlo.after (hostOps1_2 (F := Ideal)) (W1 V) := rfl
theorem W4_eq (V : Valuation τ sig (Elt Ideal)) : W4 V = StableHlo.after (hostOps1_4 (F := Ideal)) (StableHlo.after (hostOps1_3 (F := Ideal)) (W2 V)) := rfl
theorem W5_eq (V : Valuation τ sig (Elt Ideal)) : W5 V = StableHlo.after (hostOps1_5 (F := Ideal)) (W4 V) := rfl
theorem W7_eq (V : Valuation τ sig (Elt Ideal)) : W7 V = StableHlo.after (hostOps1_7 (F := Ideal)) (StableHlo.after (hostOps1_6 (F := Ideal)) (W5 V)) := rfl
theorem W8_eq (V : Valuation τ sig (Elt Ideal)) : W8 V = StableHlo.after (hostOps1_8 (F := Ideal)) (W7 V) := rfl
theorem W9_eq (V : Valuation τ sig (Elt Ideal)) : W9 V = StableHlo.after (hostOps1_9 (F := Ideal)) (W8 V) := rfl
theorem W11_eq (V : Valuation τ sig (Elt Ideal)) : W11 V = StableHlo.after (hostOps1_11 (F := Ideal)) (W10 V) := rfl
theorem W12_eq (V : Valuation τ sig (Elt Ideal)) : W12 V = StableHlo.after (hostOps1_12 (F := Ideal)) (W11 V) := rfl

section Keep
variable {r : Ref sig .tc} (V : Valuation τ sig (Elt Ideal))

theorem keep1 (h : r ∉ hostOps1_W ∧ r ∉ hostOps1_1_W) : W1 V (Proc.devRef .tc r) = V (Proc.devRef .tc r) :=
  (StableHlo.after_of_writes_sub _ _ hostOps1_1_writes h.2).trans (StableHlo.after_of_writes_sub _ _ hostOps1_writes h.1)
theorem keep2 (h : r ∉ hostOps1_2_W) : W2 V (Proc.devRef .tc r) = W1 V (Proc.devRef .tc r) := StableHlo.after_of_writes_sub _ _ hostOps1_2_writes h
theorem keep4 (h : r ∉ hostOps1_3_W ∧ r ∉ hostOps1_4_W) : W4 V (Proc.devRef .tc r) = W2 V (Proc.devRef .tc r) :=
  (StableHlo.after_of_writes_sub _ _ hostOps1_4_writes h.2).trans (StableHlo.after_of_writes_sub _ _ hostOps1_3_writes h.1)
theorem keep5 (h : r ∉ hostOps1_5_W) : W5 V (Proc.devRef .tc r) = W4 V (Proc.devRef .tc r) := StableHlo.after_of_writes_sub _ _ hostOps1_5_writes h
theorem keep7 (h : r ∉ hostOps1_6_W ∧ r ∉ hostOps1_7_W) : W7 V (Proc.devRef .tc r) = W5 V (Proc.devRef .tc r) :=
  (StableHlo.after_of_writes_sub _ _ hostOps1_7_writes h.2).trans (StableHlo.after_of_writes_sub _ _ hostOps1_6_writes h.1)
theorem keep8 (h : r ∉ hostOps1_8_W) : W8 V (Proc.devRef .tc r) = W7 V (Proc.devRef .tc r) := StableHlo.after_of_writes_sub _ _ hostOps1_8_writes h
theorem keep10 (h : r ∉ hostOps1_9_W ∧ r ∉ hostOps1_10_W) : W10 V (Proc.devRef .tc r) = W8 V (Proc.devRef .tc r) :=
  (StableHlo.after_of_writes_sub _ _ hostOps1_10_writes h.2).trans (StableHlo.after_of_writes_sub _ _ hostOps1_9_writes h.1)
theorem keep11 (h : r ∉ hostOps1_11_W) : W11 V (Proc.devRef .tc r) = W10 V (Proc.devRef .tc r) := StableHlo.after_of_writes_sub _ _ hostOps1_11_writes h
theorem keep9to11 (h : r ∉ hostOps1_10_W ∧ r ∉ hostOps1_11_W) : W11 V (Proc.devRef .tc r) = W9 V (Proc.devRef .tc r) :=
  (StableHlo.after_of_writes_sub _ _ hostOps1_11_writes h.2).trans (StableHlo.after_of_writes_sub _ _ hostOps1_10_writes h.1)

end Keep

variable (V : Valuation τ sig (Elt Ideal))

/-- The buffers the groups only read. -/
abbrev b0 : FVec Ideal S4x1x128x128 .bf16 := V (Proc.devRef .tc main_arg0)
abbrev b1 : FVec Ideal S4x1x16x128 .bf16 := V (Proc.devRef .tc main_arg1)
abbrev b2 : FVec Ideal S4x1x16x128 .bf16 := V (Proc.devRef .tc main_arg2)
abbrev b3 : IVec S4x8192x16x64 8 := V (Proc.devRef .tc main_arg3)
abbrev b4 : IVec S4x8192x16x64 8 := V (Proc.devRef .tc main_arg4)
abbrev b5 : FVec Ideal S4x8192x16x8 .bf16 := V (Proc.devRef .tc main_v0_0)
abbrev b6 : FVec Ideal S4x8192x16x8 .bf16 := V (Proc.devRef .tc main_v0_1)
abbrev b7 : FVec Ideal S_ .f32 := V (Proc.devRef .tc main_arg7)
abbrev b8 : FVec Ideal S_ .f32 := V (Proc.devRef .tc main_arg8)
abbrev b9 : IVec S4 32 := V (Proc.devRef .tc main_arg9)

/-- The window's start, at the groups that use it. -/
theorem start1 (b : Fin 4) : (W1 V (Proc.devRef .tc main_v3) : IVec S4 32) (ix1 b) = BitVec.ofNat 32 (startN (b9 V (ix1 b))) :=
  (start_at V b).trans (startW_eq _)
theorem start4 (b : Fin 4) : (W4 V (Proc.devRef .tc main_v3) : IVec S4 32) (ix1 b) = BitVec.ofNat 32 (startN (b9 V (ix1 b))) := by
  rw [keep4 V (by decide), keep2 V (by decide), start1]
theorem start7 (b : Fin 4) : (W7 V (Proc.devRef .tc main_v3) : IVec S4 32) (ix1 b) = BitVec.ofNat 32 (startN (b9 V (ix1 b))) := by
  rw [keep7 V (by decide), keep5 V (by decide), start4]

/-- The code at the place of dimension `x`. -/
theorem code_nib (x : Fin 128) (f : Fin 64 → BitVec 8) :
    (if hd : (⟨x.val / 2 + 64 * (x.val % 2), by omega⟩ : Fin 128).val < 64 then IntOp.andi (BitVec.setWidth 32 (f ⟨x.val / 2 + 64 * (x.val % 2), hd⟩)) 15#32
      else IntOp.shrsi .host (BitVec.setWidth 32 (f ⟨x.val / 2 + 64 * (x.val % 2) - 64, by omega⟩)) 4#32) = nib x.val (f ⟨x.val / 2, by omega⟩) := by
  unfold nib
  by_cases h : x.val % 2 < 1
  · rw [if_pos h, dif_pos (show x.val / 2 + 64 * (x.val % 2) < 64 by omega)]
    congr 4
    omega
  · rw [if_neg h, dif_neg (show ¬ x.val / 2 + 64 * (x.val % 2) < 64 by omega)]
    congr 4
    omega

/-- The dequantized keys. -/
theorem key (b : Fin 4) (t : Fin 1024) (h : Fin 16) (x : Fin 128) :
    (W7 V (Proc.devRef .tc main_v106) : FVec Ideal S4x1024x16x128 .bf16) (ix4 b t h ⟨x.val / 2 + 64 * (x.val % 2), by omega⟩)
      = cached (fun b p h i => b3 V (ix4 b p h i)) (fun b p h i => b5 V (ix4 b p h i)) (startN (b9 V (ix1 b)) + t.val) b h x := by
  have hn := startN_le (b9 V (ix1 b))
  have hr : (⟨startN (b9 V (ix1 b)) + t.val, by omega⟩ : Fin 8192) = ⟨(startN (b9 V (ix1 b)) + t.val) % 8192, Nat.mod_lt _ (by decide)⟩ :=
    Fin.ext (by show startN (b9 V (ix1 b)) + t.val = (startN (b9 V (ix1 b)) + t.val) % 8192; omega)
  rw [keep7 V (by decide), W5_eq, keys_at, keep4 V (r := main_v83) (by decide), keep4 V (r := main_v86) (by decide), W4_eq, W2_eq, kmag,
    kcode _ hn (W1 V) b (start1 V b), kscale _ hn (W1 V) b (start1 V b), keep1 V (r := main_arg3) (by decide), keep1 V (r := main_v0_0) (by decide), hr]
  rw [code_nib x fun i => b3 V (ix4 b ⟨(startN (b9 V (ix1 b)) + t.val) % 8192, Nat.mod_lt _ (by decide)⟩ h i)]
  unfold cached decode
  congr 2
  congr 1
  refine Fin.ext ?_
  show (x.val / 2 + 64 * (x.val % 2)) % 64 / 8 = x.val / 16
  rw [show (x.val / 2 + 64 * (x.val % 2)) % 64 = x.val / 2 by rw [Nat.add_mul_mod_self_left]; omega]
  omega

/-- The dequantized values. -/
theorem value (b : Fin 4) (t : Fin 1024) (h : Fin 16) (x : Fin 128) :
    (W8 V (Proc.devRef .tc main_v209) : FVec Ideal S4x1024x16x128 .bf16) (ix4 b t h ⟨x.val / 2 + 64 * (x.val % 2), by omega⟩)
      = cached (fun b p h i => b4 V (ix4 b p h i)) (fun b p h i => b6 V (ix4 b p h i)) (startN (b9 V (ix1 b)) + t.val) b h x := by
  have hn := startN_le (b9 V (ix1 b))
  have hr : (⟨startN (b9 V (ix1 b)) + t.val, by omega⟩ : Fin 8192) = ⟨(startN (b9 V (ix1 b)) + t.val) % 8192, Nat.mod_lt _ (by decide)⟩ :=
    Fin.ext (by show startN (b9 V (ix1 b)) + t.val = (startN (b9 V (ix1 b)) + t.val) % 8192; omega)
  rw [W8_eq, values_at, keep7 V (r := main_v186) (by decide), keep7 V (r := main_v189) (by decide), W7_eq, W5_eq, vmag,
    vcode _ hn (W4 V) b (start4 V b), vscale _ hn (W4 V) b (start4 V b), keep4 V (r := main_arg4) (by decide), keep4 V (r := main_v0_1) (by decide),
    keep2 V (r := main_arg4) (by decide), keep2 V (r := main_v0_1) (by decide), keep1 V (r := main_arg4) (by decide), keep1 V (r := main_v0_1) (by decide), hr]
  rw [code_nib x fun i => b4 V (ix4 b ⟨(startN (b9 V (ix1 b)) + t.val) % 8192, Nat.mod_lt _ (by decide)⟩ h i)]
  unfold cached decode
  congr 2
  congr 1
  refine Fin.ext ?_
  show (x.val / 2 + 64 * (x.val % 2)) % 64 / 8 = x.val / 16
  rw [show (x.val / 2 + 64 * (x.val % 2)) % 64 = x.val / 2 by rw [Nat.add_mul_mod_self_left]; omega]
  omega

/-- What the groups before the logits leave unwritten. -/
theorem keepTo7 {r : Ref sig .tc} (h : (r ∉ hostOps1_6_W ∧ r ∉ hostOps1_7_W) ∧ r ∉ hostOps1_5_W ∧ (r ∉ hostOps1_3_W ∧ r ∉ hostOps1_4_W) ∧ r ∉ hostOps1_2_W ∧ r ∉ hostOps1_W ∧ r ∉ hostOps1_1_W) :
    W7 V (Proc.devRef .tc r) = V (Proc.devRef .tc r) := by
  rw [keep7 V h.1, keep5 V h.2.1, keep4 V h.2.2.1, keep2 V h.2.2.2.1, keep1 V h.2.2.2.2]

/-- The mask. -/
theorem mask (b : Fin 4) (t : Fin 1024) :
    (W8 V (Proc.devRef .tc main_v254) : IVec S4x1x1x1x1024 1) (ix5 b 0 0 0 t) = maskW (b9 V (ix1 b)) (startN (b9 V (ix1 b)) + t.val) := by
  rw [W8_eq, mask_at, start7, keepTo7 V (r := main_arg9) (by decide)]
  unfold maskW
  have e1 : IntOp.addi (BitVec.ofNat 32 (startN (b9 V (ix1 b)))) (BitVec.ofNat 32 t.val) = BitVec.ofNat 32 (startN (b9 V (ix1 b)) + t.val) :=
    (BitVec.ofNat_add _ _).symm
  have e2 : IntOp.addi (b9 V (ix1 b)) 0#32 = b9 V (ix1 b) := BitVec.add_zero _
  rw [e1, e2]

/-- The reference's result, from what the host operations find. -/
theorem chain_at (b : Fin 4) (d : Fin 16384) :
    (W12 V (Proc.devRef .tc main_v291) : FVec Ideal S4x16384 .bf16) (ix2 b d)
      = resAt (b9 V (ix1 b)) (fun x => b0 V (ix4 b 0 ⟨d.val / 128, by omega⟩ x))
          (fun x => b1 V (ix4 b 0 ⟨d.val / 1024, by omega⟩ x)) (b2 V (ix4 b 0 ⟨d.val / 1024, by omega⟩ ⟨d.val % 128, by omega⟩))
          (fun b p h i => b3 V (ix4 b p h i)) (fun b p h i => b4 V (ix4 b p h i)) (fun b p h i => b5 V (ix4 b p h i)) (fun b p h i => b6 V (ix4 b p h i))
          (b7 V ix0) (b8 V ix0) b ⟨d.val / 1024, by omega⟩ ⟨d.val % 128, by omega⟩ := by
  have hq : (⟨(⟨d.val / 1024, by omega⟩ : Fin 16).val * 8 + (⟨d.val / 128 % 8, by omega⟩ : Fin 8).val, by show d.val / 1024 * 8 + d.val / 128 % 8 < 128; omega⟩ : Fin 128) = ⟨d.val / 128, by omega⟩ :=
    Fin.ext (by show d.val / 1024 * 8 + d.val / 128 % 8 = d.val / 128; omega)
  have es : ∀ t : Fin 1024, (W11 V (Proc.devRef .tc main_v255) : FVec Ideal S4x16x8x1x1024 .f32) (ix5 b ⟨d.val / 1024, by omega⟩ ⟨d.val / 128 % 8, by omega⟩ 0 t)
      = logit (b7 V ix0) (fun x => b0 V (ix4 b 0 ⟨d.val / 128, by omega⟩ x))
          (fun x => cached (fun b p h i => b3 V (ix4 b p h i)) (fun b p h i => b5 V (ix4 b p h i)) (startN (b9 V (ix1 b)) + t.val) b ⟨d.val / 1024, by omega⟩ x)
          (maskW (b9 V (ix1 b)) (startN (b9 V (ix1 b)) + t.val)) := by
    intro t
    rw [keep9to11 V (by decide), W9_eq, masked_at, mask, W8_eq, cst91_at, logits_at, hq, keepTo7 V (r := main_arg7) (by decide), keepTo7 V (r := main_arg0) (by decide),
      funext fun x => key V b t ⟨d.val / 1024, by omega⟩ x]
    rfl
  have en : (W11 V (Proc.devRef .tc main_v256) : FVec Ideal S4x16x8x1x1 .f32) (ix5 b ⟨d.val / 1024, by omega⟩ ⟨d.val / 128 % 8, by omega⟩ 0 0)
      = logitN (fun x => b0 V (ix4 b 0 ⟨d.val / 128, by omega⟩ x)) (fun x => b1 V (ix4 b 0 ⟨d.val / 1024, by omega⟩ x)) := by
    rw [W11_eq, maskedN_at, keep10 V (r := main_v253) (by decide), keep10 V (r := main_v222) (by decide), W8_eq, maskN_at, logitN_at, hq,
      keepTo7 V (r := main_arg0) (by decide), keepTo7 V (r := main_arg1) (by decide)]
    rfl
  have ev : ∀ t : Fin 1024, (W11 V (Proc.devRef .tc main_v209) : FVec Ideal S4x1024x16x128 .bf16) (ix4 b t ⟨d.val / 1024, by omega⟩ ⟨d.val % 128 / 2 + 64 * (d.val % 128 % 2), by omega⟩)
      = cached (fun b p h i => b4 V (ix4 b p h i)) (fun b p h i => b6 V (ix4 b p h i)) (startN (b9 V (ix1 b)) + t.val) b ⟨d.val / 1024, by omega⟩ ⟨d.val % 128, by omega⟩ := by
    intro t
    rw [keep11 V (by decide), keep10 V (by decide)]
    exact value V b t ⟨d.val / 1024, by omega⟩ ⟨d.val % 128, by omega⟩
  rw [W12_eq, out_at, funext es, en, funext ev, keep11 V (r := main_arg8) (by decide), keep10 V (r := main_arg8) (by decide), keep8 V (r := main_arg8) (by decide), keepTo7 V (r := main_arg8) (by decide),
    keep11 V (r := main_arg2) (by decide), keep10 V (r := main_arg2) (by decide), keep8 V (r := main_arg2) (by decide), keepTo7 V (r := main_arg2) (by decide)]
  rfl

end Cert.Proof.Ref

end

end
-- ==== Proof.RefRun.lean ====
/-
  The reference's result after its run: the kernel it starts with only changes the format of the two arrays of scales,
  which in extended reals changes nothing, and the host operations after it compute `resAt`.
-/
module
public import proofs.«01_k».proof.Proof.RefChain
public import Idealize.ShloMosaic.Lib.Pipeline.ValueKit.Geometry
public import Idealize.ShloMosaic.Lib.Pipeline.ValueKit.Acc

@[expose] public section

set_option backward.isDefEq.respectTransparency.types false

noncomputable section

namespace Cert.Proof.Ref

open Cert.ReferenceIdeal Cert.ReferenceIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The arguments, on device `c`. -/
abbrev a0 : FVec Ideal S4x1x128x128 .bf16 := m ((c.tc : Thread nD τ).loc main_arg0)
abbrev a1 : FVec Ideal S4x1x16x128 .bf16 := m ((c.tc : Thread nD τ).loc main_arg1)
abbrev a2 : FVec Ideal S4x1x16x128 .bf16 := m ((c.tc : Thread nD τ).loc main_arg2)
abbrev a3 : IVec S4x8192x16x64 8 := m ((c.tc : Thread nD τ).loc main_arg3)
abbrev a4 : IVec S4x8192x16x64 8 := m ((c.tc : Thread nD τ).loc main_arg4)
abbrev a5 : FVec Ideal S4x8192x16x8 .fp8e4m3 := m ((c.tc : Thread nD τ).loc main_arg5)
abbrev a6 : FVec Ideal S4x8192x16x8 .fp8e4m3 := m ((c.tc : Thread nD τ).loc main_arg6)
abbrev a7 : FVec Ideal S_ .f32 := m ((c.tc : Thread nD τ).loc main_arg7)
abbrev a8 : FVec Ideal S_ .f32 := m ((c.tc : Thread nD τ).loc main_arg8)
abbrev a9 : IVec S4 32 := m ((c.tc : Thread nD τ).loc main_arg9)

theorem one_point : cfg0.N = 1 := by decide

/-- The key scales after the reference's kernel. -/
theorem kscales (i : S4x8192x16x8.Idx) : ((dats m 0 c).arrAt 2 cfg0.N : FVec Ideal S4x8192x16x8 .bf16) i = a5 m c i := by
  have e : (dats m 0 c).arrAt 2 cfg0.N = (fun i => a5 m c i : FVec Ideal S4x8192x16x8 .bf16) := by
    refine (dats m 0 c).arrAt_eq_of_after_last 2 (⟨0, by decide⟩ : Fin cfg0.N) (by decide +kernel) _ fun j => ?_
    rw [after0_2]
    frame_out
    show a5 m c (((cfg0.win 0).blk (⟨0, one_point ▸ Nat.one_pos⟩ : Fin cfg0.N)).view.emb fun a => ⟨(j a).val, _⟩) = a5 m c j
    refine congrArg (a5 m c) (funext fun a => Fin.ext ?_)
    fin_cases a
    · show (0 * 4 + 1 * (j 0).val : ℕ) = (j 0).val
      omega
    · show (0 * 8192 + 1 * (j 1).val : ℕ) = (j 1).val
      omega
    · show (0 * 16 + 1 * (j 2).val : ℕ) = (j 2).val
      omega
    · show (0 * 8 + 1 * (j 3).val : ℕ) = (j 3).val
      omega
  rw [e]

/-- The value scales after the reference's kernel. -/
theorem vscales (i : S4x8192x16x8.Idx) : ((dats m 0 c).arrAt 3 cfg0.N : FVec Ideal S4x8192x16x8 .bf16) i = a6 m c i := by
  have e : (dats m 0 c).arrAt 3 cfg0.N = (fun i => a6 m c i : FVec Ideal S4x8192x16x8 .bf16) := by
    refine (dats m 0 c).arrAt_eq_of_after_last 3 (⟨0, by decide⟩ : Fin cfg0.N) (by decide +kernel) _ fun j => ?_
    rw [after0_3]
    frame_out
    show a6 m c (((cfg0.win 1).blk (⟨0, one_point ▸ Nat.one_pos⟩ : Fin cfg0.N)).view.emb fun a => ⟨(j a).val, _⟩) = a6 m c j
    refine congrArg (a6 m c) (funext fun a => Fin.ext ?_)
    fin_cases a
    · show (0 * 4 + 1 * (j 0).val : ℕ) = (j 0).val
      omega
    · show (0 * 8192 + 1 * (j 1).val : ℕ) = (j 1).val
      omega
    · show (0 * 16 + 1 * (j 2).val : ℕ) = (j 2).val
      omega
    · show (0 * 8 + 1 * (j 3).val : ℕ) = (j 3).val
      omega
  rw [e]

/-- What the host operations after the kernel find. -/
abbrev VA : Valuation τ sig (Elt Ideal) := Pipeline.withArrays spec0 c (V0 m c) fun w => (dats m 0 c).arrAt w cfg0.N

theorem VA_of_ne (r : Ref sig .tc) (h : ∀ w, Pipeline.arrRef spec0 w ≠ r) : VA m c (Proc.devRef .tc r) = m ((c.tc : Thread nD τ).loc r) :=
  Pipeline.withArrays_of_ne _ c (V0 m c) _ r h

theorem arr_inj : Function.Injective (Pipeline.arrRef spec0) := by decide

theorem VA_k (i : S4x8192x16x8.Idx) : (VA m c (Proc.devRef .tc main_v0_0) : FVec Ideal S4x8192x16x8 .bf16) i = a5 m c i :=
  (congrFun (Pipeline.withArrays_arr spec0 arr_inj c (V0 m c) (fun w => (dats m 0 c).arrAt w cfg0.N) 2) i).trans (kscales m c i)
theorem VA_v (i : S4x8192x16x8.Idx) : (VA m c (Proc.devRef .tc main_v0_1) : FVec Ideal S4x8192x16x8 .bf16) i = a6 m c i :=
  (congrFun (Pipeline.withArrays_arr spec0 arr_inj c (V0 m c) (fun w => (dats m 0 c).arrAt w cfg0.N) 3) i).trans (vscales m c i)

/-- The reference's result over the arguments. -/
abbrev refAt (b : Fin 4) (d : Fin 16384) : EReal :=
  resAt (a9 m c (ix1 b)) (fun x => a0 m c (ix4 b 0 ⟨d.val / 128, by omega⟩ x))
    (fun x => a1 m c (ix4 b 0 ⟨d.val / 1024, by omega⟩ x)) (a2 m c (ix4 b 0 ⟨d.val / 1024, by omega⟩ ⟨d.val % 128, by omega⟩))
    (fun b p h i => a3 m c (ix4 b p h i)) (fun b p h i => a4 m c (ix4 b p h i)) (fun b p h i => a5 m c (ix4 b p h i)) (fun b p h i => a6 m c (ix4 b p h i))
    (a7 m c ix0) (a8 m c ix0) b ⟨d.val / 1024, by omega⟩ ⟨d.val % 128, by omega⟩

/-- The groups of host operations, in order. -/
abbrev groups : List (List (HloOp τ sig (Elt Ideal))) :=
  [hostOps1, hostOps1_1, hostOps1_2, hostOps1_3, hostOps1_4, hostOps1_5, hostOps1_6, hostOps1_7, hostOps1_8, hostOps1_9, hostOps1_10, hostOps1_11, hostOps1_12]

/-- The result's buffer after the run. -/
theorem result_at (b : Fin 4) (d : Fin 16384) :
    (Pipeline.afterTail₀ cfgs (dats m) 0 (V0 m) groups c main_v291 : FVec Ideal S4x16384 .bf16) (ix2 b d) = refAt m c b d := by
  unfold Pipeline.afterTail₀
  simp only [List.flatten_cons, List.flatten_nil, List.append_nil]
  iterate 12 rw [after_append]
  refine (chain_at (VA m c) b d).trans ?_
  rw [show b0 (VA m c) = a0 m c from VA_of_ne m c main_arg0 (by decide), show b1 (VA m c) = a1 m c from VA_of_ne m c main_arg1 (by decide),
    show b2 (VA m c) = a2 m c from VA_of_ne m c main_arg2 (by decide), show b3 (VA m c) = a3 m c from VA_of_ne m c main_arg3 (by decide),
    show b4 (VA m c) = a4 m c from VA_of_ne m c main_arg4 (by decide), show b5 (VA m c) = a5 m c from funext (VA_k m c),
    show b6 (VA m c) = a6 m c from funext (VA_v m c), show b7 (VA m c) = a7 m c from VA_of_ne m c main_arg7 (by decide),
    show b8 (VA m c) = a8 m c from VA_of_ne m c main_arg8 (by decide), show b9 (VA m c) = a9 m c from VA_of_ne m c main_arg9 (by decide)]

/-- @main runs, its result ends at `refAt` and its arguments as launched. -/
theorem run_ref : θ_run (defs (F := Ideal)) (onTc (τ := τ) (main (F := Ideal))) ⟨m, fun _ => 0, ρ⟩ (fun r => ∀ c : Dev nD,
      (∀ b d, (r.2.mem ((c.tc : Thread nD τ).loc main_v291) : FVec Ideal S4x16384 .bf16) (ix2 b d) = refAt m c b d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨fun b d => (congrFun ((h.1 c).2 main_v291 (Pipeline.mem_restRefs_of main_v291 (by decide) (by decide))) (ix2 b d)).trans (result_at m c b d), h.2 c⟩)
    (θ_run_and (run_main m ρ) (unchanged m ρ))

end Cert.Proof.Ref

end

end
-- ==== Proof.Algebraic.lean ====
/-
  The value claim: from memories that agree on the arguments the two programs end with equal results.
-/
module
public import proofs.«01_k».proof.Proof.KerOut
public import proofs.«01_k».proof.Proof.RefRun
public import proofs.«01_k».proof.Defs

@[expose] public section

set_option backward.isDefEq.respectTransparency.types false

noncomputable section

namespace Cert.Proof

open Idealize.ShloMosaic Idealize.ShloMosaic.TcCoe Idealize.SL.Sem

/-- Two results equal at every index. -/
theorem ext2 {α : Type} {f g : (⟨2, ![4, 16384]⟩ : Shape).Idx → α} (h : ∀ b d, f (ix2 b d) = g (ix2 b d)) : f = g := by
  funext j
  have e : j = ix2 (j 0) (j 1) := by
    funext a
    fin_cases a <;> rfl
  rw [e]
  exact h _ _

theorem algebraic : Cert.algebraic_KernelIdeal_ReferenceIdeal := by
  intro m g m' g' _ hm
  refine ⟨fun c => (Attn.dats m 0 c).arrAt 3 Cert.KernelIdeal.cfg0.N, ?_, ?_⟩
  · exact (θ_run (Cert.KernelIdeal.defs (F := Ideal)) (onTc (τ := Cert.KernelIdeal.τ) (Cert.KernelIdeal.main (F := Ideal))) ⟨m, fun _ => 0, g⟩).mono
      (fun r h c => ⟨Attn.result_of m r h.1 c, Attn.kept_of m r h.1 c⟩) (Attn.run_main m g)
  · refine (θ_run (Cert.ReferenceIdeal.defs (F := Ideal)) (onTc (τ := Cert.ReferenceIdeal.τ) (Cert.ReferenceIdeal.main (F := Ideal))) ⟨m', fun _ => 0, g'⟩).mono
      (fun r h c => ⟨?_, (h c).2⟩) (Ref.run_ref m' g')
    refine ext2 fun b d => ((h c).1 b d).trans ((Attn.result_at m c b d).trans ?_).symm
    obtain ⟨h0, h1, h2, h3, h4, h5, h6, h7, h8, h9⟩ := hm c
    unfold Attn.kerAt Ref.refAt
    rw [show Ref.a0 m' c = Attn.a0 m c from h0, show Ref.a1 m' c = Attn.a1 m c from h1, show Ref.a2 m' c = Attn.a2 m c from h2, show Ref.a3 m' c = Attn.a3 m c from h3,
      show Ref.a4 m' c = Attn.a4 m c from h4, show Ref.a5 m' c = Attn.a5 m c from h5, show Ref.a6 m' c = Attn.a6 m c from h6, show Ref.a7 m' c = Attn.a7 m c from h7,
      show Ref.a8 m' c = Attn.a8 m c from h8, show Ref.a9 m' c = Attn.a9 m c from h9]

end Cert.Proof

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frames
public import proofs.«01_k».proof.Proof.Algebraic

@[expose] public section

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts,
  fun m ρ _ => by
    have h := Attn.frame (F := Bits) m ρ
    rw [← Attn.run_eq] at h
    exact h,
  fun m ρ _ => Attn.frame m ρ,
  fun m ρ _ => Cert.ReferenceIdeal.Gen.frame m ρ,
  trivial,
  algebraic⟩

end Cert.Proof

end
